-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_aligned [hPre_aligned : Cert.Pre_aligned.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_aligned.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_aligned [hPre_aligned : Cert.Pre_aligned.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_aligned.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_aligned [hKernel2Ideal : Cert.Kernel2Ideal.Facts] [hPre_aligned : Cert.Pre_aligned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_aligned m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_aligned [hReference2Ideal : Cert.Reference2Ideal.Facts] [hPre_aligned : Cert.Pre_aligned.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_aligned m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_aligned [hKernel2Ideal : Cert.Kernel2Ideal.Facts] [hReference2Ideal : Cert.Reference2Ideal.Facts] [hPre_aligned : Cert.Pre_aligned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_aligned m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v46)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v293) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_aligned : Cert.Pre_aligned.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_aligned (hKernel2Ideal := hKernel2Ideal) (hPre_aligned := hPre_aligned)
    ∧ quiescent_Reference2Ideal (hReference2Ideal := hReference2Ideal)
    ∧ quiescent_Reference2Ideal_pre_aligned (hReference2Ideal := hReference2Ideal) (hPre_aligned := hPre_aligned)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_aligned (hKernel2Ideal := hKernel2Ideal) (hReference2Ideal := hReference2Ideal) (hPre_aligned := hPre_aligned)
-- ==== Pre_aligned.lean ====
abbrev S24 : Shape := ⟨1, ![24]⟩
abbrev S38912x1152 : Shape := ⟨2, ![38912, 1152]⟩
abbrev S16x1024x512 : Shape := ⟨3, ![16, 1024, 512]⟩
abbrev S16x512x1024 : Shape := ⟨3, ![16, 512, 1024]⟩
abbrev S_ : Shape := ⟨0, ![]⟩

class Facts : Prop where
  bcast_S_S24 : S_.BroadcastsInDim S24 (![] : Fin 0 → Fin S24.rank)

variable [Facts]

def fn {F : FTy → Type} [FloatOps F] (main_arg0 : IVec S24 32) (main_arg1 : FVec F S38912x1152 .f32) (main_arg2 : FVec F S16x1024x512 .f32) (main_arg3 : FVec F S16x1024x512 .f32) (main_arg4 : FVec F S16x512x1024 .f32) : IVec S24 1 :=
  let main_c : IVec S_ 32 := constantI S_ 32 255#32
  let main_v0 : IVec S24 32 := broadcastInDim S24 ![] bcast_S_S24 main_c
  let main_v1 : IVec S24 32 := andi main_arg0 main_v0
  let main_c_0 : IVec S_ 32 := constantI S_ 32 0#32
  let main_v2 : IVec S24 32 := broadcastInDim S24 ![] bcast_S_S24 main_c_0
  let main_v3 : IVec S24 1 := cmpi .eq main_v1 main_v2
  main_v3
-- ==== Pre_finite.lean ====
abbrev S8x4096x6656 : Shape := ⟨3, ![8, 4096, 6656]⟩
abbrev S8x257 : Shape := ⟨2, ![8, 257]⟩
abbrev S8x4096x1024 : Shape := ⟨3, ![8, 4096, 1024]⟩
abbrev S_ : Shape := ⟨0, ![]⟩

class Facts : Prop where
  slices_S8x4096x6656_S8x4096x1024_0_0_0 : S8x4096x6656.Slices ![0, 0, 0] S8x4096x1024
  bcast_S_S8x4096x1024 : S_.BroadcastsInDim S8x4096x1024 (![] : Fin 0 → Fin S8x4096x1024.rank)
  bcast_S_S8x257 : S_.BroadcastsInDim S8x257 (![] : Fin 0 → Fin S8x257.rank)

variable [Facts]

def fn {F : FTy → Type} [FloatOps F] (main_arg0 : FVec F S8x4096x6656 .f32) (main_arg1 : FVec F S8x257 .f32) : IVec S8x4096x1024 1 × IVec S8x257 1 :=
  let main_v0 : FVec F S8x4096x1024 .f32 := (extractStridedSlice S8x4096x1024 ![0, 0, 0] · slices_S8x4096x6656_S8x4096x1024_0_0_0) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_v4 : FVec F S8x257 .f32 := Host.absf main_arg1
  let main_cst_0 : FVec F S_ .f32 := constant S_ .f32 0x7F800000#32
  let main_v5 : FVec F S8x257 .f32 := broadcastInDim S8x257 ![] bcast_S_S8x257 main_cst_0
  let main_v6 : IVec S8x257 1 := cmpf .olt main_v4 main_v5
  (main_v3, main_v6)
-- ==== Kernel.lean ====
abbrev S8x4096x6656 : Shape := ⟨3, ![8, 4096, 6656]⟩
abbrev S8x257 : Shape := ⟨2, ![8, 257]⟩
abbrev S_ : Shape := ⟨0, ![]⟩
abbrev S8x4096x3072 : Shape := ⟨3, ![8, 4096, 3072]⟩
abbrev S8x4096x512 : Shape := ⟨3, ![8, 4096, 512]⟩
abbrev S32768x6656 : Shape := ⟨2, ![32768, 6656]⟩
abbrev S8x1 : Shape := ⟨2, ![8, 1]⟩
abbrev S8x639 : Shape := ⟨2, ![8, 639]⟩
abbrev S8x128 : Shape := ⟨2, ![8, 128]⟩
abbrev S8x1024 : Shape := ⟨2, ![8, 1024]⟩
abbrev S8x769 : Shape := ⟨2, ![8, 769]⟩
abbrev S8x255 : Shape := ⟨2, ![8, 255]⟩
abbrev S8x1x1024 : Shape := ⟨3, ![8, 1, 1024]⟩
abbrev S8x256x1024 : Shape := ⟨3, ![8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S256 : Shape := ⟨1, ![256]⟩
abbrev S768 : Shape := ⟨1, ![768]⟩
abbrev S256x1 : Shape := ⟨2, ![256, 1]⟩
abbrev S1x768 : Shape := ⟨2, ![1, 768]⟩
abbrev S256x768 : Shape := ⟨2, ![256, 768]⟩
abbrev S1x256x768 : Shape := ⟨3, ![1, 256, 768]⟩
abbrev S1x8x256x768 : Shape := ⟨4, ![1, 8, 256, 768]⟩
abbrev S3x8x256x768 : Shape := ⟨4, ![3, 8, 256, 768]⟩
abbrev S3x4x512x768 : Shape := ⟨4, ![3, 4, 512, 768]⟩
abbrev S32768x512 : Shape := ⟨2, ![32768, 512]⟩
abbrev S512x512 : Shape := ⟨2, ![512, 512]⟩
abbrev S256x512 : Shape := ⟨2, ![256, 512]⟩
abbrev S1x4x512x768 : Shape := ⟨4, ![1, 4, 512, 768]⟩
abbrev S256x128 : Shape := ⟨2, ![256, 128]⟩
abbrev S768x128 : Shape := ⟨2, ![768, 128]⟩
abbrev S512x128 : Shape := ⟨2, ![512, 128]⟩
abbrev S512x768 : Shape := ⟨2, ![512, 768]⟩
abbrev S1x1x512x768 : Shape := ⟨4, ![1, 1, 512, 768]⟩
abbrev S512 : Shape := ⟨1, ![512]⟩
abbrev S512x1 : Shape := ⟨2, ![512, 1]⟩

abbrev nBuf : Space → Nat
  | .hbm => 132
  | .vmem => 24
  | .smem => 0
  | _ => 0

abbrev hbmTy0_0 (i : Nat) : BufTy := match i % 128 with
  | 0 => ⟨S8x4096x6656, .f32⟩
  | 1 => ⟨S8x257, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S8x4096x3072, .f32⟩
  | 9 => ⟨S_, .f32⟩
  | 10 => ⟨S8x4096x3072, .f32⟩
  | 11 => ⟨S8x4096x3072, .f32⟩
  | 12 => ⟨S8x4096x512, .f32⟩
  | 13 => ⟨S8x4096x512, .f32⟩
  | 14 => ⟨S8x4096x512, .f32⟩
  | 15 => ⟨S8x4096x3072, .f32⟩
  | 16 => ⟨S8x4096x6656, .f32⟩
  | 17 => ⟨S8x4096x6656, .bf16⟩
  | 18 => ⟨S32768x6656, .bf16⟩
  | 19 => ⟨S_, .f32⟩
  | 20 => ⟨S_, .f32⟩
  | 21 => ⟨S_, .f32⟩
  | 22 => ⟨S_, .f32⟩
  | 23 => ⟨S8x257, .f32⟩
  | 24 => ⟨S8x257, .f32⟩
  | 25 => ⟨S8x1, .f32⟩
  | 26 => ⟨S8x639, .f32⟩
  | 27 => ⟨S8x257, .f32⟩
  | 28 => ⟨S8x1, .f32⟩
  | 29 => ⟨S8x128, .f32⟩
  | 30 => ⟨S8x1024, .f32⟩
  | 31 => ⟨S8x769, .f32⟩
  | 32 => ⟨S8x255, .f32⟩
  | 33 => ⟨S8x1024, .f32⟩
  | 34 => ⟨S8x1x1024, .f32⟩
  | 35 => ⟨S8x256x1024, .f32⟩
  | 36 => ⟨S8x262144, .f32⟩
  | 37 => ⟨S8x261888, .f32⟩
  | 38 => ⟨S8x256x1023, .f32⟩
  | 39 => ⟨S8x256x768, .f32⟩
  | 40 => ⟨S256, .i32⟩
  | 41 => ⟨S768, .i32⟩
  | 42 => ⟨S_, .i32⟩
  | 43 => ⟨S_, .i32⟩
  | 44 => ⟨S256, .i32⟩
  | 45 => ⟨S256, .i32⟩
  | 46 => ⟨S256, .i32⟩
  | 47 => ⟨S_, .i32⟩
  | 48 => ⟨S256, .i32⟩
  | 49 => ⟨S256, .i1⟩
  | 50 => ⟨S256, .i32⟩
  | 51 => ⟨S256, .i32⟩
  | 52 => ⟨S_, .i32⟩
  | 53 => ⟨S256, .i32⟩
  | 54 => ⟨S256, .i1⟩
  | 55 => ⟨S256, .i1⟩
  | 56 => ⟨S_, .i32⟩
  | 57 => ⟨S256, .i32⟩
  | 58 => ⟨S256, .i32⟩
  | 59 => ⟨S256, .i32⟩
  | 60 => ⟨S256x1, .i32⟩
  | 61 => ⟨S_, .i32⟩
  | 62 => ⟨S_, .i32⟩
  | 63 => ⟨S768, .i32⟩
  | 64 => ⟨S768, .i32⟩
  | 65 => ⟨S768, .i32⟩
  | 66 => ⟨S_, .i32⟩
  | 67 => ⟨S768, .i32⟩
  | 68 => ⟨S768, .i1⟩
  | 69 => ⟨S768, .i32⟩
  | 70 => ⟨S768, .i32⟩
  | 71 => ⟨S_, .i32⟩
  | 72 => ⟨S768, .i32⟩
  | 73 => ⟨S768, .i1⟩
  | 74 => ⟨S768, .i1⟩
  | 75 => ⟨S_, .i32⟩
  | 76 => ⟨S768, .i32⟩
  | 77 => ⟨S768, .i32⟩
  | 78 => ⟨S768, .i32⟩
  | 79 => ⟨S1x768, .i32⟩
  | 80 => ⟨S256x768, .i32⟩
  | 81 => ⟨S256x768, .i32⟩
  | 82 => ⟨S256x768, .i1⟩
  | 83 => ⟨S_, .i32⟩
  | 84 => ⟨S256x1, .i32⟩
  | 85 => ⟨S256x1, .i32⟩
  | 86 => ⟨S256x768, .i32⟩
  | 87 => ⟨S256x768, .i32⟩
  | 88 => ⟨S256x768, .i1⟩
  | 89 => ⟨S256x768, .i1⟩
  | 90 => ⟨S1x768, .i32⟩
  | 91 => ⟨S_, .i32⟩
  | 92 => ⟨S1x768, .i32⟩
  | 93 => ⟨S1x768, .i1⟩
  | 94 => ⟨S256x768, .i1⟩
  | 95 => ⟨S256x768, .i1⟩
  | 96 => ⟨S1x256x768, .i1⟩
  | 97 => ⟨S_, .f32⟩
  | 98 => ⟨S_, .f32⟩
  | 99 => ⟨S8x256x768, .i1⟩
  | 100 => ⟨S8x256x768, .f32⟩
  | 101 => ⟨S8x256x768, .f32⟩
  | 102 => ⟨S1x768, .i32⟩
  | 103 => ⟨S_, .i32⟩
  | 104 => ⟨S1x768, .i32⟩
  | 105 => ⟨S1x768, .i1⟩
  | 106 => ⟨S256x768, .i1⟩
  | 107 => ⟨S256x768, .i1⟩
  | 108 => ⟨S1x256x768, .i1⟩
  | 109 => ⟨S_, .f32⟩
  | 110 => ⟨S_, .f32⟩
  | 111 => ⟨S8x256x768, .i1⟩
  | 112 => ⟨S8x256x768, .f32⟩
  | 113 => ⟨S8x256x768, .f32⟩
  | 114 => ⟨S1x768, .i32⟩
  | 115 => ⟨S_, .i32⟩
  | 116 => ⟨S1x768, .i32⟩
  | 117 => ⟨S1x768, .i1⟩
  | 118 => ⟨S256x768, .i1⟩
  | 119 => ⟨S256x768, .i1⟩
  | 120 => ⟨S1x256x768, .i1⟩
  | 121 => ⟨S_, .f32⟩
  | 122 => ⟨S_, .f32⟩
  | 123 => ⟨S8x256x768, .i1⟩
  | 124 => ⟨S8x256x768, .f32⟩
  | 125 => ⟨S8x256x768, .f32⟩
  | 126 => ⟨S1x8x256x768, .f32⟩
  | 127 => ⟨S1x8x256x768, .f32⟩
  | _ => ⟨S8x4096x6656, .f32⟩

abbrev hbmTy0_1 (i : Nat) : BufTy := match i % 128 with
  | 0 => ⟨S1x8x256x768, .f32⟩
  | 1 => ⟨S3x8x256x768, .f32⟩
  | 2 => ⟨S3x4x512x768, .f32⟩
  | 3 => ⟨S32768x512, .bf16⟩
  | _ => ⟨S8x4096x6656, .f32⟩

abbrev hbmTy (i : Nat) : BufTy := match i / 128 with
  | 0 => hbmTy0_0 i
  | 1 => hbmTy0_1 i
  | _ => ⟨S8x4096x6656, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S1x4x512x768, .f32⟩
  | .local _ .vmem, ⟨19, _⟩ => ⟨S1x4x512x768, .f32⟩
  | .local _ .vmem, ⟨20, _⟩ => ⟨S1x4x512x768, .f32⟩
  | .local _ .vmem, ⟨21, _⟩ => ⟨S1x4x512x768, .f32⟩
  | .local _ .vmem, ⟨22, _⟩ => ⟨S512x512, .bf16⟩
  | .local _ .vmem, ⟨23, _⟩ => ⟨S512x512, .bf16⟩
  | _, _ => ⟨S8x4096x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_c_6 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_c_7 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_8 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v51 : Ref sig .tc := ⟨.hbm, 101, rfl⟩
abbrev main_v52 : Ref sig .tc := ⟨.hbm, 102, rfl⟩
abbrev main_c_9 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_10 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v58 : Ref sig .tc := ⟨.hbm, 113, rfl⟩
abbrev main_v59 : Ref sig .tc := ⟨.hbm, 114, rfl⟩
abbrev main_c_11 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_cst_12 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c_m2_i32 : BitVec 32 := 4294967294#32
  let v2 : BitVec 32 := Scalar.addi v1 c_m2_i32
  let c0_i32 : BitVec 32 := 0#32
  let v3 : BitVec 32 := Scalar.maxsi v2 c0_i32
  let v4 : BitVec 32 := Scalar.addi v0 v3
  let c7_i32 : BitVec 32 := 7#32
  let c0_i32_0 : BitVec 32 := 0#32
  ![v4.toNat, c7_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c_m1_i32 : BitVec 32 := 4294967295#32
  let v2 : BitVec 32 := Scalar.addi v1 c_m1_i32
  let c0_i32 : BitVec 32 := 0#32
  let v3 : BitVec 32 := Scalar.maxsi v2 c0_i32
  let v4 : BitVec 32 := Scalar.addi v0 v3
  let c7_i32 : BitVec 32 := 7#32
  let c0_i32_0 : BitVec 32 := 0#32
  ![v4.toNat, c7_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c7_i32 : BitVec 32 := 7#32
  let c0_i32_1 : BitVec 32 := 0#32
  ![v4.toNat, c7_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c7_i32 : BitVec 32 := 7#32
  let c0_i32_0 : BitVec 32 := 0#32
  ![v4.toNat, c7_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c_m2_i32 : BitVec 32 := 4294967294#32
  let v2 : BitVec 32 := Scalar.addi v1 c_m2_i32
  let c0_i32 : BitVec 32 := 0#32
  let v3 : BitVec 32 := Scalar.maxsi v2 c0_i32
  let v4 : BitVec 32 := Scalar.addi v0 v3
  let c8_i32 : BitVec 32 := 8#32
  let c0_i32_0 : BitVec 32 := 0#32
  ![v4.toNat, c8_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c_m1_i32 : BitVec 32 := 4294967295#32
  let v2 : BitVec 32 := Scalar.addi v1 c_m1_i32
  let c0_i32 : BitVec 32 := 0#32
  let v3 : BitVec 32 := Scalar.maxsi v2 c0_i32
  let v4 : BitVec 32 := Scalar.addi v0 v3
  let c8_i32 : BitVec 32 := 8#32
  let c0_i32_0 : BitVec 32 := 0#32
  ![v4.toNat, c8_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c0_i32 : BitVec 32 := 0#32
  let v2 : BitVec 32 := Scalar.addi v1 c0_i32
  let c0_i32_0 : BitVec 32 := 0#32
  let v3 : BitVec 32 := Scalar.maxsi v2 c0_i32_0
  let v4 : BitVec 32 := Scalar.addi v0 v3
  let c8_i32 : BitVec 32 := 8#32
  let c0_i32_1 : BitVec 32 := 0#32
  ![v4.toNat, c8_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c1_i32 : BitVec 32 := 1#32
  let v2 : BitVec 32 := Scalar.addi v1 c1_i32
  let c0_i32 : BitVec 32 := 0#32
  let v3 : BitVec 32 := Scalar.maxsi v2 c0_i32
  let v4 : BitVec 32 := Scalar.addi v0 v3
  let c8_i32 : BitVec 32 := 8#32
  let c0_i32_0 : BitVec 32 := 0#32
  ![v4.toNat, c8_i32.toNat]

def cc0_transform_9 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c2_i32_0 : BitVec 32 := 2#32
  let v2 : BitVec 32 := Scalar.minsi v1 c2_i32_0
  let c0_i32_1 : BitVec 32 := 0#32
  let c0_i32_2 : BitVec 32 := 0#32
  let c0_i32_3 : BitVec 32 := 0#32
  let c0_i32_4 : BitVec 32 := 0#32
  ![v2.toNat, c0_i32_1.toNat, c0_i32_2.toNat, c0_i32_3.toNat]

def cc0_transform_10 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c2_i32_0 : BitVec 32 := 2#32
  let v2 : BitVec 32 := Scalar.minsi v1 c2_i32_0
  let c0_i32 : BitVec 32 := 0#32
  let c0_i32_1 : BitVec 32 := 0#32
  let c0_i32_2 : BitVec 32 := 0#32
  let c0_i32_3 : BitVec 32 := 0#32
  ![v2.toNat, c0_i32.toNat, c0_i32_1.toNat, c0_i32_2.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x4x512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8x4096x6656 : Shape := ⟨3, ![8, 4096, 6656]⟩
abbrev S8x257 : Shape := ⟨2, ![8, 257]⟩
abbrev S8x4096x512 : Shape := ⟨3, ![8, 4096, 512]⟩
abbrev S8x64x64x8x64 : Shape := ⟨5, ![8, 64, 64, 8, 64]⟩
abbrev S_ : Shape := ⟨0, ![]⟩
abbrev S8x72x64x8x64 : Shape := ⟨5, ![8, 72, 64, 8, 64]⟩
abbrev S8x64x576x8x64 : Shape := ⟨5, ![8, 64, 576, 8, 64]⟩
abbrev S8x8x64x64x576 : Shape := ⟨5, ![8, 8, 64, 64, 576]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x1x64x1x576 : Shape := ⟨5, ![1, 1, 64, 1, 576]⟩
abbrev S1x8x1x64x576 : Shape := ⟨5, ![1, 8, 1, 64, 576]⟩
abbrev S8x8x64x64 : Shape := ⟨4, ![8, 8, 64, 64]⟩
abbrev S8x8x64x64x1 : Shape := ⟨5, ![8, 8, 64, 64, 1]⟩
abbrev S8x64x8x64x64 : Shape := ⟨5, ![8, 64, 8, 64, 64]⟩
abbrev S32768x512 : Shape := ⟨2, ![32768, 512]⟩

abbrev nBuf : Space → Nat
  | .hbm => 125
  | .vmem => 0
  | .smem => 0
  | _ => 0

abbrev bufTy : (tb : Table) → Fin (tcTables nBuf tb) → BufTy
  | .hbm, ⟨0, _⟩ => ⟨S8x4096x6656, .f32⟩
  | .hbm, ⟨1, _⟩ => ⟨S8x257, .f32⟩
  | .hbm, ⟨2, _⟩ => ⟨S8x4096x512, .f32⟩
  | .hbm, ⟨3, _⟩ => ⟨S8x4096x512, .f32⟩
  | .hbm, ⟨4, _⟩ => ⟨S8x4096x512, .f32⟩
  | .hbm, ⟨5, _⟩ => ⟨S8x64x64x8x64, .f32⟩
  | .hbm, ⟨6, _⟩ => ⟨S8x64x64x8x64, .f32⟩
  | .hbm, ⟨7, _⟩ => ⟨S_, .i32⟩
  | .hbm, ⟨8, _⟩ => ⟨S_, .f32⟩
  | .hbm, ⟨9, _⟩ => ⟨S8x72x64x8x64, .f32⟩
  | .hbm, ⟨10, _⟩ => ⟨S8x64x64x8x64, .f32⟩
  | .hbm, ⟨11, _⟩ => ⟨S_, .i32⟩
  | .hbm, ⟨12, _⟩ => ⟨S_, .f32⟩
  | .hbm, ⟨13, _⟩ => ⟨S8x72x64x8x64, .f32⟩
  | .hbm, ⟨14, _⟩ => ⟨S8x64x64x8x64, .f32⟩
  | .hbm, ⟨15, _⟩ => ⟨S8x64x64x8x64, .f32⟩
  | .hbm, ⟨16, _⟩ => ⟨S8x64x64x8x64, .f32⟩
  | .hbm, ⟨17, _⟩ => ⟨S8x64x64x8x64, .f32⟩
  | .hbm, ⟨18, _⟩ => ⟨S8x64x64x8x64, .f32⟩
  | .hbm, ⟨19, _⟩ => ⟨S8x64x64x8x64, .f32⟩
  | .hbm, ⟨20, _⟩ => ⟨S8x64x64x8x64, .f32⟩
  | .hbm, ⟨21, _⟩ => ⟨S8x64x64x8x64, .f32⟩
  | .hbm, ⟨22, _⟩ => ⟨S8x64x64x8x64, .f32⟩
  | .hbm, ⟨23, _⟩ => ⟨S8x64x576x8x64, .f32⟩
  | .hbm, ⟨24, _⟩ => ⟨S8x64x64x8x64, .f32⟩
  | .hbm, ⟨25, _⟩ => ⟨S8x64x64x8x64, .f32⟩
  | .hbm, ⟨26, _⟩ => ⟨S8x64x64x8x64, .f32⟩
  | .hbm, ⟨27, _⟩ => ⟨S8x64x64x8x64, .f32⟩
  | .hbm, ⟨28, _⟩ => ⟨S8x64x64x8x64, .f32⟩
  | .hbm, ⟨29, _⟩ => ⟨S8x64x64x8x64, .f32⟩
  | .hbm, ⟨30, _⟩ => ⟨S8x64x64x8x64, .f32⟩
  | .hbm, ⟨31, _⟩ => ⟨S8x64x64x8x64, .f32⟩
  | .hbm, ⟨32, _⟩ => ⟨S8x64x64x8x64, .f32⟩
  | .hbm, ⟨33, _⟩ => ⟨S8x64x576x8x64, .f32⟩
  | .hbm, ⟨34, _⟩ => ⟨S8x8x64x64x576, .f32⟩
  | .hbm, ⟨35, _⟩ => ⟨S_, .f32⟩
  | .hbm, ⟨36, _⟩ => ⟨S8x8x64x64x576, .f32⟩
  | .hbm, ⟨37, _⟩ => ⟨S8x8x64x64x576, .f32⟩
  | .hbm, ⟨38, _⟩ => ⟨S64, .i32⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S576, .i32⟩
  | .hbm, ⟨43, _⟩ => ⟨S64x1, .i32⟩
  | .hbm, ⟨44, _⟩ => ⟨S1x576, .i32⟩
  | .hbm, ⟨45, _⟩ => ⟨S64x576, .i32⟩
  | .hbm, ⟨46, _⟩ => ⟨S64x576, .i32⟩
  | .hbm, ⟨47, _⟩ => ⟨S64x576, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S64x576, .i32⟩
  | .hbm, ⟨52, _⟩ => ⟨S64x576, .i32⟩
  | .hbm, ⟨53, _⟩ => ⟨S_, .i32⟩
  | .hbm, ⟨54, _⟩ => ⟨S64x576, .i32⟩
  | .hbm, ⟨55, _⟩ => ⟨S64x576, .i32⟩
  | .hbm, ⟨56, _⟩ => ⟨S_, .i32⟩
  | .hbm, ⟨57, _⟩ => ⟨S64x576, .i32⟩
  | .hbm, ⟨58, _⟩ => ⟨S64x576, .i32⟩
  | .hbm, ⟨59, _⟩ => ⟨S_, .i32⟩
  | .hbm, ⟨60, _⟩ => ⟨S64x576, .i32⟩
  | .hbm, ⟨61, _⟩ => ⟨S64x576, .i1⟩
  | .hbm, ⟨62, _⟩ => ⟨S_, .i32⟩
  | .hbm, ⟨63, _⟩ => ⟨S64x576, .i32⟩
  | .hbm, ⟨64, _⟩ => ⟨S64x576, .i32⟩
  | .hbm, ⟨65, _⟩ => ⟨S64x576, .i32⟩
  | .hbm, ⟨66, _⟩ => ⟨S64x576x1, .i32⟩
  | .hbm, ⟨67, _⟩ => ⟨S8x64x576, .f32⟩
  | .hbm, ⟨68, _⟩ => ⟨S64, .i32⟩
  | .hbm, ⟨69, _⟩ => ⟨S64x1, .i32⟩
  | .hbm, ⟨70, _⟩ => ⟨S_, .i32⟩
  | .hbm, ⟨71, _⟩ => ⟨S64x1, .i32⟩
  | .hbm, ⟨72, _⟩ => ⟨S64x1, .i32⟩
  | .hbm, ⟨73, _⟩ => ⟨S1x576, .i32⟩
  | .hbm, ⟨74, _⟩ => ⟨S_, .i32⟩
  | .hbm, ⟨75, _⟩ => ⟨S_, .i32⟩
  | .hbm, ⟨76, _⟩ => ⟨S1x576, .i32⟩
  | .hbm, ⟨77, _⟩ => ⟨S1x576, .i32⟩
  | .hbm, ⟨78, _⟩ => ⟨S1x576, .i32⟩
  | .hbm, ⟨79, _⟩ => ⟨S_, .i32⟩
  | .hbm, ⟨80, _⟩ => ⟨S1x576, .i32⟩
  | .hbm, ⟨81, _⟩ => ⟨S1x576, .i1⟩
  | .hbm, ⟨82, _⟩ => ⟨S1x576, .i32⟩
  | .hbm, ⟨83, _⟩ => ⟨S1x576, .i32⟩
  | .hbm, ⟨84, _⟩ => ⟨S_, .i32⟩
  | .hbm, ⟨85, _⟩ => ⟨S1x576, .i32⟩
  | .hbm, ⟨86, _⟩ => ⟨S1x576, .i1⟩
  | .hbm, ⟨87, _⟩ => ⟨S1x576, .i1⟩
  | .hbm, ⟨88, _⟩ => ⟨S_, .i32⟩
  | .hbm, ⟨89, _⟩ => ⟨S1x576, .i32⟩
  | .hbm, ⟨90, _⟩ => ⟨S1x576, .i32⟩
  | .hbm, ⟨91, _⟩ => ⟨S1x576, .i32⟩
  | .hbm, ⟨92, _⟩ => ⟨S64x576, .i32⟩
  | .hbm, ⟨93, _⟩ => ⟨S64x576, .i32⟩
  | .hbm, ⟨94, _⟩ => ⟨S64x576, .i32⟩
  | .hbm, ⟨95, _⟩ => ⟨S_, .i32⟩
  | .hbm, ⟨96, _⟩ => ⟨S64x576, .i32⟩
  | .hbm, ⟨97, _⟩ => ⟨S64x576, .i1⟩
  | .hbm, ⟨98, _⟩ => ⟨S1x1x64x1x576, .i1⟩
  | .hbm, ⟨99, _⟩ => ⟨S1x8x1x64x576, .f32⟩
  | .hbm, ⟨100, _⟩ => ⟨S8x8x64x64x576, .f32⟩
  | .hbm, ⟨101, _⟩ => ⟨S8x8x64x64x576, .f32⟩
  | .hbm, ⟨102, _⟩ => ⟨S_, .f32⟩
  | .hbm, ⟨103, _⟩ => ⟨S_, .f32⟩
  | .hbm, ⟨104, _⟩ => ⟨S8x8x64x64x576, .i1⟩
  | .hbm, ⟨105, _⟩ => ⟨S8x8x64x64x576, .f32⟩
  | .hbm, ⟨106, _⟩ => ⟨S8x8x64x64x576, .f32⟩
  | .hbm, ⟨107, _⟩ => ⟨S_, .f32⟩
  | .hbm, ⟨108, _⟩ => ⟨S8x8x64x64, .f32⟩
  | .hbm, ⟨109, _⟩ => ⟨S_, .f32⟩
  | .hbm, ⟨110, _⟩ => ⟨S8x8x64x64, .f32⟩
  | .hbm, ⟨111, _⟩ => ⟨S8x8x64x64, .f32⟩
  | .hbm, ⟨112, _⟩ => ⟨S8x8x64x64x1, .f32⟩
  | .hbm, ⟨113, _⟩ => ⟨S8x8x64x64x576, .f32⟩
  | .hbm, ⟨114, _⟩ => ⟨S8x8x64x64x576, .f32⟩
  | .hbm, ⟨115, _⟩ => ⟨S8x8x64x64x576, .f32⟩
  | .hbm, ⟨116, _⟩ => ⟨S_, .f32⟩
  | .hbm, ⟨117, _⟩ => ⟨S8x8x64x64, .f32⟩
  | .hbm, ⟨118, _⟩ => ⟨S8x8x64x64x1, .f32⟩
  | .hbm, ⟨119, _⟩ => ⟨S8x8x64x64x576, .f32⟩
  | .hbm, ⟨120, _⟩ => ⟨S8x8x64x64x576, .f32⟩
  | .hbm, ⟨121, _⟩ => ⟨S8x64x8x64x64, .f32⟩
  | .hbm, ⟨122, _⟩ => ⟨S8x64x64x8x64, .f32⟩
  | .hbm, ⟨123, _⟩ => ⟨S32768x512, .f32⟩
  | .hbm, ⟨124, _⟩ => ⟨S32768x512, .bf16⟩
  | _, _ => ⟨S8x4096x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c_2 : Ref sig .tc := ⟨.hbm, 48, rfl⟩
abbrev main_c_3 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v40 : Ref sig .tc := ⟨.hbm, 55, rfl⟩
abbrev main_c_4 : Ref sig .tc := ⟨.hbm, 56, rfl⟩
abbrev main_v41 : Ref sig .tc := ⟨.hbm, 57, rfl⟩
abbrev main_v42 : Ref sig .tc := ⟨.hbm, 58, rfl⟩
abbrev main_c_5 : Ref sig .tc := ⟨.hbm, 59, rfl⟩
abbrev main_v43 : Ref sig .tc := ⟨.hbm, 60, rfl⟩
abbrev main_v44 : Ref sig .tc := ⟨.hbm, 61, rfl⟩
abbrev main_c_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_c : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_0 : Ref sig .tc := ⟨.hbm, 88, rfl⟩
abbrev main_call3_v12 : Ref sig .tc := ⟨.hbm, 89, rfl⟩
abbrev main_call3_v13 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_9 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_10 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v65 : Ref sig .tc := ⟨.hbm, 106, rfl⟩
abbrev main_cst_11 : Ref sig .tc := ⟨.hbm, 107, rfl⟩
abbrev main_v66 : Ref sig .tc := ⟨.hbm, 108, rfl⟩
abbrev main_cst_12 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_13 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩

abbrev nD : Nat := 1
abbrev τ : Topo := Topo.v7x

variable {F : FTy → Type} [FloatOps F]
-- ==== Kernel2.lean ====
abbrev S24 : Shape := ⟨1, ![24]⟩
abbrev S38912x1152 : Shape := ⟨2, ![38912, 1152]⟩
abbrev S16x1024x512 : Shape := ⟨3, ![16, 1024, 512]⟩
abbrev S16x512x1024 : Shape := ⟨3, ![16, 512, 1024]⟩
abbrev S152 : Shape := ⟨1, ![152]⟩
abbrev S_ : Shape := ⟨0, ![]⟩
abbrev S1 : Shape := ⟨1, ![1]⟩
abbrev S152x1 : Shape := ⟨2, ![152, 1]⟩
abbrev S1x24 : Shape := ⟨2, ![1, 24]⟩
abbrev S152x24 : Shape := ⟨2, ![152, 24]⟩
abbrev S16x1024x1024 : Shape := ⟨3, ![16, 1024, 1024]⟩
abbrev S38912x1024 : Shape := ⟨2, ![38912, 1024]⟩
abbrev S256x1152 : Shape := ⟨2, ![256, 1152]⟩
abbrev S1x1024x1024 : Shape := ⟨3, ![1, 1024, 1024]⟩
abbrev S1x512x1024 : Shape := ⟨3, ![1, 512, 1024]⟩
abbrev S256x1024 : Shape := ⟨2, ![256, 1024]⟩
abbrev S256x128 : Shape := ⟨2, ![256, 128]⟩
abbrev S256x1 : Shape := ⟨2, ![256, 1]⟩
abbrev S1024x1024 : Shape := ⟨2, ![1024, 1024]⟩
abbrev S256x512 : Shape := ⟨2, ![256, 512]⟩
abbrev S512x1024 : Shape := ⟨2, ![512, 1024]⟩

abbrev nBuf : Space → Nat
  | .hbm => 97
  | .vmem => 12
  | .smem => 3
  | _ => 0

abbrev bufTy : (tb : Table) → Fin (tcTables nBuf tb) → BufTy
  | .hbm, ⟨0, _⟩ => ⟨S24, .i32⟩
  | .hbm, ⟨1, _⟩ => ⟨S38912x1152, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S152, .i32⟩
  | .hbm, ⟨6, _⟩ => ⟨S_, .i32⟩
  | .hbm, ⟨7, _⟩ => ⟨S152, .i32⟩
  | .hbm, ⟨8, _⟩ => ⟨S152, .i32⟩
  | .hbm, ⟨9, _⟩ => ⟨S1, .i32⟩
  | .hbm, ⟨10, _⟩ => ⟨S_, .i32⟩
  | .hbm, ⟨11, _⟩ => ⟨S152, .i32⟩
  | .hbm, ⟨12, _⟩ => ⟨S152, .i1⟩
  | .hbm, ⟨13, _⟩ => ⟨S1, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S152, .i32⟩
  | .hbm, ⟨18, _⟩ => ⟨S152, .i32⟩
  | .hbm, ⟨19, _⟩ => ⟨S152x1, .i32⟩
  | .hbm, ⟨20, _⟩ => ⟨S1x24, .i32⟩
  | .hbm, ⟨21, _⟩ => ⟨S152x24, .i32⟩
  | .hbm, ⟨22, _⟩ => ⟨S152x24, .i32⟩
  | .hbm, ⟨23, _⟩ => ⟨S152x24, .i1⟩
  | .hbm, ⟨24, _⟩ => ⟨S152x24, .i32⟩
  | .hbm, ⟨25, _⟩ => ⟨S_, .i32⟩
  | .hbm, ⟨26, _⟩ => ⟨S152, .i32⟩
  | .hbm, ⟨27, _⟩ => ⟨S_, .i32⟩
  | .hbm, ⟨28, _⟩ => ⟨S152, .i32⟩
  | .hbm, ⟨29, _⟩ => ⟨S152, .i32⟩
  | .hbm, ⟨30, _⟩ => ⟨S_, .i32⟩
  | .hbm, ⟨31, _⟩ => ⟨S_, .i32⟩
  | .hbm, ⟨32, _⟩ => ⟨S152, .i32⟩
  | .hbm, ⟨33, _⟩ => ⟨S152, .i32⟩
  | .hbm, ⟨34, _⟩ => ⟨S152, .i32⟩
  | .hbm, ⟨35, _⟩ => ⟨S_, .i32⟩
  | .hbm, ⟨36, _⟩ => ⟨S152, .i32⟩
  | .hbm, ⟨37, _⟩ => ⟨S152, .i1⟩
  | .hbm, ⟨38, _⟩ => ⟨S152, .i32⟩
  | .hbm, ⟨39, _⟩ => ⟨S152, .i32⟩
  | .hbm, ⟨40, _⟩ => ⟨S_, .i32⟩
  | .hbm, ⟨41, _⟩ => ⟨S152, .i32⟩
  | .hbm, ⟨42, _⟩ => ⟨S152, .i1⟩
  | .hbm, ⟨43, _⟩ => ⟨S152, .i1⟩
  | .hbm, ⟨44, _⟩ => ⟨S_, .i32⟩
  | .hbm, ⟨45, _⟩ => ⟨S152, .i32⟩
  | .hbm, ⟨46, _⟩ => ⟨S152, .i32⟩
  | .hbm, ⟨47, _⟩ => ⟨S152, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S152, .i32⟩
  | .hbm, ⟨55, _⟩ => ⟨S152, .i32⟩
  | .hbm, ⟨56, _⟩ => ⟨S_, .i32⟩
  | .hbm, ⟨57, _⟩ => ⟨S152, .i32⟩
  | .hbm, ⟨58, _⟩ => ⟨S152, .i1⟩
  | .hbm, ⟨59, _⟩ => ⟨S_, .i32⟩
  | .hbm, ⟨60, _⟩ => ⟨S152, .i32⟩
  | .hbm, ⟨61, _⟩ => ⟨S152, .i1⟩
  | .hbm, ⟨62, _⟩ => ⟨S_, .i32⟩
  | .hbm, ⟨63, _⟩ => ⟨S_, .i1⟩
  | .hbm, ⟨64, _⟩ => ⟨S152, .i1⟩
  | .hbm, ⟨65, _⟩ => ⟨S152, .i1⟩
  | .hbm, ⟨66, _⟩ => ⟨S152, .i1⟩
  | .hbm, ⟨67, _⟩ => ⟨S152, .i32⟩
  | .hbm, ⟨68, _⟩ => ⟨S152, .i32⟩
  | .hbm, ⟨69, _⟩ => ⟨S152, .i32⟩
  | .hbm, ⟨70, _⟩ => ⟨S_, .i32⟩
  | .hbm, ⟨71, _⟩ => ⟨S152, .i32⟩
  | .hbm, ⟨72, _⟩ => ⟨S152, .i1⟩
  | .hbm, ⟨73, _⟩ => ⟨S152, .i32⟩
  | .hbm, ⟨74, _⟩ => ⟨S_, .i32⟩
  | .hbm, ⟨75, _⟩ => ⟨S152, .i32⟩
  | .hbm, ⟨76, _⟩ => ⟨S152, .i1⟩
  | .hbm, ⟨77, _⟩ => ⟨S152, .i32⟩
  | .hbm, ⟨78, _⟩ => ⟨S_, .i32⟩
  | .hbm, ⟨79, _⟩ => ⟨S152, .i32⟩
  | .hbm, ⟨80, _⟩ => ⟨S152, .i32⟩
  | .hbm, ⟨81, _⟩ => ⟨S152, .i32⟩
  | .hbm, ⟨82, _⟩ => ⟨S_, .i32⟩
  | .hbm, ⟨83, _⟩ => ⟨S152, .i32⟩
  | .hbm, ⟨84, _⟩ => ⟨S152, .i32⟩
  | .hbm, ⟨85, _⟩ => ⟨S152, .i32⟩
  | .hbm, ⟨86, _⟩ => ⟨S_, .i32⟩
  | .hbm, ⟨87, _⟩ => ⟨S152, .i32⟩
  | .hbm, ⟨88, _⟩ => ⟨S152, .i32⟩
  | .hbm, ⟨89, _⟩ => ⟨S_, .i32⟩
  | .hbm, ⟨90, _⟩ => ⟨S152, .i32⟩
  | .hbm, ⟨91, _⟩ => ⟨S152, .i32⟩
  | .hbm, ⟨92, _⟩ => ⟨S152, .i32⟩
  | .hbm, ⟨93, _⟩ => ⟨S16x1024x1024, .f32⟩
  | .hbm, ⟨94, _⟩ => ⟨S16x1024x1024, .bf16⟩
  | .hbm, ⟨95, _⟩ => ⟨S16x512x1024, .bf16⟩
  | .hbm, ⟨96, _⟩ => ⟨S38912x1024, .f32⟩
  | .local _ .vmem, ⟨0, _⟩ => ⟨S256x1152, .f32⟩
  | .local _ .vmem, ⟨1, _⟩ => ⟨S256x1152, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S256x1024, .f32⟩
  | .local _ .vmem, ⟨11, _⟩ => ⟨S256x1024, .f32⟩
  | .local _ .smem, ⟨0, _⟩ => ⟨S152, .i32⟩
  | .local _ .smem, ⟨1, _⟩ => ⟨S152, .i32⟩
  | .local _ .smem, ⟨2, _⟩ => ⟨S152, .i32⟩
  | _, _ => ⟨S24, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v21 : Ref sig .tc := ⟨.hbm, 47, rfl⟩
abbrev main_c_4 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v22 : Ref sig .tc := ⟨.hbm, 69, rfl⟩
abbrev main_c_5 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_c_6 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_c_7 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_c_8 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_c_9 : Ref sig .tc := ⟨.hbm, 86, rfl⟩
abbrev main_v36 : Ref sig .tc := ⟨.hbm, 87, rfl⟩
abbrev main_v37 : Ref sig .tc := ⟨.hbm, 88, rfl⟩
abbrev main_c_10 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v46 : Ref sig .tc := ⟨.hbm, 96, rfl⟩
abbrev main_v32 : Ref sig .tc := ⟨.smem, 0, rfl⟩
abbrev main_v41 : Ref sig .tc := ⟨.smem, 1, rfl⟩
abbrev main_v45 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_v32.idx, main_v41.idx, main_v45.idx], fun | 0 => main_v32.names | 1 => main_v41.names | 2 => main_v45.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S24 : Shape := ⟨1, ![24]⟩
abbrev S38912x1152 : Shape := ⟨2, ![38912, 1152]⟩
abbrev S16x1024x512 : Shape := ⟨3, ![16, 1024, 512]⟩
abbrev S16x512x1024 : Shape := ⟨3, ![16, 512, 1024]⟩
abbrev S38912x1024 : Shape := ⟨2, ![38912, 1024]⟩
abbrev S38912x1 : Shape := ⟨2, ![38912, 1]⟩
abbrev S38912 : Shape := ⟨1, ![38912]⟩
abbrev S1 : Shape := ⟨1, ![1]⟩
abbrev S_ : Shape := ⟨0, ![]⟩
abbrev S1x24 : Shape := ⟨2, ![1, 24]⟩
abbrev S38912x24 : Shape := ⟨2, ![38912, 24]⟩
abbrev S1x16 : Shape := ⟨2, ![1, 16]⟩
abbrev S38912x16 : Shape := ⟨2, ![38912, 16]⟩
abbrev S1x1024x512 : Shape := ⟨3, ![1, 1024, 512]⟩
abbrev S1024x512 : Shape := ⟨2, ![1024, 512]⟩
abbrev S38912x512 : Shape := ⟨2, ![38912, 512]⟩
abbrev S1x512x1024 : Shape := ⟨3, ![1, 512, 1024]⟩
abbrev S512x1024 : Shape := ⟨2, ![512, 1024]⟩

abbrev nBuf : Space → Nat
  | .hbm => 498
  | .vmem => 0
  | .smem => 0
  | _ => 0

abbrev hbmTy0_0 (i : Nat) : BufTy := match i % 128 with
  | 0 => ⟨S24, .i32⟩
  | 1 => ⟨S38912x1152, .f32⟩
  | 2 => ⟨S16x1024x512, .f32⟩
  | 3 => ⟨S16x1024x512, .f32⟩
  | 4 => ⟨S16x512x1024, .f32⟩
  | 5 => ⟨S38912x1024, .f32⟩
  | 6 => ⟨S38912x1, .f32⟩
  | 7 => ⟨S38912, .f32⟩
  | 8 => ⟨S38912x1, .f32⟩
  | 9 => ⟨S38912, .f32⟩
  | 10 => ⟨S38912, .i32⟩
  | 11 => ⟨S1, .i32⟩
  | 12 => ⟨S_, .i32⟩
  | 13 => ⟨S38912, .i32⟩
  | 14 => ⟨S38912, .i1⟩
  | 15 => ⟨S38912x1, .i32⟩
  | 16 => ⟨S1x24, .i32⟩
  | 17 => ⟨S38912x24, .i32⟩
  | 18 => ⟨S38912x24, .i32⟩
  | 19 => ⟨S38912x24, .i1⟩
  | 20 => ⟨S38912x24, .i32⟩
  | 21 => ⟨S_, .i32⟩
  | 22 => ⟨S38912, .i32⟩
  | 23 => ⟨S_, .i32⟩
  | 24 => ⟨S_, .i32⟩
  | 25 => ⟨S38912, .i32⟩
  | 26 => ⟨S38912, .i32⟩
  | 27 => ⟨S38912, .i32⟩
  | 28 => ⟨S_, .i32⟩
  | 29 => ⟨S38912, .i32⟩
  | 30 => ⟨S38912, .i1⟩
  | 31 => ⟨S38912, .i32⟩
  | 32 => ⟨S38912, .i32⟩
  | 33 => ⟨S_, .i32⟩
  | 34 => ⟨S38912, .i32⟩
  | 35 => ⟨S38912, .i1⟩
  | 36 => ⟨S38912, .i1⟩
  | 37 => ⟨S_, .i32⟩
  | 38 => ⟨S38912, .i32⟩
  | 39 => ⟨S38912, .i32⟩
  | 40 => ⟨S38912, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S38912, .i32⟩
  | 48 => ⟨S38912, .i32⟩
  | 49 => ⟨S_, .i32⟩
  | 50 => ⟨S38912, .i32⟩
  | 51 => ⟨S38912, .i1⟩
  | 52 => ⟨S_, .i32⟩
  | 53 => ⟨S38912, .i32⟩
  | 54 => ⟨S38912, .i1⟩
  | 55 => ⟨S_, .i32⟩
  | 56 => ⟨S_, .i1⟩
  | 57 => ⟨S38912, .i1⟩
  | 58 => ⟨S38912, .i1⟩
  | 59 => ⟨S38912, .i1⟩
  | 60 => ⟨S38912, .i32⟩
  | 61 => ⟨S38912, .i32⟩
  | 62 => ⟨S38912, .i32⟩
  | 63 => ⟨S_, .i32⟩
  | 64 => ⟨S38912, .i32⟩
  | 65 => ⟨S38912, .i1⟩
  | 66 => ⟨S_, .i32⟩
  | 67 => ⟨S38912, .i32⟩
  | 68 => ⟨S38912, .i1⟩
  | 69 => ⟨S_, .i32⟩
  | 70 => ⟨S_, .i32⟩
  | 71 => ⟨S38912, .i32⟩
  | 72 => ⟨S38912, .i32⟩
  | 73 => ⟨S38912, .i32⟩
  | 74 => ⟨S_, .i32⟩
  | 75 => ⟨S38912, .i32⟩
  | 76 => ⟨S38912, .i32⟩
  | 77 => ⟨S_, .i32⟩
  | 78 => ⟨S38912, .i32⟩
  | 79 => ⟨S38912, .i1⟩
  | 80 => ⟨S_, .i32⟩
  | 81 => ⟨S38912, .i32⟩
  | 82 => ⟨S38912, .i32⟩
  | 83 => ⟨S_, .i32⟩
  | 84 => ⟨S38912, .i32⟩
  | 85 => ⟨S38912, .i1⟩
  | 86 => ⟨S_, .i32⟩
  | 87 => ⟨S38912, .i32⟩
  | 88 => ⟨S38912, .i32⟩
  | 89 => ⟨S_, .i32⟩
  | 90 => ⟨S_, .i32⟩
  | 91 => ⟨S38912, .i32⟩
  | 92 => ⟨S38912, .i32⟩
  | 93 => ⟨S38912, .i32⟩
  | 94 => ⟨S_, .i32⟩
  | 95 => ⟨S38912, .i32⟩
  | 96 => ⟨S38912, .i32⟩
  | 97 => ⟨S38912, .i32⟩
  | 98 => ⟨S38912, .i32⟩
  | 99 => ⟨S38912x1, .i32⟩
  | 100 => ⟨S1x16, .i32⟩
  | 101 => ⟨S38912x16, .i32⟩
  | 102 => ⟨S38912x16, .i32⟩
  | 103 => ⟨S38912x16, .i1⟩
  | 104 => ⟨S38912x16, .f32⟩
  | 105 => ⟨S38912x1, .f32⟩
  | 106 => ⟨S38912x16, .f32⟩
  | 107 => ⟨S38912x16, .f32⟩
  | 108 => ⟨S_, .i32⟩
  | 109 => ⟨S38912, .i32⟩
  | 110 => ⟨S38912, .i32⟩
  | 111 => ⟨S38912, .i32⟩
  | 112 => ⟨S38912x1, .i32⟩
  | 113 => ⟨S1x16, .i32⟩
  | 114 => ⟨S38912x16, .i32⟩
  | 115 => ⟨S38912x16, .i32⟩
  | 116 => ⟨S38912x16, .i1⟩
  | 117 => ⟨S38912x16, .f32⟩
  | 118 => ⟨S38912x1, .f32⟩
  | 119 => ⟨S38912x16, .f32⟩
  | 120 => ⟨S38912x16, .f32⟩
  | 121 => ⟨S38912x16, .f32⟩
  | 122 => ⟨S38912x1, .i1⟩
  | 123 => ⟨S_, .f32⟩
  | 124 => ⟨S_, .f32⟩
  | 125 => ⟨S38912x16, .i1⟩
  | 126 => ⟨S38912x16, .f32⟩
  | 127 => ⟨S38912x16, .f32⟩
  | _ => ⟨S24, .i32⟩

abbrev hbmTy0_1 (i : Nat) : BufTy := match i % 128 with
  | 0 => ⟨S_, .f32⟩
  | 1 => ⟨S38912x1024, .f32⟩
  | 2 => ⟨S1x1024x512, .f32⟩
  | 3 => ⟨S1024x512, .f32⟩
  | 4 => ⟨S38912x512, .f32⟩
  | 5 => ⟨S38912x512, .f32⟩
  | 6 => ⟨S38912x512, .f32⟩
  | 7 => ⟨S_, .f32⟩
  | 8 => ⟨S38912x512, .f32⟩
  | 9 => ⟨S38912x512, .f32⟩
  | 10 => ⟨S_, .f32⟩
  | 11 => ⟨S38912x512, .f32⟩
  | 12 => ⟨S38912x512, .f32⟩
  | 13 => ⟨S38912x512, .f32⟩
  | 14 => ⟨S1x1024x512, .f32⟩
  | 15 => ⟨S1024x512, .f32⟩
  | 16 => ⟨S38912x512, .f32⟩
  | 17 => ⟨S38912x512, .f32⟩
  | 18 => ⟨S38912x1, .f32⟩
  | 19 => ⟨S1x512x1024, .f32⟩
  | 20 => ⟨S512x1024, .f32⟩
  | 21 => ⟨S38912x1024, .f32⟩
  | 22 => ⟨S38912x1024, .f32⟩
  | 23 => ⟨S38912x1024, .f32⟩
  | 24 => ⟨S38912x1024, .f32⟩
  | 25 => ⟨S1x1024x512, .f32⟩
  | 26 => ⟨S1024x512, .f32⟩
  | 27 => ⟨S38912x512, .f32⟩
  | 28 => ⟨S38912x512, .f32⟩
  | 29 => ⟨S38912x512, .f32⟩
  | 30 => ⟨S_, .f32⟩
  | 31 => ⟨S38912x512, .f32⟩
  | 32 => ⟨S38912x512, .f32⟩
  | 33 => ⟨S_, .f32⟩
  | 34 => ⟨S38912x512, .f32⟩
  | 35 => ⟨S38912x512, .f32⟩
  | 36 => ⟨S38912x512, .f32⟩
  | 37 => ⟨S1x1024x512, .f32⟩
  | 38 => ⟨S1024x512, .f32⟩
  | 39 => ⟨S38912x512, .f32⟩
  | 40 => ⟨S38912x512, .f32⟩
  | 41 => ⟨S38912x1, .f32⟩
  | 42 => ⟨S1x512x1024, .f32⟩
  | 43 => ⟨S512x1024, .f32⟩
  | 44 => ⟨S38912x1024, .f32⟩
  | 45 => ⟨S38912x1024, .f32⟩
  | 46 => ⟨S38912x1024, .f32⟩
  | 47 => ⟨S38912x1024, .f32⟩
  | 48 => ⟨S1x1024x512, .f32⟩
  | 49 => ⟨S1024x512, .f32⟩
  | 50 => ⟨S38912x512, .f32⟩
  | 51 => ⟨S38912x512, .f32⟩
  | 52 => ⟨S38912x512, .f32⟩
  | 53 => ⟨S_, .f32⟩
  | 54 => ⟨S38912x512, .f32⟩
  | 55 => ⟨S38912x512, .f32⟩
  | 56 => ⟨S_, .f32⟩
  | 57 => ⟨S38912x512, .f32⟩
  | 58 => ⟨S38912x512, .f32⟩
  | 59 => ⟨S38912x512, .f32⟩
  | 60 => ⟨S1x1024x512, .f32⟩
  | 61 => ⟨S1024x512, .f32⟩
  | 62 => ⟨S38912x512, .f32⟩
  | 63 => ⟨S38912x512, .f32⟩
  | 64 => ⟨S38912x1, .f32⟩
  | 65 => ⟨S1x512x1024, .f32⟩
  | 66 => ⟨S512x1024, .f32⟩
  | 67 => ⟨S38912x1024, .f32⟩
  | 68 => ⟨S38912x1024, .f32⟩
  | 69 => ⟨S38912x1024, .f32⟩
  | 70 => ⟨S38912x1024, .f32⟩
  | 71 => ⟨S1x1024x512, .f32⟩
  | 72 => ⟨S1024x512, .f32⟩
  | 73 => ⟨S38912x512, .f32⟩
  | 74 => ⟨S38912x512, .f32⟩
  | 75 => ⟨S38912x512, .f32⟩
  | 76 => ⟨S_, .f32⟩
  | 77 => ⟨S38912x512, .f32⟩
  | 78 => ⟨S38912x512, .f32⟩
  | 79 => ⟨S_, .f32⟩
  | 80 => ⟨S38912x512, .f32⟩
  | 81 => ⟨S38912x512, .f32⟩
  | 82 => ⟨S38912x512, .f32⟩
  | 83 => ⟨S1x1024x512, .f32⟩
  | 84 => ⟨S1024x512, .f32⟩
  | 85 => ⟨S38912x512, .f32⟩
  | 86 => ⟨S38912x512, .f32⟩
  | 87 => ⟨S38912x1, .f32⟩
  | 88 => ⟨S1x512x1024, .f32⟩
  | 89 => ⟨S512x1024, .f32⟩
  | 90 => ⟨S38912x1024, .f32⟩
  | 91 => ⟨S38912x1024, .f32⟩
  | 92 => ⟨S38912x1024, .f32⟩
  | 93 => ⟨S38912x1024, .f32⟩
  | 94 => ⟨S1x1024x512, .f32⟩
  | 95 => ⟨S1024x512, .f32⟩
  | 96 => ⟨S38912x512, .f32⟩
  | 97 => ⟨S38912x512, .f32⟩
  | 98 => ⟨S38912x512, .f32⟩
  | 99 => ⟨S_, .f32⟩
  | 100 => ⟨S38912x512, .f32⟩
  | 101 => ⟨S38912x512, .f32⟩
  | 102 => ⟨S_, .f32⟩
  | 103 => ⟨S38912x512, .f32⟩
  | 104 => ⟨S38912x512, .f32⟩
  | 105 => ⟨S38912x512, .f32⟩
  | 106 => ⟨S1x1024x512, .f32⟩
  | 107 => ⟨S1024x512, .f32⟩
  | 108 => ⟨S38912x512, .f32⟩
  | 109 => ⟨S38912x512, .f32⟩
  | 110 => ⟨S38912x1, .f32⟩
  | 111 => ⟨S1x512x1024, .f32⟩
  | 112 => ⟨S512x1024, .f32⟩
  | 113 => ⟨S38912x1024, .f32⟩
  | 114 => ⟨S38912x1024, .f32⟩
  | 115 => ⟨S38912x1024, .f32⟩
  | 116 => ⟨S38912x1024, .f32⟩
  | 117 => ⟨S1x1024x512, .f32⟩
  | 118 => ⟨S1024x512, .f32⟩
  | 119 => ⟨S38912x512, .f32⟩
  | 120 => ⟨S38912x512, .f32⟩
  | 121 => ⟨S38912x512, .f32⟩
  | 122 => ⟨S_, .f32⟩
  | 123 => ⟨S38912x512, .f32⟩
  | 124 => ⟨S38912x512, .f32⟩
  | 125 => ⟨S_, .f32⟩
  | 126 => ⟨S38912x512, .f32⟩
  | 127 => ⟨S38912x512, .f32⟩
  | _ => ⟨S24, .i32⟩

abbrev hbmTy0_2 (i : Nat) : BufTy := match i % 128 with
  | 0 => ⟨S38912x512, .f32⟩
  | 1 => ⟨S1x1024x512, .f32⟩
  | 2 => ⟨S1024x512, .f32⟩
  | 3 => ⟨S38912x512, .f32⟩
  | 4 => ⟨S38912x512, .f32⟩
  | 5 => ⟨S38912x1, .f32⟩
  | 6 => ⟨S1x512x1024, .f32⟩
  | 7 => ⟨S512x1024, .f32⟩
  | 8 => ⟨S38912x1024, .f32⟩
  | 9 => ⟨S38912x1024, .f32⟩
  | 10 => ⟨S38912x1024, .f32⟩
  | 11 => ⟨S38912x1024, .f32⟩
  | 12 => ⟨S1x1024x512, .f32⟩
  | 13 => ⟨S1024x512, .f32⟩
  | 14 => ⟨S38912x512, .f32⟩
  | 15 => ⟨S38912x512, .f32⟩
  | 16 => ⟨S38912x512, .f32⟩
  | 17 => ⟨S_, .f32⟩
  | 18 => ⟨S38912x512, .f32⟩
  | 19 => ⟨S38912x512, .f32⟩
  | 20 => ⟨S_, .f32⟩
  | 21 => ⟨S38912x512, .f32⟩
  | 22 => ⟨S38912x512, .f32⟩
  | 23 => ⟨S38912x512, .f32⟩
  | 24 => ⟨S1x1024x512, .f32⟩
  | 25 => ⟨S1024x512, .f32⟩
  | 26 => ⟨S38912x512, .f32⟩
  | 27 => ⟨S38912x512, .f32⟩
  | 28 => ⟨S38912x1, .f32⟩
  | 29 => ⟨S1x512x1024, .f32⟩
  | 30 => ⟨S512x1024, .f32⟩
  | 31 => ⟨S38912x1024, .f32⟩
  | 32 => ⟨S38912x1024, .f32⟩
  | 33 => ⟨S38912x1024, .f32⟩
  | 34 => ⟨S38912x1024, .f32⟩
  | 35 => ⟨S1x1024x512, .f32⟩
  | 36 => ⟨S1024x512, .f32⟩
  | 37 => ⟨S38912x512, .f32⟩
  | 38 => ⟨S38912x512, .f32⟩
  | 39 => ⟨S38912x512, .f32⟩
  | 40 => ⟨S_, .f32⟩
  | 41 => ⟨S38912x512, .f32⟩
  | 42 => ⟨S38912x512, .f32⟩
  | 43 => ⟨S_, .f32⟩
  | 44 => ⟨S38912x512, .f32⟩
  | 45 => ⟨S38912x512, .f32⟩
  | 46 => ⟨S38912x512, .f32⟩
  | 47 => ⟨S1x1024x512, .f32⟩
  | 48 => ⟨S1024x512, .f32⟩
  | 49 => ⟨S38912x512, .f32⟩
  | 50 => ⟨S38912x512, .f32⟩
  | 51 => ⟨S38912x1, .f32⟩
  | 52 => ⟨S1x512x1024, .f32⟩
  | 53 => ⟨S512x1024, .f32⟩
  | 54 => ⟨S38912x1024, .f32⟩
  | 55 => ⟨S38912x1024, .f32⟩
  | 56 => ⟨S38912x1024, .f32⟩
  | 57 => ⟨S38912x1024, .f32⟩
  | 58 => ⟨S1x1024x512, .f32⟩
  | 59 => ⟨S1024x512, .f32⟩
  | 60 => ⟨S38912x512, .f32⟩
  | 61 => ⟨S38912x512, .f32⟩
  | 62 => ⟨S38912x512, .f32⟩
  | 63 => ⟨S_, .f32⟩
  | 64 => ⟨S38912x512, .f32⟩
  | 65 => ⟨S38912x512, .f32⟩
  | 66 => ⟨S_, .f32⟩
  | 67 => ⟨S38912x512, .f32⟩
  | 68 => ⟨S38912x512, .f32⟩
  | 69 => ⟨S38912x512, .f32⟩
  | 70 => ⟨S1x1024x512, .f32⟩
  | 71 => ⟨S1024x512, .f32⟩
  | 72 => ⟨S38912x512, .f32⟩
  | 73 => ⟨S38912x512, .f32⟩
  | 74 => ⟨S38912x1, .f32⟩
  | 75 => ⟨S1x512x1024, .f32⟩
  | 76 => ⟨S512x1024, .f32⟩
  | 77 => ⟨S38912x1024, .f32⟩
  | 78 => ⟨S38912x1024, .f32⟩
  | 79 => ⟨S38912x1024, .f32⟩
  | 80 => ⟨S38912x1024, .f32⟩
  | 81 => ⟨S1x1024x512, .f32⟩
  | 82 => ⟨S1024x512, .f32⟩
  | 83 => ⟨S38912x512, .f32⟩
  | 84 => ⟨S38912x512, .f32⟩
  | 85 => ⟨S38912x512, .f32⟩
  | 86 => ⟨S_, .f32⟩
  | 87 => ⟨S38912x512, .f32⟩
  | 88 => ⟨S38912x512, .f32⟩
  | 89 => ⟨S_, .f32⟩
  | 90 => ⟨S38912x512, .f32⟩
  | 91 => ⟨S38912x512, .f32⟩
  | 92 => ⟨S38912x512, .f32⟩
  | 93 => ⟨S1x1024x512, .f32⟩
  | 94 => ⟨S1024x512, .f32⟩
  | 95 => ⟨S38912x512, .f32⟩
  | 96 => ⟨S38912x512, .f32⟩
  | 97 => ⟨S38912x1, .f32⟩
  | 98 => ⟨S1x512x1024, .f32⟩
  | 99 => ⟨S512x1024, .f32⟩
  | 100 => ⟨S38912x1024, .f32⟩
  | 101 => ⟨S38912x1024, .f32⟩
  | 102 => ⟨S38912x1024, .f32⟩
  | 103 => ⟨S38912x1024, .f32⟩
  | 104 => ⟨S1x1024x512, .f32⟩
  | 105 => ⟨S1024x512, .f32⟩
  | 106 => ⟨S38912x512, .f32⟩
  | 107 => ⟨S38912x512, .f32⟩
  | 108 => ⟨S38912x512, .f32⟩
  | 109 => ⟨S_, .f32⟩
  | 110 => ⟨S38912x512, .f32⟩
  | 111 => ⟨S38912x512, .f32⟩
  | 112 => ⟨S_, .f32⟩
  | 113 => ⟨S38912x512, .f32⟩
  | 114 => ⟨S38912x512, .f32⟩
  | 115 => ⟨S38912x512, .f32⟩
  | 116 => ⟨S1x1024x512, .f32⟩
  | 117 => ⟨S1024x512, .f32⟩
  | 118 => ⟨S38912x512, .f32⟩
  | 119 => ⟨S38912x512, .f32⟩
  | 120 => ⟨S38912x1, .f32⟩
  | 121 => ⟨S1x512x1024, .f32⟩
  | 122 => ⟨S512x1024, .f32⟩
  | 123 => ⟨S38912x1024, .f32⟩
  | 124 => ⟨S38912x1024, .f32⟩
  | 125 => ⟨S38912x1024, .f32⟩
  | 126 => ⟨S38912x1024, .f32⟩
  | 127 => ⟨S1x1024x512, .f32⟩
  | _ => ⟨S24, .i32⟩

abbrev hbmTy0_3 (i : Nat) : BufTy := match i % 128 with
  | 0 => ⟨S1024x512, .f32⟩
  | 1 => ⟨S38912x512, .f32⟩
  | 2 => ⟨S38912x512, .f32⟩
  | 3 => ⟨S38912x512, .f32⟩
  | 4 => ⟨S_, .f32⟩
  | 5 => ⟨S38912x512, .f32⟩
  | 6 => ⟨S38912x512, .f32⟩
  | 7 => ⟨S_, .f32⟩
  | 8 => ⟨S38912x512, .f32⟩
  | 9 => ⟨S38912x512, .f32⟩
  | 10 => ⟨S38912x512, .f32⟩
  | 11 => ⟨S1x1024x512, .f32⟩
  | 12 => ⟨S1024x512, .f32⟩
  | 13 => ⟨S38912x512, .f32⟩
  | 14 => ⟨S38912x512, .f32⟩
  | 15 => ⟨S38912x1, .f32⟩
  | 16 => ⟨S1x512x1024, .f32⟩
  | 17 => ⟨S512x1024, .f32⟩
  | 18 => ⟨S38912x1024, .f32⟩
  | 19 => ⟨S38912x1024, .f32⟩
  | 20 => ⟨S38912x1024, .f32⟩
  | 21 => ⟨S38912x1024, .f32⟩
  | 22 => ⟨S1x1024x512, .f32⟩
  | 23 => ⟨S1024x512, .f32⟩
  | 24 => ⟨S38912x512, .f32⟩
  | 25 => ⟨S38912x512, .f32⟩
  | 26 => ⟨S38912x512, .f32⟩
  | 27 => ⟨S_, .f32⟩
  | 28 => ⟨S38912x512, .f32⟩
  | 29 => ⟨S38912x512, .f32⟩
  | 30 => ⟨S_, .f32⟩
  | 31 => ⟨S38912x512, .f32⟩
  | 32 => ⟨S38912x512, .f32⟩
  | 33 => ⟨S38912x512, .f32⟩
  | 34 => ⟨S1x1024x512, .f32⟩
  | 35 => ⟨S1024x512, .f32⟩
  | 36 => ⟨S38912x512, .f32⟩
  | 37 => ⟨S38912x512, .f32⟩
  | 38 => ⟨S38912x1, .f32⟩
  | 39 => ⟨S1x512x1024, .f32⟩
  | 40 => ⟨S512x1024, .f32⟩
  | 41 => ⟨S38912x1024, .f32⟩
  | 42 => ⟨S38912x1024, .f32⟩
  | 43 => ⟨S38912x1024, .f32⟩
  | 44 => ⟨S38912x1024, .f32⟩
  | 45 => ⟨S1x1024x512, .f32⟩
  | 46 => ⟨S1024x512, .f32⟩
  | 47 => ⟨S38912x512, .f32⟩
  | 48 => ⟨S38912x512, .f32⟩
  | 49 => ⟨S38912x512, .f32⟩
  | 50 => ⟨S_, .f32⟩
  | 51 => ⟨S38912x512, .f32⟩
  | 52 => ⟨S38912x512, .f32⟩
  | 53 => ⟨S_, .f32⟩
  | 54 => ⟨S38912x512, .f32⟩
  | 55 => ⟨S38912x512, .f32⟩
  | 56 => ⟨S38912x512, .f32⟩
  | 57 => ⟨S1x1024x512, .f32⟩
  | 58 => ⟨S1024x512, .f32⟩
  | 59 => ⟨S38912x512, .f32⟩
  | 60 => ⟨S38912x512, .f32⟩
  | 61 => ⟨S38912x1, .f32⟩
  | 62 => ⟨S1x512x1024, .f32⟩
  | 63 => ⟨S512x1024, .f32⟩
  | 64 => ⟨S38912x1024, .f32⟩
  | 65 => ⟨S38912x1024, .f32⟩
  | 66 => ⟨S38912x1024, .f32⟩
  | 67 => ⟨S38912x1024, .f32⟩
  | 68 => ⟨S1x1024x512, .f32⟩
  | 69 => ⟨S1024x512, .f32⟩
  | 70 => ⟨S38912x512, .f32⟩
  | 71 => ⟨S38912x512, .f32⟩
  | 72 => ⟨S38912x512, .f32⟩
  | 73 => ⟨S_, .f32⟩
  | 74 => ⟨S38912x512, .f32⟩
  | 75 => ⟨S38912x512, .f32⟩
  | 76 => ⟨S_, .f32⟩
  | 77 => ⟨S38912x512, .f32⟩
  | 78 => ⟨S38912x512, .f32⟩
  | 79 => ⟨S38912x512, .f32⟩
  | 80 => ⟨S1x1024x512, .f32⟩
  | 81 => ⟨S1024x512, .f32⟩
  | 82 => ⟨S38912x512, .f32⟩
  | 83 => ⟨S38912x512, .f32⟩
  | 84 => ⟨S38912x1, .f32⟩
  | 85 => ⟨S1x512x1024, .f32⟩
  | 86 => ⟨S512x1024, .f32⟩
  | 87 => ⟨S38912x1024, .f32⟩
  | 88 => ⟨S38912x1024, .f32⟩
  | 89 => ⟨S38912x1024, .f32⟩
  | 90 => ⟨S38912x1024, .f32⟩
  | 91 => ⟨S1x1024x512, .f32⟩
  | 92 => ⟨S1024x512, .f32⟩
  | 93 => ⟨S38912x512, .f32⟩
  | 94 => ⟨S38912x512, .f32⟩
  | 95 => ⟨S38912x512, .f32⟩
  | 96 => ⟨S_, .f32⟩
  | 97 => ⟨S38912x512, .f32⟩
  | 98 => ⟨S38912x512, .f32⟩
  | 99 => ⟨S_, .f32⟩
  | 100 => ⟨S38912x512, .f32⟩
  | 101 => ⟨S38912x512, .f32⟩
  | 102 => ⟨S38912x512, .f32⟩
  | 103 => ⟨S1x1024x512, .f32⟩
  | 104 => ⟨S1024x512, .f32⟩
  | 105 => ⟨S38912x512, .f32⟩
  | 106 => ⟨S38912x512, .f32⟩
  | 107 => ⟨S38912x1, .f32⟩
  | 108 => ⟨S1x512x1024, .f32⟩
  | 109 => ⟨S512x1024, .f32⟩
  | 110 => ⟨S38912x1024, .f32⟩
  | 111 => ⟨S38912x1024, .f32⟩
  | 112 => ⟨S38912x1024, .f32⟩
  | 113 => ⟨S38912x1024, .f32⟩
  | _ => ⟨S24, .i32⟩

abbrev hbmTy (i : Nat) : BufTy := match i / 128 with
  | 0 => hbmTy0_0 i
  | 1 => hbmTy0_1 i
  | 2 => hbmTy0_2 i
  | 3 => hbmTy0_3 i
  | _ => ⟨S24, .i32⟩

abbrev bufTy : (tb : Table) → Fin (tcTables nBuf tb) → BufTy
  | .hbm, ⟨i, _⟩ => hbmTy i
  | _, _ => ⟨S24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_c_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v17 : Ref sig .tc := ⟨.hbm, 40, rfl⟩
abbrev main_c_1 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v18 : Ref sig .tc := ⟨.hbm, 62, rfl⟩
abbrev main_c_2 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_c_4 : Ref sig .tc := ⟨.hbm, 69, rfl⟩
abbrev main_c_5 : Ref sig .tc := ⟨.hbm, 70, rfl⟩
abbrev main_call2_v0 : Ref sig .tc := ⟨.hbm, 71, rfl⟩
abbrev main_call2_v1 : Ref sig .tc := ⟨.hbm, 72, rfl⟩
abbrev main_v23 : Ref sig .tc := ⟨.hbm, 73, rfl⟩
abbrev main_c_6 : Ref sig .tc := ⟨.hbm, 74, rfl⟩
abbrev main_call3_v0 : Ref sig .tc := ⟨.hbm, 75, rfl⟩
abbrev main_v24 : Ref sig .tc := ⟨.hbm, 76, rfl⟩
abbrev main_c_7 : Ref sig .tc := ⟨.hbm, 77, rfl⟩
abbrev main_v25 : Ref sig .tc := ⟨.hbm, 78, rfl⟩
abbrev main_v26 : Ref sig .tc := ⟨.hbm, 79, rfl⟩
abbrev main_c_8 : Ref sig .tc := ⟨.hbm, 80, rfl⟩
abbrev main_v27 : Ref sig .tc := ⟨.hbm, 81, rfl⟩
abbrev main_v28 : Ref sig .tc := ⟨.hbm, 82, rfl⟩
abbrev main_c_9 : Ref sig .tc := ⟨.hbm, 83, rfl⟩
abbrev main_v29 : Ref sig .tc := ⟨.hbm, 84, rfl⟩
abbrev main_v30 : Ref sig .tc := ⟨.hbm, 85, rfl⟩
abbrev main_c_10 : Ref sig .tc := ⟨.hbm, 86, rfl⟩
abbrev main_v31 : Ref sig .tc := ⟨.hbm, 87, rfl⟩
abbrev main_v32 : Ref sig .tc := ⟨.hbm, 88, rfl⟩
abbrev main_c_11 : Ref sig .tc := ⟨.hbm, 89, rfl⟩
abbrev main_call4_v0 : Ref sig .tc := ⟨.hbm, 90, rfl⟩
abbrev main_call4_v1 : Ref sig .tc := ⟨.hbm, 91, rfl⟩
abbrev main_v33 : Ref sig .tc := ⟨.hbm, 92, rfl⟩
abbrev main_v34 : Ref sig .tc := ⟨.hbm, 93, rfl⟩
abbrev main_c_12 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_call6_v0 : Ref sig .tc := ⟨.hbm, 99, rfl⟩
abbrev main_call6_v1 : Ref sig .tc := ⟨.hbm, 100, rfl⟩
abbrev main_call6_v2 : Ref sig .tc := ⟨.hbm, 101, rfl⟩
abbrev main_call6_v3 : Ref sig .tc := ⟨.hbm, 102, rfl⟩
abbrev main_call6_v4 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_c_13 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_call7_v0 : Ref sig .tc := ⟨.hbm, 112, rfl⟩
abbrev main_call7_v1 : Ref sig .tc := ⟨.hbm, 113, rfl⟩
abbrev main_call7_v2 : Ref sig .tc := ⟨.hbm, 114, rfl⟩
abbrev main_call7_v3 : Ref sig .tc := ⟨.hbm, 115, rfl⟩
abbrev main_call7_v4 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_cst : Ref sig .tc := ⟨.hbm, 123, rfl⟩
abbrev main_call8_v0 : Ref sig .tc := ⟨.hbm, 124, rfl⟩
abbrev main_call8_v1 : Ref sig .tc := ⟨.hbm, 125, rfl⟩
abbrev main_call8_v2 : Ref sig .tc := ⟨.hbm, 126, rfl⟩
abbrev main_v52 : Ref sig .tc := ⟨.hbm, 127, rfl⟩
abbrev main_cst_14 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_call9_v0 : Ref sig .tc := ⟨.hbm, 133, rfl⟩
abbrev main_call9_v1 : Ref sig .tc := ⟨.hbm, 134, rfl⟩
abbrev main_call9_cst : Ref sig .tc := ⟨.hbm, 135, rfl⟩
abbrev main_call9_v2 : Ref sig .tc := ⟨.hbm, 136, rfl⟩
abbrev main_call9_v3 : Ref sig .tc := ⟨.hbm, 137, rfl⟩
abbrev main_call9_cst_0 : Ref sig .tc := ⟨.hbm, 138, rfl⟩
abbrev main_call9_v4 : Ref sig .tc := ⟨.hbm, 139, rfl⟩
abbrev main_call9_v5 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_call10_v0 : Ref sig .tc := ⟨.hbm, 156, rfl⟩
abbrev main_call10_v1 : Ref sig .tc := ⟨.hbm, 157, rfl⟩
abbrev main_call10_cst : Ref sig .tc := ⟨.hbm, 158, rfl⟩
abbrev main_call10_v2 : Ref sig .tc := ⟨.hbm, 159, rfl⟩
abbrev main_call10_v3 : Ref sig .tc := ⟨.hbm, 160, rfl⟩
abbrev main_call10_cst_0 : Ref sig .tc := ⟨.hbm, 161, rfl⟩
abbrev main_call10_v4 : Ref sig .tc := ⟨.hbm, 162, rfl⟩
abbrev main_call10_v5 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_call11_v0 : Ref sig .tc := ⟨.hbm, 179, rfl⟩
abbrev main_call11_v1 : Ref sig .tc := ⟨.hbm, 180, rfl⟩
abbrev main_call11_cst : Ref sig .tc := ⟨.hbm, 181, rfl⟩
abbrev main_call11_v2 : Ref sig .tc := ⟨.hbm, 182, rfl⟩
abbrev main_call11_v3 : Ref sig .tc := ⟨.hbm, 183, rfl⟩
abbrev main_call11_cst_0 : Ref sig .tc := ⟨.hbm, 184, rfl⟩
abbrev main_call11_v4 : Ref sig .tc := ⟨.hbm, 185, rfl⟩
abbrev main_call11_v5 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_v97 : Ref sig .tc := ⟨.hbm, 197, rfl⟩
abbrev main_v98 : Ref sig .tc := ⟨.hbm, 198, rfl⟩
abbrev main_v99 : Ref sig .tc := ⟨.hbm, 199, rfl⟩
abbrev main_v100 : Ref sig .tc := ⟨.hbm, 200, rfl⟩
abbrev main_v101 : Ref sig .tc := ⟨.hbm, 201, rfl⟩
abbrev main_call12_v0 : Ref sig .tc := ⟨.hbm, 202, rfl⟩
abbrev main_call12_v1 : Ref sig .tc := ⟨.hbm, 203, rfl⟩
abbrev main_call12_cst : Ref sig .tc := ⟨.hbm, 204, rfl⟩
abbrev main_call12_v2 : Ref sig .tc := ⟨.hbm, 205, rfl⟩
abbrev main_call12_v3 : Ref sig .tc := ⟨.hbm, 206, rfl⟩
abbrev main_call12_cst_0 : Ref sig .tc := ⟨.hbm, 207, rfl⟩
abbrev main_call12_v4 : Ref sig .tc := ⟨.hbm, 208, rfl⟩
abbrev main_call12_v5 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_call13_v0 : Ref sig .tc := ⟨.hbm, 225, rfl⟩
abbrev main_call13_v1 : Ref sig .tc := ⟨.hbm, 226, rfl⟩
abbrev main_call13_cst : Ref sig .tc := ⟨.hbm, 227, rfl⟩
abbrev main_call13_v2 : Ref sig .tc := ⟨.hbm, 228, rfl⟩
abbrev main_call13_v3 : Ref sig .tc := ⟨.hbm, 229, rfl⟩
abbrev main_call13_cst_0 : Ref sig .tc := ⟨.hbm, 230, rfl⟩
abbrev main_call13_v4 : Ref sig .tc := ⟨.hbm, 231, rfl⟩
abbrev main_call13_v5 : Ref sig .tc := ⟨.hbm, 232, rfl⟩
abbrev main_v117 : Ref sig .tc := ⟨.hbm, 233, rfl⟩
abbrev main_v118 : Ref sig .tc := ⟨.hbm, 234, rfl⟩
abbrev main_v119 : Ref sig .tc := ⟨.hbm, 235, rfl⟩
abbrev main_v120 : Ref sig .tc := ⟨.hbm, 236, rfl⟩
abbrev main_v121 : Ref sig .tc := ⟨.hbm, 237, rfl⟩
abbrev main_v122 : Ref sig .tc := ⟨.hbm, 238, rfl⟩
abbrev main_v123 : Ref sig .tc := ⟨.hbm, 239, rfl⟩
abbrev main_v124 : Ref sig .tc := ⟨.hbm, 240, rfl⟩
abbrev main_v125 : Ref sig .tc := ⟨.hbm, 241, rfl⟩
abbrev main_v126 : Ref sig .tc := ⟨.hbm, 242, rfl⟩
abbrev main_v127 : Ref sig .tc := ⟨.hbm, 243, rfl⟩
abbrev main_v128 : Ref sig .tc := ⟨.hbm, 244, rfl⟩
abbrev main_v129 : Ref sig .tc := ⟨.hbm, 245, rfl⟩
abbrev main_v130 : Ref sig .tc := ⟨.hbm, 246, rfl⟩
abbrev main_v131 : Ref sig .tc := ⟨.hbm, 247, rfl⟩
abbrev main_call14_v0 : Ref sig .tc := ⟨.hbm, 248, rfl⟩
abbrev main_call14_v1 : Ref sig .tc := ⟨.hbm, 249, rfl⟩
abbrev main_call14_cst : Ref sig .tc := ⟨.hbm, 250, rfl⟩
abbrev main_call14_v2 : Ref sig .tc := ⟨.hbm, 251, rfl⟩
abbrev main_call14_v3 : Ref sig .tc := ⟨.hbm, 252, rfl⟩
abbrev main_call14_cst_0 : Ref sig .tc := ⟨.hbm, 253, rfl⟩
abbrev main_call14_v4 : Ref sig .tc := ⟨.hbm, 254, rfl⟩
abbrev main_call14_v5 : Ref sig .tc := ⟨.hbm, 255, rfl⟩
abbrev main_v132 : Ref sig .tc := ⟨.hbm, 256, rfl⟩
abbrev main_v133 : Ref sig .tc := ⟨.hbm, 257, rfl⟩
abbrev main_v134 : Ref sig .tc := ⟨.hbm, 258, rfl⟩
abbrev main_v135 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev main_v146 : Ref sig .tc := ⟨.hbm, 270, rfl⟩
abbrev main_call15_v0 : Ref sig .tc := ⟨.hbm, 271, rfl⟩
abbrev main_call15_v1 : Ref sig .tc := ⟨.hbm, 272, rfl⟩
abbrev main_call15_cst : Ref sig .tc := ⟨.hbm, 273, rfl⟩
abbrev main_call15_v2 : Ref sig .tc := ⟨.hbm, 274, rfl⟩
abbrev main_call15_v3 : Ref sig .tc := ⟨.hbm, 275, rfl⟩
abbrev main_call15_cst_0 : Ref sig .tc := ⟨.hbm, 276, rfl⟩
abbrev main_call15_v4 : Ref sig .tc := ⟨.hbm, 277, rfl⟩
abbrev main_call15_v5 : Ref sig .tc := ⟨.hbm, 278, rfl⟩
abbrev main_v147 : Ref sig .tc := ⟨.hbm, 279, rfl⟩
abbrev main_v148 : Ref sig .tc := ⟨.hbm, 280, rfl⟩
abbrev main_v149 : Ref sig .tc := ⟨.hbm, 281, rfl⟩
abbrev main_v150 : Ref sig .tc := ⟨.hbm, 282, rfl⟩
abbrev main_v151 : Ref sig .tc := ⟨.hbm, 283, rfl⟩
abbrev main_v152 : Ref sig .tc := ⟨.hbm, 284, rfl⟩
abbrev main_v153 : Ref sig .tc := ⟨.hbm, 285, rfl⟩
abbrev main_v154 : Ref sig .tc := ⟨.hbm, 286, rfl⟩
abbrev main_v155 : Ref sig .tc := ⟨.hbm, 287, rfl⟩
abbrev main_v156 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_v160 : Ref sig .tc := ⟨.hbm, 292, rfl⟩
abbrev main_v161 : Ref sig .tc := ⟨.hbm, 293, rfl⟩
abbrev main_call16_v0 : Ref sig .tc := ⟨.hbm, 294, rfl⟩
abbrev main_call16_v1 : Ref sig .tc := ⟨.hbm, 295, rfl⟩
abbrev main_call16_cst : Ref sig .tc := ⟨.hbm, 296, rfl⟩
abbrev main_call16_v2 : Ref sig .tc := ⟨.hbm, 297, rfl⟩
abbrev main_call16_v3 : Ref sig .tc := ⟨.hbm, 298, rfl⟩
abbrev main_call16_cst_0 : Ref sig .tc := ⟨.hbm, 299, rfl⟩
abbrev main_call16_v4 : Ref sig .tc := ⟨.hbm, 300, rfl⟩
abbrev main_call16_v5 : Ref sig .tc := ⟨.hbm, 301, rfl⟩
abbrev main_v162 : Ref sig .tc := ⟨.hbm, 302, rfl⟩
abbrev main_v163 : Ref sig .tc := ⟨.hbm, 303, rfl⟩
abbrev main_v164 : Ref sig .tc := ⟨.hbm, 304, rfl⟩
abbrev main_v165 : Ref sig .tc := ⟨.hbm, 305, rfl⟩
abbrev main_v166 : Ref sig .tc := ⟨.hbm, 306, rfl⟩
abbrev main_v167 : Ref sig .tc := ⟨.hbm, 307, rfl⟩
abbrev main_v168 : Ref sig .tc := ⟨.hbm, 308, rfl⟩
abbrev main_v169 : Ref sig .tc := ⟨.hbm, 309, rfl⟩
abbrev main_v170 : Ref sig .tc := ⟨.hbm, 310, rfl⟩
abbrev main_v171 : Ref sig .tc := ⟨.hbm, 311, rfl⟩
abbrev main_v172 : Ref sig .tc := ⟨.hbm, 312, rfl⟩
abbrev main_v173 : Ref sig .tc := ⟨.hbm, 313, rfl⟩
abbrev main_v174 : Ref sig .tc := ⟨.hbm, 314, rfl⟩
abbrev main_v175 : Ref sig .tc := ⟨.hbm, 315, rfl⟩
abbrev main_v176 : Ref sig .tc := ⟨.hbm, 316, rfl⟩
abbrev main_call17_v0 : Ref sig .tc := ⟨.hbm, 317, rfl⟩
abbrev main_call17_v1 : Ref sig .tc := ⟨.hbm, 318, rfl⟩
abbrev main_call17_cst : Ref sig .tc := ⟨.hbm, 319, rfl⟩
abbrev main_call17_v2 : Ref sig .tc := ⟨.hbm, 320, rfl⟩
abbrev main_call17_v3 : Ref sig .tc := ⟨.hbm, 321, rfl⟩
abbrev main_call17_cst_0 : Ref sig .tc := ⟨.hbm, 322, rfl⟩
abbrev main_call17_v4 : Ref sig .tc := ⟨.hbm, 323, rfl⟩
abbrev main_call17_v5 : Ref sig .tc := ⟨.hbm, 324, rfl⟩
abbrev main_v177 : Ref sig .tc := ⟨.hbm, 325, rfl⟩
abbrev main_v178 : Ref sig .tc := ⟨.hbm, 326, rfl⟩
abbrev main_v179 : Ref sig .tc := ⟨.hbm, 327, rfl⟩
abbrev main_v180 : Ref sig .tc := ⟨.hbm, 328, rfl⟩
abbrev main_v181 : Ref sig .tc := ⟨.hbm, 329, rfl⟩
abbrev main_v182 : Ref sig .tc := ⟨.hbm, 330, rfl⟩
abbrev main_v183 : Ref sig .tc := ⟨.hbm, 331, rfl⟩
abbrev main_v184 : Ref sig .tc := ⟨.hbm, 332, rfl⟩
abbrev main_v185 : Ref sig .tc := ⟨.hbm, 333, rfl⟩
abbrev main_v186 : Ref sig .tc := ⟨.hbm, 334, rfl⟩
abbrev main_v187 : Ref sig .tc := ⟨.hbm, 335, rfl⟩
abbrev main_v188 : Ref sig .tc := ⟨.hbm, 336, rfl⟩
abbrev main_v189 : Ref sig .tc := ⟨.hbm, 337, rfl⟩
abbrev main_v190 : Ref sig .tc := ⟨.hbm, 338, rfl⟩
abbrev main_v191 : Ref sig .tc := ⟨.hbm, 339, rfl⟩
abbrev main_call18_v0 : Ref sig .tc := ⟨.hbm, 340, rfl⟩
abbrev main_call18_v1 : Ref sig .tc := ⟨.hbm, 341, rfl⟩
abbrev main_call18_cst : Ref sig .tc := ⟨.hbm, 342, rfl⟩
abbrev main_call18_v2 : Ref sig .tc := ⟨.hbm, 343, rfl⟩
abbrev main_call18_v3 : Ref sig .tc := ⟨.hbm, 344, rfl⟩
abbrev main_call18_cst_0 : Ref sig .tc := ⟨.hbm, 345, rfl⟩
abbrev main_call18_v4 : Ref sig .tc := ⟨.hbm, 346, rfl⟩
abbrev main_call18_v5 : Ref sig .tc := ⟨.hbm, 347, rfl⟩
abbrev main_v192 : Ref sig .tc := ⟨.hbm, 348, rfl⟩
abbrev main_v193 : Ref sig .tc := ⟨.hbm, 349, rfl⟩
abbrev main_v194 : Ref sig .tc := ⟨.hbm, 350, rfl⟩
abbrev main_v195 : Ref sig .tc := ⟨.hbm, 351, rfl⟩
abbrev main_v196 : Ref sig .tc := ⟨.hbm, 352, rfl⟩
abbrev main_v197 : Ref sig .tc := ⟨.hbm, 353, rfl⟩
abbrev main_v198 : Ref sig .tc := ⟨.hbm, 354, rfl⟩
abbrev main_v199 : Ref sig .tc := ⟨.hbm, 355, rfl⟩
abbrev main_v200 : Ref sig .tc := ⟨.hbm, 356, rfl⟩
abbrev main_v201 : Ref sig .tc := ⟨.hbm, 357, rfl⟩
abbrev main_v202 : Ref sig .tc := ⟨.hbm, 358, rfl⟩
abbrev main_v203 : Ref sig .tc := ⟨.hbm, 359, rfl⟩
abbrev main_v204 : Ref sig .tc := ⟨.hbm, 360, rfl⟩
abbrev main_v205 : Ref sig .tc := ⟨.hbm, 361, rfl⟩
abbrev main_v206 : Ref sig .tc := ⟨.hbm, 362, rfl⟩
abbrev main_call19_v0 : Ref sig .tc := ⟨.hbm, 363, rfl⟩
abbrev main_call19_v1 : Ref sig .tc := ⟨.hbm, 364, rfl⟩
abbrev main_call19_cst : Ref sig .tc := ⟨.hbm, 365, rfl⟩
abbrev main_call19_v2 : Ref sig .tc := ⟨.hbm, 366, rfl⟩
abbrev main_call19_v3 : Ref sig .tc := ⟨.hbm, 367, rfl⟩
abbrev main_call19_cst_0 : Ref sig .tc := ⟨.hbm, 368, rfl⟩
abbrev main_call19_v4 : Ref sig .tc := ⟨.hbm, 369, rfl⟩
abbrev main_call19_v5 : Ref sig .tc := ⟨.hbm, 370, rfl⟩
abbrev main_v207 : Ref sig .tc := ⟨.hbm, 371, rfl⟩
abbrev main_v208 : Ref sig .tc := ⟨.hbm, 372, rfl⟩
abbrev main_v209 : Ref sig .tc := ⟨.hbm, 373, rfl⟩
abbrev main_v210 : Ref sig .tc := ⟨.hbm, 374, rfl⟩
abbrev main_v211 : Ref sig .tc := ⟨.hbm, 375, rfl⟩
abbrev main_v212 : Ref sig .tc := ⟨.hbm, 376, rfl⟩
abbrev main_v213 : Ref sig .tc := ⟨.hbm, 377, rfl⟩
abbrev main_v214 : Ref sig .tc := ⟨.hbm, 378, rfl⟩
abbrev main_v215 : Ref sig .tc := ⟨.hbm, 379, rfl⟩
abbrev main_v216 : Ref sig .tc := ⟨.hbm, 380, rfl⟩
abbrev main_v217 : Ref sig .tc := ⟨.hbm, 381, rfl⟩
abbrev main_v218 : Ref sig .tc := ⟨.hbm, 382, rfl⟩
abbrev main_v219 : Ref sig .tc := ⟨.hbm, 383, rfl⟩
abbrev main_v220 : Ref sig .tc := ⟨.hbm, 384, rfl⟩
abbrev main_v221 : Ref sig .tc := ⟨.hbm, 385, rfl⟩
abbrev main_call20_v0 : Ref sig .tc := ⟨.hbm, 386, rfl⟩
abbrev main_call20_v1 : Ref sig .tc := ⟨.hbm, 387, rfl⟩
abbrev main_call20_cst : Ref sig .tc := ⟨.hbm, 388, rfl⟩
abbrev main_call20_v2 : Ref sig .tc := ⟨.hbm, 389, rfl⟩
abbrev main_call20_v3 : Ref sig .tc := ⟨.hbm, 390, rfl⟩
abbrev main_call20_cst_0 : Ref sig .tc := ⟨.hbm, 391, rfl⟩
abbrev main_call20_v4 : Ref sig .tc := ⟨.hbm, 392, rfl⟩
abbrev main_call20_v5 : Ref sig .tc := ⟨.hbm, 393, rfl⟩
abbrev main_v222 : Ref sig .tc := ⟨.hbm, 394, rfl⟩
abbrev main_v223 : Ref sig .tc := ⟨.hbm, 395, rfl⟩
abbrev main_v224 : Ref sig .tc := ⟨.hbm, 396, rfl⟩
abbrev main_v225 : Ref sig .tc := ⟨.hbm, 397, rfl⟩
abbrev main_v226 : Ref sig .tc := ⟨.hbm, 398, rfl⟩
abbrev main_v227 : Ref sig .tc := ⟨.hbm, 399, rfl⟩
abbrev main_v228 : Ref sig .tc := ⟨.hbm, 400, rfl⟩
abbrev main_v229 : Ref sig .tc := ⟨.hbm, 401, rfl⟩
abbrev main_v230 : Ref sig .tc := ⟨.hbm, 402, rfl⟩
abbrev main_v231 : Ref sig .tc := ⟨.hbm, 403, rfl⟩
abbrev main_v232 : Ref sig .tc := ⟨.hbm, 404, rfl⟩
abbrev main_v233 : Ref sig .tc := ⟨.hbm, 405, rfl⟩
abbrev main_v234 : Ref sig .tc := ⟨.hbm, 406, rfl⟩
abbrev main_v235 : Ref sig .tc := ⟨.hbm, 407, rfl⟩
abbrev main_v236 : Ref sig .tc := ⟨.hbm, 408, rfl⟩
abbrev main_call21_v0 : Ref sig .tc := ⟨.hbm, 409, rfl⟩
abbrev main_call21_v1 : Ref sig .tc := ⟨.hbm, 410, rfl⟩
abbrev main_call21_cst : Ref sig .tc := ⟨.hbm, 411, rfl⟩
abbrev main_call21_v2 : Ref sig .tc := ⟨.hbm, 412, rfl⟩
abbrev main_call21_v3 : Ref sig .tc := ⟨.hbm, 413, rfl⟩
abbrev main_call21_cst_0 : Ref sig .tc := ⟨.hbm, 414, rfl⟩
abbrev main_call21_v4 : Ref sig .tc := ⟨.hbm, 415, rfl⟩
abbrev main_call21_v5 : Ref sig .tc := ⟨.hbm, 416, rfl⟩
abbrev main_v237 : Ref sig .tc := ⟨.hbm, 417, rfl⟩
abbrev main_v238 : Ref sig .tc := ⟨.hbm, 418, rfl⟩
abbrev main_v239 : Ref sig .tc := ⟨.hbm, 419, rfl⟩
abbrev main_v240 : Ref sig .tc := ⟨.hbm, 420, rfl⟩
abbrev main_v241 : Ref sig .tc := ⟨.hbm, 421, rfl⟩
abbrev main_v242 : Ref sig .tc := ⟨.hbm, 422, rfl⟩
abbrev main_v243 : Ref sig .tc := ⟨.hbm, 423, rfl⟩
abbrev main_v244 : Ref sig .tc := ⟨.hbm, 424, rfl⟩
abbrev main_v245 : Ref sig .tc := ⟨.hbm, 425, rfl⟩
abbrev main_v246 : Ref sig .tc := ⟨.hbm, 426, rfl⟩
abbrev main_v247 : Ref sig .tc := ⟨.hbm, 427, rfl⟩
abbrev main_v248 : Ref sig .tc := ⟨.hbm, 428, rfl⟩
abbrev main_v249 : Ref sig .tc := ⟨.hbm, 429, rfl⟩
abbrev main_v250 : Ref sig .tc := ⟨.hbm, 430, rfl⟩
abbrev main_v251 : Ref sig .tc := ⟨.hbm, 431, rfl⟩
abbrev main_call22_v0 : Ref sig .tc := ⟨.hbm, 432, rfl⟩
abbrev main_call22_v1 : Ref sig .tc := ⟨.hbm, 433, rfl⟩
abbrev main_call22_cst : Ref sig .tc := ⟨.hbm, 434, rfl⟩
abbrev main_call22_v2 : Ref sig .tc := ⟨.hbm, 435, rfl⟩
abbrev main_call22_v3 : Ref sig .tc := ⟨.hbm, 436, rfl⟩
abbrev main_call22_cst_0 : Ref sig .tc := ⟨.hbm, 437, rfl⟩
abbrev main_call22_v4 : Ref sig .tc := ⟨.hbm, 438, rfl⟩
abbrev main_call22_v5 : Ref sig .tc := ⟨.hbm, 439, rfl⟩
abbrev main_v252 : Ref sig .tc := ⟨.hbm, 440, rfl⟩
abbrev main_v253 : Ref sig .tc := ⟨.hbm, 441, rfl⟩
abbrev main_v254 : Ref sig .tc := ⟨.hbm, 442, rfl⟩
abbrev main_v255 : Ref sig .tc := ⟨.hbm, 443, rfl⟩
abbrev main_v256 : Ref sig .tc := ⟨.hbm, 444, rfl⟩
abbrev main_v257 : Ref sig .tc := ⟨.hbm, 445, rfl⟩
abbrev main_v258 : Ref sig .tc := ⟨.hbm, 446, rfl⟩
abbrev main_v259 : Ref sig .tc := ⟨.hbm, 447, rfl⟩
abbrev main_v260 : Ref sig .tc := ⟨.hbm, 448, rfl⟩
abbrev main_v261 : Ref sig .tc := ⟨.hbm, 449, rfl⟩
abbrev main_v262 : Ref sig .tc := ⟨.hbm, 450, rfl⟩
abbrev main_v263 : Ref sig .tc := ⟨.hbm, 451, rfl⟩
abbrev main_v264 : Ref sig .tc := ⟨.hbm, 452, rfl⟩
abbrev main_v265 : Ref sig .tc := ⟨.hbm, 453, rfl⟩
abbrev main_v266 : Ref sig .tc := ⟨.hbm, 454, rfl⟩
abbrev main_call23_v0 : Ref sig .tc := ⟨.hbm, 455, rfl⟩
abbrev main_call23_v1 : Ref sig .tc := ⟨.hbm, 456, rfl⟩
abbrev main_call23_cst : Ref sig .tc := ⟨.hbm, 457, rfl⟩
abbrev main_call23_v2 : Ref sig .tc := ⟨.hbm, 458, rfl⟩
abbrev main_call23_v3 : Ref sig .tc := ⟨.hbm, 459, rfl⟩
abbrev main_call23_cst_0 : Ref sig .tc := ⟨.hbm, 460, rfl⟩
abbrev main_call23_v4 : Ref sig .tc := ⟨.hbm, 461, rfl⟩
abbrev main_call23_v5 : Ref sig .tc := ⟨.hbm, 462, rfl⟩
abbrev main_v267 : Ref sig .tc := ⟨.hbm, 463, rfl⟩
abbrev main_v268 : Ref sig .tc := ⟨.hbm, 464, rfl⟩
abbrev main_v269 : Ref sig .tc := ⟨.hbm, 465, rfl⟩
abbrev main_v270 : Ref sig .tc := ⟨.hbm, 466, rfl⟩
abbrev main_v271 : Ref sig .tc := ⟨.hbm, 467, rfl⟩
abbrev main_v272 : Ref sig .tc := ⟨.hbm, 468, rfl⟩
abbrev main_v273 : Ref sig .tc := ⟨.hbm, 469, rfl⟩
abbrev main_v274 : Ref sig .tc := ⟨.hbm, 470, rfl⟩
abbrev main_v275 : Ref sig .tc := ⟨.hbm, 471, rfl⟩
abbrev main_v276 : Ref sig .tc := ⟨.hbm, 472, rfl⟩
abbrev main_v277 : Ref sig .tc := ⟨.hbm, 473, rfl⟩
abbrev main_v278 : Ref sig .tc := ⟨.hbm, 474, rfl⟩
abbrev main_v279 : Ref sig .tc := ⟨.hbm, 475, rfl⟩
abbrev main_v280 : Ref sig .tc := ⟨.hbm, 476, rfl⟩
abbrev main_v281 : Ref sig .tc := ⟨.hbm, 477, rfl⟩
abbrev main_call24_v0 : Ref sig .tc := ⟨.hbm, 478, rfl⟩
abbrev main_call24_v1 : Ref sig .tc := ⟨.hbm, 479, rfl⟩
abbrev main_call24_cst : Ref sig .tc := ⟨.hbm, 480, rfl⟩
abbrev main_call24_v2 : Ref sig .tc := ⟨.hbm, 481, rfl⟩
abbrev main_call24_v3 : Ref sig .tc := ⟨.hbm, 482, rfl⟩
abbrev main_call24_cst_0 : Ref sig .tc := ⟨.hbm, 483, rfl⟩
abbrev main_call24_v4 : Ref sig .tc := ⟨.hbm, 484, rfl⟩
abbrev main_call24_v5 : Ref sig .tc := ⟨.hbm, 485, rfl⟩
abbrev main_v282 : Ref sig .tc := ⟨.hbm, 486, rfl⟩
abbrev main_v283 : Ref sig .tc := ⟨.hbm, 487, rfl⟩
abbrev main_v284 : Ref sig .tc := ⟨.hbm, 488, rfl⟩
abbrev main_v285 : Ref sig .tc := ⟨.hbm, 489, rfl⟩
abbrev main_v286 : Ref sig .tc := ⟨.hbm, 490, rfl⟩
abbrev main_v287 : Ref sig .tc := ⟨.hbm, 491, rfl⟩
abbrev main_v288 : Ref sig .tc := ⟨.hbm, 492, rfl⟩
abbrev main_v289 : Ref sig .tc := ⟨.hbm, 493, rfl⟩
abbrev main_v290 : Ref sig .tc := ⟨.hbm, 494, rfl⟩
abbrev main_v291 : Ref sig .tc := ⟨.hbm, 495, rfl⟩
abbrev main_v292 : Ref sig .tc := ⟨.hbm, 496, rfl⟩
abbrev main_v293 : Ref sig .tc := ⟨.hbm, 497, rfl⟩

abbrev nD : Nat := 1
abbrev τ : Topo := Topo.v7x

variable {F : FTy → Type} [FloatOps F]
-- ==== Proof.Softmax.lean ====
/-
  The softmax of a row, twice: with powers of two of scores already divided by log 2, the weighted sum
  divided by the sum of the weights at the end (what the kernel does); and with powers of e, each weight divided by
  their sum first (what the reference does). On a row of scores none of which is +∞ and one of which is
  a number, the two are one function: `base2_eq`. The kernel's row may hold further keys, all masked (score -∞).
-/
module

public import Idealize.ShloMosaic.PureOps.Ideal
public import Idealize.ShloMosaic.PureOps.Ideal.Laws
public import Mathlib.Data.EReal.Operations
public import Mathlib.Data.EReal.Inv
public import Mathlib.Analysis.SpecialFunctions.Pow.Real

@[expose] public section

noncomputable section

namespace Cert.Softmax

open Idealize.ShloMosaic

/-- The greatest entry of a row. -/
def top {n : Nat} (s : Fin n → EReal) : EReal := Finset.univ.fold max ⊥ s

/-- Weights by powers of two; the division after the sum. -/
def base2 {n : Nat} (s v : Fin n → EReal) : EReal :=
  Ideal.div (∑ k, Ideal.exp2 (s k - top s) * v k) (∑ k, Ideal.exp2 (s k - top s))

/-- Weights by powers of e, each divided by their sum. -/
def baseE {n : Nat} (s v : Fin n → EReal) : EReal :=
  ∑ k, v k * Ideal.div (Ideal.exp (s k - top s)) (∑ j, Ideal.exp (s j - top s))

theorem top_eq_sup {n : Nat} (s : Fin n → EReal) : top s = Finset.univ.sup s := rfl

theorem le_top {n : Nat} (s : Fin n → EReal) (k : Fin n) : s k ≤ top s := by
  rw [top_eq_sup]; exact Finset.le_sup (Finset.mem_univ k)

theorem top_le {n : Nat} (s : Fin n → EReal) (b : EReal) (h : ∀ k, s k ≤ b) : top s ≤ b := by
  rw [top_eq_sup]; exact Finset.sup_le fun k _ => h k

/-- The greatest entry is one of the entries. -/
theorem top_mem {n : Nat} (s : Fin n → EReal) (k : Fin n) : ∃ p, top s = s p := by
  obtain ⟨p, -, h⟩ := Finset.exists_mem_eq_sup Finset.univ ⟨k, Finset.mem_univ k⟩ s
  exact ⟨p, by rw [top_eq_sup, h]⟩

/-- A power of two of a difference of scaled scores is a power of e of the difference of the scores. -/
theorem exp2_scaled (c : ℝ) (hc : Real.log 2 * c = 1) (x y : EReal) :
    Ideal.exp2 ((c : EReal) * x - (c : EReal) * y) = Ideal.exp (x - y) := by
  have hpos : 0 < c := by
    have h2 : 0 < Real.log 2 := Real.log_pos one_lt_two
    by_contra hn
    have := mul_nonpos_of_nonneg_of_nonpos h2.le (not_lt.mp hn)
    linarith
  induction x with
  | bot =>
    rw [EReal.coe_mul_bot_of_pos hpos]
    simp only [EReal.bot_sub, Ideal.exp2_bot, Ideal.exp_bot]
  | top =>
    rw [EReal.coe_mul_top_of_pos hpos]
    induction y with
    | bot => rw [EReal.coe_mul_bot_of_pos hpos]; rfl
    | top => rw [EReal.coe_mul_top_of_pos hpos]; rfl
    | coe y => rw [← EReal.coe_mul, EReal.top_sub_coe, EReal.top_sub_coe]; rfl
  | coe x =>
    induction y with
    | bot => rw [EReal.coe_mul_bot_of_pos hpos, ← EReal.coe_mul, EReal.coe_sub_bot, EReal.coe_sub_bot]; rfl
    | top => rw [EReal.coe_mul_top_of_pos hpos, EReal.sub_top, EReal.sub_top]; rfl
    | coe y =>
      rw [← EReal.coe_mul, ← EReal.coe_mul, ← EReal.coe_sub, ← EReal.coe_sub, Ideal.exp2_coe, Ideal.exp_coe]
      congr 1
      show (2 : ℝ) ^ (c * x - c * y) = _
      rw [Real.rpow_def_of_pos two_pos]
      congr 1
      calc Real.log 2 * (c * x - c * y) = (Real.log 2 * c) * (x - y) := by ring
        _ = x - y := by rw [hc, one_mul]

/-- A sum over the long row that is zero off the image of the short row is the sum over the short row. -/
theorem sum_image {n m : Nat} (f : Fin n → Fin m) (hf : Function.Injective f) (g : Fin m → EReal)
    (h : ∀ k, (∀ p, f p ≠ k) → g k = 0) : ∑ k, g k = ∑ p, g (f p) := by
  classical
  rw [← Finset.sum_image (s := Finset.univ) (g := f) (f := g) (fun a _ b _ e => hf e)]
  refine (Finset.sum_subset (Finset.subset_univ _) fun k _ hk => h k fun p e => hk ?_).symm
  exact Finset.mem_image.mpr ⟨p, Finset.mem_univ p, e⟩

/-- The exponential of a nonpositive extended real (or junk) is a nonnegative real. -/
theorem exp_coe_of_ne_top (x : EReal) (hx : x ≠ ⊤) : ∃ r : ℝ, 0 ≤ r ∧ Ideal.exp x = (r : EReal) := by
  induction x with
  | bot => exact ⟨0, le_refl _, rfl⟩
  | top => exact absurd rfl hx
  | coe x => exact ⟨Real.exp x, (Real.exp_pos x).le, rfl⟩

theorem coe_finsum {n : Nat} (r : Fin n → ℝ) : ((∑ k, r k : ℝ) : EReal) = ∑ k, (r k : EReal) :=
  map_sum (⟨⟨fun x : ℝ => (x : EReal), rfl⟩, EReal.coe_add⟩ : ℝ →+ EReal) r Finset.univ

/-- A positive real factor goes through a sum of extended reals. -/
theorem mul_finsum (c : ℝ) (hc : 0 ≤ c) {n : Nat} (g : Fin n → EReal) : (c : EReal) * ∑ k, g k = ∑ k, (c : EReal) * g k := by
  classical
  refine Finset.induction_on (Finset.univ : Finset (Fin n)) ?_ ?_
  · simp
  · intro a s ha ih
    rw [Finset.sum_insert ha, Finset.sum_insert ha,
      EReal.left_distrib_of_nonneg_of_ne_top (EReal.coe_nonneg.mpr hc) (EReal.coe_ne_top c), ih]

theorem base2_eq {n m : Nat} (f : Fin n → Fin m) (hf : Function.Injective f) (S W : Fin n → EReal) (T V : Fin m → EReal)
    (c : ℝ) (hc : Real.log 2 * c = 1) (hc0 : 0 ≤ c)
    (hT : ∀ p, T (f p) = (c : EReal) * S p) (hoff : ∀ k, (∀ p, f p ≠ k) → T k = ⊥)
    (hV : ∀ p, S p ≠ ⊥ → V (f p) = W p) (hS : ∀ p, S p ≠ ⊤) (p₀ : Fin n) (h₀ : S p₀ ≠ ⊥) :
    base2 T V = baseE S W := by
  have hcE : (0 : EReal) ≤ (c : EReal) := EReal.coe_nonneg.mpr hc0
  -- the greatest score
  obtain ⟨pm, hpm⟩ := top_mem S p₀
  have htop : top T = (c : EReal) * top S := by
    apply le_antisymm
    · refine top_le T _ fun k => ?_
      by_cases hk : ∃ p, f p = k
      · obtain ⟨p, rfl⟩ := hk
        rw [hT]
        exact mul_le_mul_of_nonneg_left (le_top S p) hcE
      · rw [hoff k fun p e => hk ⟨p, e⟩]; exact bot_le
    · rw [hpm, ← hT]; exact le_top T _
  have hMtop : top S ≠ ⊤ := by rw [hpm]; exact hS pm
  have hMbot : top S ≠ ⊥ := fun h => h₀ (le_bot_iff.mp (h ▸ le_top S p₀))
  -- the weights
  have hw : ∀ p, Ideal.exp2 (T (f p) - top T) = Ideal.exp (S p - top S) := fun p => by
    rw [htop, hT]; exact exp2_scaled c hc _ _
  have hw0 : ∀ k, (∀ p, f p ≠ k) → Ideal.exp2 (T k - top T) = 0 := fun k hk => by
    rw [hoff k hk, EReal.bot_sub]; rfl
  have hreal : ∀ p, ∃ r : ℝ, 0 ≤ r ∧ Ideal.exp (S p - top S) = (r : EReal) := fun p => by
    refine exp_coe_of_ne_top _ fun h => ?_
    generalize hx : S p = x at h
    generalize hy : top S = y at h
    induction y with
    | bot => exact hMbot hy
    | top => exact hMtop hy
    | coe y =>
      induction x with
      | bot => simp at h
      | top => exact hS p hx
      | coe x => rw [← EReal.coe_sub] at h; exact EReal.coe_ne_top _ h
  choose r hr0 hr using hreal
  have hsum : ∑ j, Ideal.exp (S j - top S) = ((∑ j, r j : ℝ) : EReal) := by
    rw [coe_finsum]; exact Finset.sum_congr rfl fun j _ => hr j
  have hLpos : 0 < ∑ j, r j := by
    refine lt_of_lt_of_le ?_ (Finset.single_le_sum (fun j _ => hr0 j) (Finset.mem_univ pm))
    have h1 := hr pm
    rw [← hpm] at h1
    generalize hy : top S = y at h1 hMtop hMbot
    induction y with
    | bot => exact absurd rfl hMbot
    | top => exact absurd rfl hMtop
    | coe y =>
      rw [← EReal.coe_sub, Ideal.exp_coe] at h1
      rw [← EReal.coe_eq_coe_iff.mp h1]; exact Real.exp_pos _
  unfold base2 baseE
  rw [sum_image f hf _ (fun k hk => by rw [hw0 k hk, zero_mul]), sum_image f hf _ hw0]
  simp only [hw]
  rw [hsum]
  have hne : ((∑ j, r j : ℝ) : EReal) ≠ 0 := fun h => hLpos.ne' (EReal.coe_eq_zero.mp h)
  unfold Ideal.div
  simp only [if_neg hne]
  rw [← EReal.coe_inv, mul_comm, mul_finsum _ (inv_nonneg.mpr hLpos.le)]
  refine Finset.sum_congr rfl fun p _ => ?_
  by_cases hp : S p = ⊥
  · have : Ideal.exp (S p - top S) = 0 := by rw [hp, EReal.bot_sub]; rfl
    rw [this]; simp
  · rw [hV p hp, ← mul_assoc, mul_comm, mul_comm (Ideal.exp _)]

end Cert.Softmax

end
-- ==== Proof.Block.lean ====
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- Three key tiles set one under the other. -/
def stack3 (x y z : Vec Ideal S256x128 .bf16) : FVec Ideal S768x128 .bf16 :=
  concatenate S768x128 0 [⟨S256x128, shapeCast S256x128 x shapeCasts_S256x128_S256x128⟩,
    ⟨S256x128, shapeCast S256x128 y shapeCasts_S256x128_S256x128⟩,
    ⟨S256x128, shapeCast S256x128 z shapeCasts_S256x128_S256x128⟩] concatenates_S256x128_S256x128_S256x128_S768x128_d0

/-- The query tile twice, the second head's lanes cleared in the first copy and the first head's in the second. -/
def split2 (q : Vec Ideal S256x128 .bf16) : FVec Ideal S512x128 .bf16 :=
  concatenate S512x128 0
    [⟨S256x128, select k0_pay1 (shapeCast S256x128 q shapeCasts_S256x128_S256x128) (broadcast S256x128 (Scalar.ofBits .bf16 0x0000#16))⟩,
     ⟨S256x128, select k0_pay1 (broadcast S256x128 (Scalar.ofBits .bf16 0x0000#16)) (shapeCast S256x128 q shapeCasts_S256x128_S256x128)⟩]
    concatenates_S256x128_S256x128_S512x128_d0

/-- The scores of the two heads, one under the other, the bias added. -/
def scores (q2 : FVec Ideal S512x128 .bf16) (k : FVec Ideal S768x128 .bf16) (b : Vec Ideal S1x1x512x768 .f32) : FVec Ideal S512x768 .f32 :=
  addf (matmul dot_S512x128_S768x128_S512x768_1_1_0_0_n_n none q2 k (constant S512x768 .f32 0x00000000#32))
    (shapeCast S512x768 b shapeCasts_S1x1x512x768_S512x768)

/-- Powers of two of the scores less their row's greatest. -/
def weights (s : FVec Ideal S512x768 .f32) : FVec Ideal S512x768 .f32 :=
  exp2 (subf s (broadcastTo S512x768 (shapeCast S512x1
    (multiReduction .maximumf [1] S512 s 0xFF800000#32 reduces_S512x768_S512 (.inl rfl) rfl) shapeCasts_S512_S512x1) broadcasts_S512x1_S512x768))

/-- The weighted sums of the values over the sum of the weights. -/
def mixed (e : FVec Ideal S512x768 .f32) (v : FVec Ideal S768x128 .bf16) : FVec Ideal S512x128 .f32 :=
  divf (matmul dot_S512x768_S768x128_S512x128_1_0_0_1_n_n none (truncf .bf16 e bitsLt_bf16_f32) v (constant S512x128 .f32 0x00000000#32))
    (broadcastTo S512x128 (shapeCast S512x1
      (multiReduction .add [1] S512 e 0x00000000#32 reduces_S512x768_S512 (.inl rfl) rfl) shapeCasts_S512_S512x1) broadcasts_S512x1_S512x128)

/-- The first head's lanes of the upper half, the second head's of the lower half. -/
def pickHeads (o : FVec Ideal S512x128 .f32) : FVec Ideal S256x128 .bf16 :=
  truncf .bf16 (select k0_pay1 (extractStridedSlice S256x128 ![0, 0] o slices_S512x128_o0_0_S256x128)
    (extractStridedSlice S256x128 ![256, 0] o slices_S512x128_o256_0_S256x128)) bitsLt_bf16_f32

/-- One piece of the body: a 256-row query tile against three key tiles, for one pair of heads. -/
def piece (q k0 k1 k2 v0 v1 v2 : Vec Ideal S256x128 .bf16) (b : Vec Ideal S1x1x512x768 .f32) : FVec Ideal S256x128 .bf16 :=
  pickHeads (mixed (weights (scores (split2 q) (stack3 k0 k1 k2) b)) (stack3 v0 v1 v2))

section
variable (q a b c u v w : Vec Ideal S256x128 .bf16) (t : Vec Ideal S1x1x512x768 .f32)

theorem pay_r0 : k0_pay6 k0_pay1 (k0_pay2 u v w) (k0_pay4 q a b c t) (k0_pay5 q a b c t) = piece q a b c u v w t := rfl
theorem pay_r3 : k0_pay10 k0_pay1 (k0_pay7 u v w) (k0_pay8 k0_pay1 q a b c t) (k0_pay9 k0_pay1 q a b c t) = piece q a b c u v w t := rfl
theorem pay_r6 : k0_pay13 k0_pay1 (k0_pay11 u v w) (k0_pay12 k0_pay1 q a b c) t = piece q a b c u v w t := rfl
theorem pay_r9 : k0_pay17 k0_pay1 (k0_pay14 a b c) (k0_pay15 u v w) (k0_pay16 k0_pay1 q) (constant S512x768 .f32 0x00000000#32) t
    = piece q a b c u v w t := rfl
theorem pay_r12 : k0_pay21 k0_pay1 (k0_pay18 q) (k0_pay19 a b c) (k0_pay20 u v w) t = piece q a b c u v w t := rfl
theorem pay_r13 : k0_pay25 k0_pay1 (k0_pay22 q) (k0_pay23 a b c) (k0_pay24 u) v w t = piece q a b c u v w t := rfl
theorem pay_r14 : k0_pay28 k0_pay1 (k0_pay26 q) (k0_pay27 a b c) u v w t = piece q a b c u v w t := rfl
theorem pay_r15 : k0_pay32 k0_pay1 (k0_pay29 q) (k0_pay30 a) (k0_pay31 b) c u v w t = piece q a b c u v w t := rfl
end

/-- The key (or value) at position `k` of the three tiles set one under the other. -/
def tile3 (x y z : Vec Ideal S256x128 .bf16) (k : Fin 768) (l : Fin 128) : EReal :=
  if h : (k : Nat) < 256 then x (ix2 ⟨k, h⟩ l)
  else if h : (k : Nat) - 256 < 256 then y (ix2 ⟨(k : Nat) - 256, h⟩ l)
  else z (ix2 ⟨(k : Nat) - 256 - 256, by omega⟩ l)

theorem stack3_apply (x y z : Vec Ideal S256x128 .bf16) (k : Fin 768) (l : Fin 128) :
    stack3 x y z (ix2 k l) = tile3 x y z k l := by
  pointwise [stack3]
  rfl

/-- A lane of the 128 is in the lower half. -/
theorem lane_lt (l : Fin 128) : IntOp.cmpi CmpIPredicate.slt (BitVec.ofNat 32 (l : Nat)) 64#32 = if (l : Nat) < 64 then 1#1 else 0#1 := by
  revert l; decide +kernel

theorem split2_apply (q : Vec Ideal S256x128 .bf16) (r : Fin 512) (l : Fin 128) :
    split2 q (ix2 r l) = if h : (r : Nat) < 256 then (if (l : Nat) < 64 then q (ix2 ⟨r, h⟩ l) else 0)
      else (if (l : Nat) < 64 then 0 else q (ix2 ⟨(r : Nat) - 256, by omega⟩ l)) := by
  pointwise [split2, k0_pay1]
  rw [lane_lt]
  by_cases h : (r : Nat) < 256 <;> by_cases h' : (l : Nat) < 64 <;> simp only [h, h', if_true, if_false, dite_true, dite_false] <;> rfl

theorem scores_apply (q2 : FVec Ideal S512x128 .bf16) (k : FVec Ideal S768x128 .bf16) (b : Vec Ideal S1x1x512x768 .f32) (r : Fin 512) (j : Fin 768) :
    scores q2 k b (ix2 r j) = ∑ x, q2 (ix2 r x) * k (ix2 j x) + b (ix4 0 0 r j) := by
  pointwise [scores]

theorem ofBits_neg_inf : Ideal.ofBits FTy.f32 0xFF800000#32 = (⊥ : EReal) := by
  simp [Ideal.ofBits, Ideal.ieee]

theorem weights_apply (s : FVec Ideal S512x768 .f32) (r : Fin 512) (j : Fin 768) :
    weights s (ix2 r j) = Ideal.exp2 (s (ix2 r j) - Softmax.top fun x => s (ix2 r x)) := by
  pointwise [weights]
  rw [ofBits_neg_inf]
  rfl

theorem mixed_apply (e : FVec Ideal S512x768 .f32) (v : FVec Ideal S768x128 .bf16) (r : Fin 512) (l : Fin 128) :
    mixed e v (ix2 r l) = Ideal.div (∑ x, e (ix2 r x) * v (ix2 x l)) (∑ x, e (ix2 r x)) := by
  pointwise [mixed]

/-- A row of the stacked pair of heads, mixed: the softmax by powers of two of its scores. -/
theorem mixed_weights (s : FVec Ideal S512x768 .f32) (v : FVec Ideal S768x128 .bf16) (r : Fin 512) (l : Fin 128) :
    mixed (weights s) v (ix2 r l) = Softmax.base2 (fun x => s (ix2 r x)) (fun x => v (ix2 x l)) := by
  rw [mixed_apply]
  simp only [weights_apply]
  rfl

theorem pickHeads_apply (o : FVec Ideal S512x128 .f32) (r : Fin 256) (l : Fin 128) :
    pickHeads o (ix2 r l) = if (l : Nat) < 64 then o (ix2 ⟨r, by omega⟩ l) else o (ix2 ⟨256 + r, by omega⟩ l) := by
  pointwise [pickHeads, k0_pay1]
  rw [lane_lt]
  split <;> rfl

/-- A sum over 128 lanes whose upper half is zero. -/
theorem sum_lower (g : Fin 128 → EReal) (h : ∀ x : Fin 128, 64 ≤ (x : Nat) → g x = 0) :
    ∑ x, g x = ∑ d : Fin 64, g ⟨d, by omega⟩ :=
  Softmax.sum_image (fun d : Fin 64 => (⟨d, by omega⟩ : Fin 128)) (fun a b e => Fin.ext (Fin.mk.inj e)) g
    (fun k hk => h k (by by_contra hn; exact hk ⟨k, by omega⟩ rfl))

/-- A sum over 128 lanes whose lower half is zero. -/
theorem sum_upper (g : Fin 128 → EReal) (h : ∀ x : Fin 128, (x : Nat) < 64 → g x = 0) :
    ∑ x, g x = ∑ d : Fin 64, g ⟨64 + d, by omega⟩ :=
  Softmax.sum_image (fun d : Fin 64 => (⟨64 + d, by omega⟩ : Fin 128)) (fun a b e => Fin.ext (by have := Fin.mk.inj e; omega)) g
    (fun k hk => h k (by by_contra hn; exact hk ⟨(k : Nat) - 64, by omega⟩ (Fin.ext (by show 64 + ((k : Nat) - 64) = k; omega))))

/-- The lane `d` of the half of the 128 lanes that lane `l` lies in. -/
def lane (l : Fin 128) (d : Fin 64) : Fin 128 := ⟨64 * ((l : Nat) / 64) + d, by omega⟩

/-- Row `r` of the head that lane `l` belongs to, of the two heads' rows set one under the other. -/
def row2 (r : Fin 256) (l : Fin 128) : Fin 512 := ⟨256 * ((l : Nat) / 64) + r, by omega⟩

/-- One piece at row `r`, lane `l`: the softmax of the scores of lane `l`'s head. -/
theorem piece_apply (q k0 k1 k2 v0 v1 v2 : Vec Ideal S256x128 .bf16) (b : Vec Ideal S1x1x512x768 .f32) (r : Fin 256) (l : Fin 128) :
    piece q k0 k1 k2 v0 v1 v2 b (ix2 r l) = Softmax.base2
      (fun k => ∑ d : Fin 64, q (ix2 r (lane l d)) * tile3 k0 k1 k2 k (lane l d) + b (ix4 0 0 (row2 r l) k))
      (fun k => tile3 v0 v1 v2 k l) := by
  unfold piece
  rw [pickHeads_apply, mixed_weights, mixed_weights]
  simp only [scores_apply, stack3_apply, split2_apply]
  by_cases h : (l : Nat) < 64
  · have h0 : (l : Nat) / 64 = 0 := by omega
    rw [if_pos h]
    congr 1
    funext k
    simp only [show ((⟨(r : Nat), by omega⟩ : Fin 512) : Nat) < 256 from r.isLt, dite_true]
    rw [sum_lower _ (fun x hx => by rw [if_neg (by omega), zero_mul])]
    congr 1
    · refine Finset.sum_congr rfl fun d _ => ?_
      have hd : lane l d = ⟨(d : Nat), by omega⟩ := Fin.ext (by show 64 * ((l : Nat) / 64) + d = d; omega)
      rw [hd, if_pos d.isLt]
    · congr 2
      exact Fin.ext (by show (r : Nat) = 256 * ((l : Nat) / 64) + r; omega)
  · have h0 : (l : Nat) / 64 = 1 := by omega
    rw [if_neg h]
    congr 1
    funext k
    simp only [show ¬ ((⟨256 + (r : Nat), by omega⟩ : Fin 512) : Nat) < 256 from by show ¬ (256 + (r : Nat) < 256); omega, dite_false]
    rw [sum_upper _ (fun x hx => by rw [if_pos hx, zero_mul])]
    congr 1
    · refine Finset.sum_congr rfl fun d _ => ?_
      have hd : lane l d = ⟨64 + (d : Nat), by omega⟩ := Fin.ext (by show 64 * ((l : Nat) / 64) + d = 64 + d; omega)
      rw [hd, if_neg (by show ¬ (64 + (d : Nat) < 64); omega)]
      congr 2
      exact congrArg (fun a : Fin 256 => ix2 a (⟨64 + (d : Nat), by omega⟩ : Fin 128)) (Fin.ext (by show 256 + (r : Nat) - 256 = r; omega))
    · congr 2
      exact Fin.ext (by show 256 + (r : Nat) = 256 * ((l : Nat) / 64) + r; omega)

end Cert.KernelIdeal.Attn

end
-- ==== Proof.Blocks.lean ====
module

public import proofs.«01_k».proof.Proof.Block
public import proofs.«01_k».proof.Proof.Gen.KernelIdeal.Value
public import Idealize.ShloMosaic.Lib.Pipeline.ValueKit.Tiles
public import Idealize.ShloMosaic.Lib.Pointwise

/-!
  The array the kernel leaves. Each grid point writes two tiles of 256 queries; each tile is read off the
  reordered projection and the table, and the blocks written fill the array.
-/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- The row where the key at place `k` of the window of query row `R` lies: the tile two before, the tile before
    and the tile itself, the first tile standing in for a tile before the start. -/
def keyRow (R : Fin 32768) (k : Fin 768) : Fin 32768 :=
  ⟨4096 * ((R : Nat) / 4096) + 256 * ((R : Nat) % 4096 / 256 + (k : Nat) / 256 - 2) + (k : Nat) % 256, by omega⟩

/-- The array the kernel leaves, from the reordered projection `P` and the table `T`. -/
def attn (P : S32768x6656.Idx → EReal) (T : S3x4x512x768.Idx → EReal) (R : Fin 32768) (C : Fin 512) : EReal :=
  Softmax.base2
    (fun k => ∑ d : Fin 64, P (ix2 R ⟨3072 + 64 * ((C : Nat) / 64) + d, by omega⟩)
        * P (ix2 (keyRow R k) ⟨3584 + 64 * ((C : Nat) / 64) + d, by omega⟩)
      + T (ix4 ⟨min ((R : Nat) % 4096 / 256) 2, by omega⟩ ⟨(C : Nat) / 128, by omega⟩ ⟨256 * ((C : Nat) % 128 / 64) + (R : Nat) % 256, by omega⟩ k))
    (fun k => P (ix2 (keyRow R k) ⟨4096 + (C : Nat), by omega⟩))

/-- A tile of one of the kernel's reads lies in the array `P` from row `R0` and column `C0` on. -/
def Lies (P : S32768x6656.Idx → EReal) (x : Vec Ideal S256x128 .bf16) (R0 C0 : Nat) : Prop :=
  ∀ (a : Fin 256) (d : Fin 128) (R : Fin 32768) (C : Fin 6656), (R : Nat) = R0 + a → (C : Nat) = C0 + d → x (ix2 a d) = P (ix2 R C)

theorem tile3_lies (P : S32768x6656.Idx → EReal) (x y z : Vec Ideal S256x128 .bf16) (R : Fin 32768) (C0 : Nat)
    (hx : Lies P x (4096 * ((R : Nat) / 4096) + 256 * ((R : Nat) % 4096 / 256 + 0 - 2)) C0)
    (hy : Lies P y (4096 * ((R : Nat) / 4096) + 256 * ((R : Nat) % 4096 / 256 + 1 - 2)) C0)
    (hz : Lies P z (4096 * ((R : Nat) / 4096) + 256 * ((R : Nat) % 4096 / 256 + 2 - 2)) C0)
    (k : Fin 768) (d : Fin 128) (C : Fin 6656) (hC : (C : Nat) = C0 + d) : tile3 x y z k d = P (ix2 (keyRow R k) C) := by
  unfold tile3
  by_cases h : (k : Nat) < 256
  · rw [dif_pos h]
    refine hx _ _ _ _ ?_ hC
    show 4096 * ((R : Nat) / 4096) + 256 * ((R : Nat) % 4096 / 256 + (k : Nat) / 256 - 2) + (k : Nat) % 256 = _ + (k : Nat)
    have : (k : Nat) / 256 = 0 := by omega
    have : (k : Nat) % 256 = k := by omega
    simp only [*]
  · rw [dif_neg h]
    by_cases h' : (k : Nat) - 256 < 256
    · rw [dif_pos h']
      refine hy _ _ _ _ ?_ hC
      show 4096 * ((R : Nat) / 4096) + 256 * ((R : Nat) % 4096 / 256 + (k : Nat) / 256 - 2) + (k : Nat) % 256 = _ + ((k : Nat) - 256)
      have : (k : Nat) / 256 = 1 := by omega
      have : (k : Nat) % 256 = k - 256 := by omega
      simp only [*]
    · rw [dif_neg h']
      refine hz _ _ _ _ ?_ hC
      show 4096 * ((R : Nat) / 4096) + 256 * ((R : Nat) % 4096 / 256 + (k : Nat) / 256 - 2) + (k : Nat) % 256 = _ + ((k : Nat) - 256 - 256)
      have : (k : Nat) / 256 = 2 := by omega
      have : (k : Nat) % 256 = k - 256 - 256 := by omega
      simp only [*]

/-- One piece of the body, its reads placed in the two arrays: the array `attn` at its rows and columns. -/
theorem piece_attn (P : S32768x6656.Idx → EReal) (T : S3x4x512x768.Idx → EReal) (q k0 k1 k2 v0 v1 v2 : Vec Ideal S256x128 .bf16)
    (b : Vec Ideal S1x1x512x768 .f32) (R : Fin 32768) (C : Fin 512) (r : Fin 256) (l : Fin 128) (p R0 : Nat)
    (hC : (C : Nat) = 128 * p + l) (hR : (R : Nat) % 256 = r) (hR0 : (R : Nat) = R0 + r)
    (hq : Lies P q R0 (3072 + 128 * p))
    (hk0 : Lies P k0 (4096 * ((R : Nat) / 4096) + 256 * ((R : Nat) % 4096 / 256 + 0 - 2)) (3584 + 128 * p))
    (hk1 : Lies P k1 (4096 * ((R : Nat) / 4096) + 256 * ((R : Nat) % 4096 / 256 + 1 - 2)) (3584 + 128 * p))
    (hk2 : Lies P k2 (4096 * ((R : Nat) / 4096) + 256 * ((R : Nat) % 4096 / 256 + 2 - 2)) (3584 + 128 * p))
    (hv0 : Lies P v0 (4096 * ((R : Nat) / 4096) + 256 * ((R : Nat) % 4096 / 256 + 0 - 2)) (4096 + 128 * p))
    (hv1 : Lies P v1 (4096 * ((R : Nat) / 4096) + 256 * ((R : Nat) % 4096 / 256 + 1 - 2)) (4096 + 128 * p))
    (hv2 : Lies P v2 (4096 * ((R : Nat) / 4096) + 256 * ((R : Nat) % 4096 / 256 + 2 - 2)) (4096 + 128 * p))
    (hb : ∀ (s : Fin 512) (k : Fin 768) (a : Fin 3) (p' : Fin 4), (a : Nat) = min ((R : Nat) % 4096 / 256) 2 → (p' : Nat) = p →
      b (ix4 0 0 s k) = T (ix4 a p' s k)) :
    piece q k0 k1 k2 v0 v1 v2 b (ix2 r l) = attn P T R C := by
  have hCl : (C : Nat) / 64 = 2 * p + (l : Nat) / 64 := by omega
  have hCp : (C : Nat) / 128 = p := by omega
  have hCm : (C : Nat) % 128 = l := by omega
  rw [piece_apply]
  unfold attn
  congr 1
  · funext k
    congr 1
    · refine Finset.sum_congr rfl fun d _ => ?_
      have hl : ((lane l d : Fin 128) : Nat) = 64 * ((l : Nat) / 64) + d := rfl
      rw [hq r (lane l d) R ⟨3072 + 64 * ((C : Nat) / 64) + d, by omega⟩ hR0 (by show 3072 + 64 * ((C : Nat) / 64) + (d : Nat) = _; omega),
        tile3_lies P k0 k1 k2 R (3584 + 128 * p) hk0 hk1 hk2 k (lane l d) ⟨3584 + 64 * ((C : Nat) / 64) + d, by omega⟩
          (by show 3584 + 64 * ((C : Nat) / 64) + (d : Nat) = _; omega)]
    · rw [hb (row2 r l) k ⟨min ((R : Nat) % 4096 / 256) 2, by omega⟩ ⟨(C : Nat) / 128, by omega⟩ rfl hCp]
      have e : row2 r l = ⟨256 * ((C : Nat) % 128 / 64) + (R : Nat) % 256, by omega⟩ :=
        Fin.ext (by show 256 * ((l : Nat) / 64) + (r : Nat) = 256 * ((C : Nat) % 128 / 64) + (R : Nat) % 256; rw [hCm, hR])
      rw [e]
  · funext k
    exact tile3_lies P v0 v1 v2 R (4096 + 128 * p) hv0 hv1 hv2 k l _ (by show 4096 + (C : Nat) = _; omega)

/-! ## Where the blocks lie -/

/-- Every window's block indices, at every grid point. -/
theorem idx0 : ∀ t : Fin grid0.N, win0_0.index t 0 = (t : Nat) ∧ win0_0.index t 1 = 6 := by decide +kernel
theorem idx1 : ∀ t : Fin grid0.N, win0_1.index t 0 = 16 * ((t : Nat) / 8) + (2 * ((t : Nat) % 8) + 0 - 2) ∧ win0_1.index t 1 = 7 := by decide +kernel
theorem idx2 : ∀ t : Fin grid0.N, win0_2.index t 0 = 16 * ((t : Nat) / 8) + (2 * ((t : Nat) % 8) + 1 - 2) ∧ win0_2.index t 1 = 7 := by decide +kernel
theorem idx3 : ∀ t : Fin grid0.N, win0_3.index t 0 = 16 * ((t : Nat) / 8) + (2 * ((t : Nat) % 8) + 2 - 2) ∧ win0_3.index t 1 = 7 := by decide +kernel
theorem idx4 : ∀ t : Fin grid0.N, win0_4.index t 0 = 16 * ((t : Nat) / 8) + (2 * ((t : Nat) % 8) + 3 - 2) ∧ win0_4.index t 1 = 7 := by decide +kernel
theorem idx5 : ∀ t : Fin grid0.N, win0_5.index t 0 = 16 * ((t : Nat) / 8) + (2 * ((t : Nat) % 8) + 0 - 2) ∧ win0_5.index t 1 = 8 := by decide +kernel
theorem idx6 : ∀ t : Fin grid0.N, win0_6.index t 0 = 16 * ((t : Nat) / 8) + (2 * ((t : Nat) % 8) + 1 - 2) ∧ win0_6.index t 1 = 8 := by decide +kernel
theorem idx7 : ∀ t : Fin grid0.N, win0_7.index t 0 = 16 * ((t : Nat) / 8) + (2 * ((t : Nat) % 8) + 2 - 2) ∧ win0_7.index t 1 = 8 := by decide +kernel
theorem idx8 : ∀ t : Fin grid0.N, win0_8.index t 0 = 16 * ((t : Nat) / 8) + (2 * ((t : Nat) % 8) + 3 - 2) ∧ win0_8.index t 1 = 8 := by decide +kernel
theorem idx9 : ∀ t : Fin grid0.N, win0_9.index t 0 = min (2 * ((t : Nat) % 8) + 0) 2 ∧ win0_9.index t 1 = 0 ∧ win0_9.index t 2 = 0 ∧ win0_9.index t 3 = 0 := by decide +kernel
theorem idx10 : ∀ t : Fin grid0.N, win0_10.index t 0 = min (2 * ((t : Nat) % 8) + 1) 2 ∧ win0_10.index t 1 = 0 ∧ win0_10.index t 2 = 0 ∧ win0_10.index t 3 = 0 := by decide +kernel
theorem idx11 : ∀ t : Fin grid0.N, win0_11.index t 0 = (t : Nat) ∧ win0_11.index t 1 = 0 := by decide +kernel

/-- A block of window 0, at an index. -/
theorem read0 (t : Fin cfg0.N) (X : S32768x6656.Idx → EReal) (y : S512x512.Idx) (R : Fin 32768) (C : Fin 6656)
    (hR : (R : Nat) = win0_0.index t 0 * 512 + y 0) (hC : (C : Nat) = win0_0.index t 1 * 512 + y 1) :
    (win0_0.blk t).view.read (Elt Ideal) X y = X (ix2 R C) := by
  show X ((win0_0.rect t).emb y) = X (ix2 R C)
  refine congrArg X (funext fun a => Fin.ext ?_)
  match a with
  | ⟨0, _⟩ => exact (win0_0.rect_emb_val t y 0).trans hR.symm
  | ⟨1, _⟩ => exact (win0_0.rect_emb_val t y 1).trans hC.symm

/-- A tile loaded from a block of window 0 lies in the projection. -/
theorem lies0 (t : Fin cfg0.N) (X : S32768x6656.Idx → EReal) (x : Vec Ideal S512x512 .bf16) (hx : x = (win0_0.blk t).view.read (Elt Ideal) X)
    (o p : Nat) (inb) (R0 C0 : Nat) (hR : R0 = win0_0.index t 0 * 512 + o) (hC : C0 = win0_0.index t 1 * 512 + p) :
    Lies X (View.ld x (Rect.unit (s := S512x512) ![o, p] S256x128.size inb)) R0 C0 := by
  intro a d R C h0 h1
  have hp : p + (d : Nat) < 512 := by have := inb 1; have : p + 128 ≤ 512 := this; omega
  have ho : o + (a : Nat) < 512 := by have := inb 0; have : o + 256 ≤ 512 := this; omega
  rw [View.ld_unit_apply_of x ![o, p] S256x128.size inb (ix2 a d) (ix2 ⟨o + a, ho⟩ ⟨p + d, hp⟩)
    (fun x => match x with | ⟨0, _⟩ => rfl | ⟨1, _⟩ => rfl), hx]
  refine read0 t X _ R C ?_ ?_
  · show (R : Nat) = _ + (o + (a : Nat)); omega
  · show (C : Nat) = _ + (p + (d : Nat)); omega

/-- A block of window 1, at an index. -/
theorem read1 (t : Fin cfg0.N) (X : S32768x6656.Idx → EReal) (y : S256x512.Idx) (R : Fin 32768) (C : Fin 6656)
    (hR : (R : Nat) = win0_1.index t 0 * 256 + y 0) (hC : (C : Nat) = win0_1.index t 1 * 512 + y 1) :
    (win0_1.blk t).view.read (Elt Ideal) X y = X (ix2 R C) := by
  show X ((win0_1.rect t).emb y) = X (ix2 R C)
  refine congrArg X (funext fun a => Fin.ext ?_)
  match a with
  | ⟨0, _⟩ => exact (win0_1.rect_emb_val t y 0).trans hR.symm
  | ⟨1, _⟩ => exact (win0_1.rect_emb_val t y 1).trans hC.symm

/-- A tile loaded from a block of window 1 lies in the projection. -/
theorem lies1 (t : Fin cfg0.N) (X : S32768x6656.Idx → EReal) (x : Vec Ideal S256x512 .bf16) (hx : x = (win0_1.blk t).view.read (Elt Ideal) X)
    (o p : Nat) (inb) (R0 C0 : Nat) (hR : R0 = win0_1.index t 0 * 256 + o) (hC : C0 = win0_1.index t 1 * 512 + p) :
    Lies X (View.ld x (Rect.unit (s := S256x512) ![o, p] S256x128.size inb)) R0 C0 := by
  intro a d R C h0 h1
  have hp : p + (d : Nat) < 512 := by have := inb 1; have : p + 128 ≤ 512 := this; omega
  have ho : o + (a : Nat) < 256 := by have := inb 0; have : o + 256 ≤ 256 := this; omega
  rw [View.ld_unit_apply_of x ![o, p] S256x128.size inb (ix2 a d) (ix2 ⟨o + a, ho⟩ ⟨p + d, hp⟩)
    (fun x => match x with | ⟨0, _⟩ => rfl | ⟨1, _⟩ => rfl), hx]
  refine read1 t X _ R C ?_ ?_
  · show (R : Nat) = _ + (o + (a : Nat)); omega
  · show (C : Nat) = _ + (p + (d : Nat)); omega

/-- A block of window 2, at an index. -/
theorem read2 (t : Fin cfg0.N) (X : S32768x6656.Idx → EReal) (y : S256x512.Idx) (R : Fin 32768) (C : Fin 6656)
    (hR : (R : Nat) = win0_2.index t 0 * 256 + y 0) (hC : (C : Nat) = win0_2.index t 1 * 512 + y 1) :
    (win0_2.blk t).view.read (Elt Ideal) X y = X (ix2 R C) := by
  show X ((win0_2.rect t).emb y) = X (ix2 R C)
  refine congrArg X (funext fun a => Fin.ext ?_)
  match a with
  | ⟨0, _⟩ => exact (win0_2.rect_emb_val t y 0).trans hR.symm
  | ⟨1, _⟩ => exact (win0_2.rect_emb_val t y 1).trans hC.symm

/-- A tile loaded from a block of window 2 lies in the projection. -/
theorem lies2 (t : Fin cfg0.N) (X : S32768x6656.Idx → EReal) (x : Vec Ideal S256x512 .bf16) (hx : x = (win0_2.blk t).view.read (Elt Ideal) X)
    (o p : Nat) (inb) (R0 C0 : Nat) (hR : R0 = win0_2.index t 0 * 256 + o) (hC : C0 = win0_2.index t 1 * 512 + p) :
    Lies X (View.ld x (Rect.unit (s := S256x512) ![o, p] S256x128.size inb)) R0 C0 := by
  intro a d R C h0 h1
  have hp : p + (d : Nat) < 512 := by have := inb 1; have : p + 128 ≤ 512 := this; omega
  have ho : o + (a : Nat) < 256 := by have := inb 0; have : o + 256 ≤ 256 := this; omega
  rw [View.ld_unit_apply_of x ![o, p] S256x128.size inb (ix2 a d) (ix2 ⟨o + a, ho⟩ ⟨p + d, hp⟩)
    (fun x => match x with | ⟨0, _⟩ => rfl | ⟨1, _⟩ => rfl), hx]
  refine read2 t X _ R C ?_ ?_
  · show (R : Nat) = _ + (o + (a : Nat)); omega
  · show (C : Nat) = _ + (p + (d : Nat)); omega

/-- A block of window 3, at an index. -/
theorem read3 (t : Fin cfg0.N) (X : S32768x6656.Idx → EReal) (y : S256x512.Idx) (R : Fin 32768) (C : Fin 6656)
    (hR : (R : Nat) = win0_3.index t 0 * 256 + y 0) (hC : (C : Nat) = win0_3.index t 1 * 512 + y 1) :
    (win0_3.blk t).view.read (Elt Ideal) X y = X (ix2 R C) := by
  show X ((win0_3.rect t).emb y) = X (ix2 R C)
  refine congrArg X (funext fun a => Fin.ext ?_)
  match a with
  | ⟨0, _⟩ => exact (win0_3.rect_emb_val t y 0).trans hR.symm
  | ⟨1, _⟩ => exact (win0_3.rect_emb_val t y 1).trans hC.symm

/-- A tile loaded from a block of window 3 lies in the projection. -/
theorem lies3 (t : Fin cfg0.N) (X : S32768x6656.Idx → EReal) (x : Vec Ideal S256x512 .bf16) (hx : x = (win0_3.blk t).view.read (Elt Ideal) X)
    (o p : Nat) (inb) (R0 C0 : Nat) (hR : R0 = win0_3.index t 0 * 256 + o) (hC : C0 = win0_3.index t 1 * 512 + p) :
    Lies X (View.ld x (Rect.unit (s := S256x512) ![o, p] S256x128.size inb)) R0 C0 := by
  intro a d R C h0 h1
  have hp : p + (d : Nat) < 512 := by have := inb 1; have : p + 128 ≤ 512 := this; omega
  have ho : o + (a : Nat) < 256 := by have := inb 0; have : o + 256 ≤ 256 := this; omega
  rw [View.ld_unit_apply_of x ![o, p] S256x128.size inb (ix2 a d) (ix2 ⟨o + a, ho⟩ ⟨p + d, hp⟩)
    (fun x => match x with | ⟨0, _⟩ => rfl | ⟨1, _⟩ => rfl), hx]
  refine read3 t X _ R C ?_ ?_
  · show (R : Nat) = _ + (o + (a : Nat)); omega
  · show (C : Nat) = _ + (p + (d : Nat)); omega

/-- A block of window 4, at an index. -/
theorem read4 (t : Fin cfg0.N) (X : S32768x6656.Idx → EReal) (y : S256x512.Idx) (R : Fin 32768) (C : Fin 6656)
    (hR : (R : Nat) = win0_4.index t 0 * 256 + y 0) (hC : (C : Nat) = win0_4.index t 1 * 512 + y 1) :
    (win0_4.blk t).view.read (Elt Ideal) X y = X (ix2 R C) := by
  show X ((win0_4.rect t).emb y) = X (ix2 R C)
  refine congrArg X (funext fun a => Fin.ext ?_)
  match a with
  | ⟨0, _⟩ => exact (win0_4.rect_emb_val t y 0).trans hR.symm
  | ⟨1, _⟩ => exact (win0_4.rect_emb_val t y 1).trans hC.symm

/-- A tile loaded from a block of window 4 lies in the projection. -/
theorem lies4 (t : Fin cfg0.N) (X : S32768x6656.Idx → EReal) (x : Vec Ideal S256x512 .bf16) (hx : x = (win0_4.blk t).view.read (Elt Ideal) X)
    (o p : Nat) (inb) (R0 C0 : Nat) (hR : R0 = win0_4.index t 0 * 256 + o) (hC : C0 = win0_4.index t 1 * 512 + p) :
    Lies X (View.ld x (Rect.unit (s := S256x512) ![o, p] S256x128.size inb)) R0 C0 := by
  intro a d R C h0 h1
  have hp : p + (d : Nat) < 512 := by have := inb 1; have : p + 128 ≤ 512 := this; omega
  have ho : o + (a : Nat) < 256 := by have := inb 0; have : o + 256 ≤ 256 := this; omega
  rw [View.ld_unit_apply_of x ![o, p] S256x128.size inb (ix2 a d) (ix2 ⟨o + a, ho⟩ ⟨p + d, hp⟩)
    (fun x => match x with | ⟨0, _⟩ => rfl | ⟨1, _⟩ => rfl), hx]
  refine read4 t X _ R C ?_ ?_
  · show (R : Nat) = _ + (o + (a : Nat)); omega
  · show (C : Nat) = _ + (p + (d : Nat)); omega

/-- A block of window 5, at an index. -/
theorem read5 (t : Fin cfg0.N) (X : S32768x6656.Idx → EReal) (y : S256x512.Idx) (R : Fin 32768) (C : Fin 6656)
    (hR : (R : Nat) = win0_5.index t 0 * 256 + y 0) (hC : (C : Nat) = win0_5.index t 1 * 512 + y 1) :
    (win0_5.blk t).view.read (Elt Ideal) X y = X (ix2 R C) := by
  show X ((win0_5.rect t).emb y) = X (ix2 R C)
  refine congrArg X (funext fun a => Fin.ext ?_)
  match a with
  | ⟨0, _⟩ => exact (win0_5.rect_emb_val t y 0).trans hR.symm
  | ⟨1, _⟩ => exact (win0_5.rect_emb_val t y 1).trans hC.symm

/-- A tile loaded from a block of window 5 lies in the projection. -/
theorem lies5 (t : Fin cfg0.N) (X : S32768x6656.Idx → EReal) (x : Vec Ideal S256x512 .bf16) (hx : x = (win0_5.blk t).view.read (Elt Ideal) X)
    (o p : Nat) (inb) (R0 C0 : Nat) (hR : R0 = win0_5.index t 0 * 256 + o) (hC : C0 = win0_5.index t 1 * 512 + p) :
    Lies X (View.ld x (Rect.unit (s := S256x512) ![o, p] S256x128.size inb)) R0 C0 := by
  intro a d R C h0 h1
  have hp : p + (d : Nat) < 512 := by have := inb 1; have : p + 128 ≤ 512 := this; omega
  have ho : o + (a : Nat) < 256 := by have := inb 0; have : o + 256 ≤ 256 := this; omega
  rw [View.ld_unit_apply_of x ![o, p] S256x128.size inb (ix2 a d) (ix2 ⟨o + a, ho⟩ ⟨p + d, hp⟩)
    (fun x => match x with | ⟨0, _⟩ => rfl | ⟨1, _⟩ => rfl), hx]
  refine read5 t X _ R C ?_ ?_
  · show (R : Nat) = _ + (o + (a : Nat)); omega
  · show (C : Nat) = _ + (p + (d : Nat)); omega

/-- A block of window 6, at an index. -/
theorem read6 (t : Fin cfg0.N) (X : S32768x6656.Idx → EReal) (y : S256x512.Idx) (R : Fin 32768) (C : Fin 6656)
    (hR : (R : Nat) = win0_6.index t 0 * 256 + y 0) (hC : (C : Nat) = win0_6.index t 1 * 512 + y 1) :
    (win0_6.blk t).view.read (Elt Ideal) X y = X (ix2 R C) := by
  show X ((win0_6.rect t).emb y) = X (ix2 R C)
  refine congrArg X (funext fun a => Fin.ext ?_)
  match a with
  | ⟨0, _⟩ => exact (win0_6.rect_emb_val t y 0).trans hR.symm
  | ⟨1, _⟩ => exact (win0_6.rect_emb_val t y 1).trans hC.symm

/-- A tile loaded from a block of window 6 lies in the projection. -/
theorem lies6 (t : Fin cfg0.N) (X : S32768x6656.Idx → EReal) (x : Vec Ideal S256x512 .bf16) (hx : x = (win0_6.blk t).view.read (Elt Ideal) X)
    (o p : Nat) (inb) (R0 C0 : Nat) (hR : R0 = win0_6.index t 0 * 256 + o) (hC : C0 = win0_6.index t 1 * 512 + p) :
    Lies X (View.ld x (Rect.unit (s := S256x512) ![o, p] S256x128.size inb)) R0 C0 := by
  intro a d R C h0 h1
  have hp : p + (d : Nat) < 512 := by have := inb 1; have : p + 128 ≤ 512 := this; omega
  have ho : o + (a : Nat) < 256 := by have := inb 0; have : o + 256 ≤ 256 := this; omega
  rw [View.ld_unit_apply_of x ![o, p] S256x128.size inb (ix2 a d) (ix2 ⟨o + a, ho⟩ ⟨p + d, hp⟩)
    (fun x => match x with | ⟨0, _⟩ => rfl | ⟨1, _⟩ => rfl), hx]
  refine read6 t X _ R C ?_ ?_
  · show (R : Nat) = _ + (o + (a : Nat)); omega
  · show (C : Nat) = _ + (p + (d : Nat)); omega

/-- A block of window 7, at an index. -/
theorem read7 (t : Fin cfg0.N) (X : S32768x6656.Idx → EReal) (y : S256x512.Idx) (R : Fin 32768) (C : Fin 6656)
    (hR : (R : Nat) = win0_7.index t 0 * 256 + y 0) (hC : (C : Nat) = win0_7.index t 1 * 512 + y 1) :
    (win0_7.blk t).view.read (Elt Ideal) X y = X (ix2 R C) := by
  show X ((win0_7.rect t).emb y) = X (ix2 R C)
  refine congrArg X (funext fun a => Fin.ext ?_)
  match a with
  | ⟨0, _⟩ => exact (win0_7.rect_emb_val t y 0).trans hR.symm
  | ⟨1, _⟩ => exact (win0_7.rect_emb_val t y 1).trans hC.symm

/-- A tile loaded from a block of window 7 lies in the projection. -/
theorem lies7 (t : Fin cfg0.N) (X : S32768x6656.Idx → EReal) (x : Vec Ideal S256x512 .bf16) (hx : x = (win0_7.blk t).view.read (Elt Ideal) X)
    (o p : Nat) (inb) (R0 C0 : Nat) (hR : R0 = win0_7.index t 0 * 256 + o) (hC : C0 = win0_7.index t 1 * 512 + p) :
    Lies X (View.ld x (Rect.unit (s := S256x512) ![o, p] S256x128.size inb)) R0 C0 := by
  intro a d R C h0 h1
  have hp : p + (d : Nat) < 512 := by have := inb 1; have : p + 128 ≤ 512 := this; omega
  have ho : o + (a : Nat) < 256 := by have := inb 0; have : o + 256 ≤ 256 := this; omega
  rw [View.ld_unit_apply_of x ![o, p] S256x128.size inb (ix2 a d) (ix2 ⟨o + a, ho⟩ ⟨p + d, hp⟩)
    (fun x => match x with | ⟨0, _⟩ => rfl | ⟨1, _⟩ => rfl), hx]
  refine read7 t X _ R C ?_ ?_
  · show (R : Nat) = _ + (o + (a : Nat)); omega
  · show (C : Nat) = _ + (p + (d : Nat)); omega

/-- A block of window 8, at an index. -/
theorem read8 (t : Fin cfg0.N) (X : S32768x6656.Idx → EReal) (y : S256x512.Idx) (R : Fin 32768) (C : Fin 6656)
    (hR : (R : Nat) = win0_8.index t 0 * 256 + y 0) (hC : (C : Nat) = win0_8.index t 1 * 512 + y 1) :
    (win0_8.blk t).view.read (Elt Ideal) X y = X (ix2 R C) := by
  show X ((win0_8.rect t).emb y) = X (ix2 R C)
  refine congrArg X (funext fun a => Fin.ext ?_)
  match a with
  | ⟨0, _⟩ => exact (win0_8.rect_emb_val t y 0).trans hR.symm
  | ⟨1, _⟩ => exact (win0_8.rect_emb_val t y 1).trans hC.symm

/-- A tile loaded from a block of window 8 lies in the projection. -/
theorem lies8 (t : Fin cfg0.N) (X : S32768x6656.Idx → EReal) (x : Vec Ideal S256x512 .bf16) (hx : x = (win0_8.blk t).view.read (Elt Ideal) X)
    (o p : Nat) (inb) (R0 C0 : Nat) (hR : R0 = win0_8.index t 0 * 256 + o) (hC : C0 = win0_8.index t 1 * 512 + p) :
    Lies X (View.ld x (Rect.unit (s := S256x512) ![o, p] S256x128.size inb)) R0 C0 := by
  intro a d R C h0 h1
  have hp : p + (d : Nat) < 512 := by have := inb 1; have : p + 128 ≤ 512 := this; omega
  have ho : o + (a : Nat) < 256 := by have := inb 0; have : o + 256 ≤ 256 := this; omega
  rw [View.ld_unit_apply_of x ![o, p] S256x128.size inb (ix2 a d) (ix2 ⟨o + a, ho⟩ ⟨p + d, hp⟩)
    (fun x => match x with | ⟨0, _⟩ => rfl | ⟨1, _⟩ => rfl), hx]
  refine read8 t X _ R C ?_ ?_
  · show (R : Nat) = _ + (o + (a : Nat)); omega
  · show (C : Nat) = _ + (p + (d : Nat)); omega

/-- A slab loaded from a block of window 9 lies in the table. -/
theorem slab9 (t : Fin cfg0.N) (X : S3x4x512x768.Idx → EReal) (x : Vec Ideal S1x4x512x768 .f32)
    (hx : x = (win0_9.blk t).view.read (Elt Ideal) X) (p : Nat) (inb) (s : Fin 512) (k : Fin 768) (a : Fin 3) (p' : Fin 4)
    (ha : (a : Nat) = win0_9.index t 0) (hp : (p' : Nat) = p) :
    View.ld x (Rect.unit (s := S1x4x512x768) ![0, p, 0, 0] S1x1x512x768.size inb) (ix4 0 0 s k) = X (ix4 a p' s k) := by
  rw [View.ld_unit_apply_of x ![0, p, 0, 0] S1x1x512x768.size inb (ix4 0 0 s k) (ix4 0 p' s k)
    (fun x => match x with
      | ⟨0, _⟩ => rfl
      | ⟨1, _⟩ => by show (p' : Nat) = p + 0; omega
      | ⟨2, _⟩ => by show (s : Nat) = 0 + s; omega
      | ⟨3, _⟩ => by show (k : Nat) = 0 + k; omega), hx]
  show X ((win0_9.rect t).emb (ix4 0 p' s k)) = X (ix4 a p' s k)
  refine congrArg X (funext fun x => Fin.ext ?_)
  match x with
  | ⟨0, _⟩ => exact (win0_9.rect_emb_val t _ 0).trans (by show win0_9.index t 0 * 1 + 0 = (a : Nat); omega)
  | ⟨1, _⟩ => exact (win0_9.rect_emb_val t _ 1).trans (by show win0_9.index t 1 * 4 + (p' : Nat) = (p' : Nat); have := (idx9 t).2.1; omega)
  | ⟨2, _⟩ => exact (win0_9.rect_emb_val t _ 2).trans (by show win0_9.index t 2 * 512 + (s : Nat) = (s : Nat); have := (idx9 t).2.2.1; omega)
  | ⟨3, _⟩ => exact (win0_9.rect_emb_val t _ 3).trans (by show win0_9.index t 3 * 768 + (k : Nat) = (k : Nat); have := (idx9 t).2.2.2; omega)

/-- A slab loaded from a block of window 10 lies in the table. -/
theorem slab10 (t : Fin cfg0.N) (X : S3x4x512x768.Idx → EReal) (x : Vec Ideal S1x4x512x768 .f32)
    (hx : x = (win0_10.blk t).view.read (Elt Ideal) X) (p : Nat) (inb) (s : Fin 512) (k : Fin 768) (a : Fin 3) (p' : Fin 4)
    (ha : (a : Nat) = win0_10.index t 0) (hp : (p' : Nat) = p) :
    View.ld x (Rect.unit (s := S1x4x512x768) ![0, p, 0, 0] S1x1x512x768.size inb) (ix4 0 0 s k) = X (ix4 a p' s k) := by
  rw [View.ld_unit_apply_of x ![0, p, 0, 0] S1x1x512x768.size inb (ix4 0 0 s k) (ix4 0 p' s k)
    (fun x => match x with
      | ⟨0, _⟩ => rfl
      | ⟨1, _⟩ => by show (p' : Nat) = p + 0; omega
      | ⟨2, _⟩ => by show (s : Nat) = 0 + s; omega
      | ⟨3, _⟩ => by show (k : Nat) = 0 + k; omega), hx]
  show X ((win0_10.rect t).emb (ix4 0 p' s k)) = X (ix4 a p' s k)
  refine congrArg X (funext fun x => Fin.ext ?_)
  match x with
  | ⟨0, _⟩ => exact (win0_10.rect_emb_val t _ 0).trans (by show win0_10.index t 0 * 1 + 0 = (a : Nat); omega)
  | ⟨1, _⟩ => exact (win0_10.rect_emb_val t _ 1).trans (by show win0_10.index t 1 * 4 + (p' : Nat) = (p' : Nat); have := (idx10 t).2.1; omega)
  | ⟨2, _⟩ => exact (win0_10.rect_emb_val t _ 2).trans (by show win0_10.index t 2 * 512 + (s : Nat) = (s : Nat); have := (idx10 t).2.2.1; omega)
  | ⟨3, _⟩ => exact (win0_10.rect_emb_val t _ 3).trans (by show win0_10.index t 3 * 768 + (k : Nat) = (k : Nat); have := (idx10 t).2.2.2; omega)

end Cert.KernelIdeal.Attn

end
-- ==== Proof.Tiles.lean ====
module

public import proofs.«01_k».proof.Proof.Blocks

/-!
  What one grid point writes: at every index of its block, the array `attn`.
-/

@[expose] public section

set_option maxRecDepth 16384

noncomputable section

namespace Cert.KernelIdeal.Attn

open Cert.KernelIdeal Cert.KernelIdeal.Gen Idealize.ShloMosaic Idealize.ShloMosaic.TcCoe Idealize.SL.Sem

variable (P : S32768x6656.Idx → EReal) (T : S3x4x512x768.Idx → EReal) (t : Fin cfg0.N)
  (x0 : Vec Ideal S512x512 .bf16) (x1 x2 x3 x4 x5 x6 x7 x8 : Vec Ideal S256x512 .bf16) (x9 x10 : Vec Ideal S1x4x512x768 .f32)
  (h0 : x0 = (win0_0.blk t).view.read (Elt Ideal) P)
  (h1 : x1 = (win0_1.blk t).view.read (Elt Ideal) P)
  (h2 : x2 = (win0_2.blk t).view.read (Elt Ideal) P)
  (h3 : x3 = (win0_3.blk t).view.read (Elt Ideal) P)
  (h4 : x4 = (win0_4.blk t).view.read (Elt Ideal) P)
  (h5 : x5 = (win0_5.blk t).view.read (Elt Ideal) P)
  (h6 : x6 = (win0_6.blk t).view.read (Elt Ideal) P)
  (h7 : x7 = (win0_7.blk t).view.read (Elt Ideal) P)
  (h8 : x8 = (win0_8.blk t).view.read (Elt Ideal) P)
  (h9 : x9 = (win0_9.blk t).view.read (Elt Ideal) T)
  (h10 : x10 = (win0_10.blk t).view.read (Elt Ideal) T)

include h0 h1 h2 h3 h4 h5 h6 h7 h8 h9 h10

/-- The tile of rows from 256 and columns from 384 on. -/
theorem tile_15 (R : Fin 32768) (C : Fin 512) (r : Fin 256) (l : Fin 128) (hR : (R : Nat) = 512 * t + (256 + r))
    (hC : (C : Nat) = 384 + l) :
    piece (View.ld x0 r0_15) (View.ld x2 r0_10) (View.ld x3 r0_10) (View.ld x4 r0_10) (View.ld x6 r0_10) (View.ld x7 r0_10) (View.ld x8 r0_10) (View.ld x10 r0_11) (ix2 r l)
      = attn P T R C := by
  have hN : (t : Nat) < 64 := t.isLt
  have i0 := idx0 t
  have i2 := idx2 t
  have i3 := idx3 t
  have i4 := idx4 t
  have i6 := idx6 t
  have i7 := idx7 t
  have i8 := idx8 t
  have i10 := idx10 t
  refine piece_attn P T _ _ _ _ _ _ _ _ R C r l 3 (512 * t + 256) (by omega) (by omega) (by omega) ?_ ?_ ?_ ?_ ?_ ?_ ?_ ?_
  · exact lies0 t P x0 h0 256 384 _ _ _ (by omega) (by omega)
  · exact lies2 t P x2 h2 0 384 _ _ _ (by omega) (by omega)
  · exact lies3 t P x3 h3 0 384 _ _ _ (by omega) (by omega)
  · exact lies4 t P x4 h4 0 384 _ _ _ (by omega) (by omega)
  · exact lies6 t P x6 h6 0 384 _ _ _ (by omega) (by omega)
  · exact lies7 t P x7 h7 0 384 _ _ _ (by omega) (by omega)
  · exact lies8 t P x8 h8 0 384 _ _ _ (by omega) (by omega)
  · intro s k a p' ha hp
    exact slab10 t T x10 h10 3 _ s k a p' (by omega) hp

/-- The tile of rows from 256 and columns from 256 on. -/
theorem tile_14 (R : Fin 32768) (C : Fin 512) (r : Fin 256) (l : Fin 128) (hR : (R : Nat) = 512 * t + (256 + r))
    (hC : (C : Nat) = 256 + l) :
    piece (View.ld x0 r0_14) (View.ld x2 r0_7) (View.ld x3 r0_7) (View.ld x4 r0_7) (View.ld x6 r0_7) (View.ld x7 r0_7) (View.ld x8 r0_7) (View.ld x10 r0_8) (ix2 r l)
      = attn P T R C := by
  have hN : (t : Nat) < 64 := t.isLt
  have i0 := idx0 t
  have i2 := idx2 t
  have i3 := idx3 t
  have i4 := idx4 t
  have i6 := idx6 t
  have i7 := idx7 t
  have i8 := idx8 t
  have i10 := idx10 t
  refine piece_attn P T _ _ _ _ _ _ _ _ R C r l 2 (512 * t + 256) (by omega) (by omega) (by omega) ?_ ?_ ?_ ?_ ?_ ?_ ?_ ?_
  · exact lies0 t P x0 h0 256 256 _ _ _ (by omega) (by omega)
  · exact lies2 t P x2 h2 0 256 _ _ _ (by omega) (by omega)
  · exact lies3 t P x3 h3 0 256 _ _ _ (by omega) (by omega)
  · exact lies4 t P x4 h4 0 256 _ _ _ (by omega) (by omega)
  · exact lies6 t P x6 h6 0 256 _ _ _ (by omega) (by omega)
  · exact lies7 t P x7 h7 0 256 _ _ _ (by omega) (by omega)
  · exact lies8 t P x8 h8 0 256 _ _ _ (by omega) (by omega)
  · intro s k a p' ha hp
    exact slab10 t T x10 h10 2 _ s k a p' (by omega) hp

/-- The tile of rows from 256 and columns from 128 on. -/
theorem tile_13 (R : Fin 32768) (C : Fin 512) (r : Fin 256) (l : Fin 128) (hR : (R : Nat) = 512 * t + (256 + r))
    (hC : (C : Nat) = 128 + l) :
    piece (View.ld x0 r0_13) (View.ld x2 r0_4) (View.ld x3 r0_4) (View.ld x4 r0_4) (View.ld x6 r0_4) (View.ld x7 r0_4) (View.ld x8 r0_4) (View.ld x10 r0_5) (ix2 r l)
      = attn P T R C := by
  have hN : (t : Nat) < 64 := t.isLt
  have i0 := idx0 t
  have i2 := idx2 t
  have i3 := idx3 t
  have i4 := idx4 t
  have i6 := idx6 t
  have i7 := idx7 t
  have i8 := idx8 t
  have i10 := idx10 t
  refine piece_attn P T _ _ _ _ _ _ _ _ R C r l 1 (512 * t + 256) (by omega) (by omega) (by omega) ?_ ?_ ?_ ?_ ?_ ?_ ?_ ?_
  · exact lies0 t P x0 h0 256 128 _ _ _ (by omega) (by omega)
  · exact lies2 t P x2 h2 0 128 _ _ _ (by omega) (by omega)
  · exact lies3 t P x3 h3 0 128 _ _ _ (by omega) (by omega)
  · exact lies4 t P x4 h4 0 128 _ _ _ (by omega) (by omega)
  · exact lies6 t P x6 h6 0 128 _ _ _ (by omega) (by omega)
  · exact lies7 t P x7 h7 0 128 _ _ _ (by omega) (by omega)
  · exact lies8 t P x8 h8 0 128 _ _ _ (by omega) (by omega)
  · intro s k a p' ha hp
    exact slab10 t T x10 h10 1 _ s k a p' (by omega) hp

/-- The tile of rows from 256 and columns from 0 on. -/
theorem tile_12 (R : Fin 32768) (C : Fin 512) (r : Fin 256) (l : Fin 128) (hR : (R : Nat) = 512 * t + (256 + r))
    (hC : (C : Nat) = 0 + l) :
    piece (View.ld x0 r0_12) (View.ld x2 r0_1) (View.ld x3 r0_1) (View.ld x4 r0_1) (View.ld x6 r0_1) (View.ld x7 r0_1) (View.ld x8 r0_1) (View.ld x10 r0_2) (ix2 r l)
      = attn P T R C := by
  have hN : (t : Nat) < 64 := t.isLt
  have i0 := idx0 t
  have i2 := idx2 t
  have i3 := idx3 t
  have i4 := idx4 t
  have i6 := idx6 t
  have i7 := idx7 t
  have i8 := idx8 t
  have i10 := idx10 t
  refine piece_attn P T _ _ _ _ _ _ _ _ R C r l 0 (512 * t + 256) (by omega) (by omega) (by omega) ?_ ?_ ?_ ?_ ?_ ?_ ?_ ?_
  · exact lies0 t P x0 h0 256 0 _ _ _ (by omega) (by omega)
  · exact lies2 t P x2 h2 0 0 _ _ _ (by omega) (by omega)
  · exact lies3 t P x3 h3 0 0 _ _ _ (by omega) (by omega)
  · exact lies4 t P x4 h4 0 0 _ _ _ (by omega) (by omega)
  · exact lies6 t P x6 h6 0 0 _ _ _ (by omega) (by omega)
  · exact lies7 t P x7 h7 0 0 _ _ _ (by omega) (by omega)
  · exact lies8 t P x8 h8 0 0 _ _ _ (by omega) (by omega)
  · intro s k a p' ha hp
    exact slab10 t T x10 h10 0 _ s k a p' (by omega) hp

/-- The tile of rows from 0 and columns from 384 on. -/
theorem tile_9 (R : Fin 32768) (C : Fin 512) (r : Fin 256) (l : Fin 128) (hR : (R : Nat) = 512 * t + (0 + r))
    (hC : (C : Nat) = 384 + l) :
    piece (View.ld x0 r0_9) (View.ld x1 r0_10) (View.ld x2 r0_10) (View.ld x3 r0_10) (View.ld x5 r0_10) (View.ld x6 r0_10) (View.ld x7 r0_10) (View.ld x9 r0_11) (ix2 r l)
      = attn P T R C := by
  have hN : (t : Nat) < 64 := t.isLt
  have i0 := idx0 t
  have i1 := idx1 t
  have i2 := idx2 t
  have i3 := idx3 t
  have i5 := idx5 t
  have i6 := idx6 t
  have i7 := idx7 t
  have i9 := idx9 t
  refine piece_attn P T _ _ _ _ _ _ _ _ R C r l 3 (512 * t + 0) (by omega) (by omega) (by omega) ?_ ?_ ?_ ?_ ?_ ?_ ?_ ?_
  · exact lies0 t P x0 h0 0 384 _ _ _ (by omega) (by omega)
  · exact lies1 t P x1 h1 0 384 _ _ _ (by omega) (by omega)
  · exact lies2 t P x2 h2 0 384 _ _ _ (by omega) (by omega)
  · exact lies3 t P x3 h3 0 384 _ _ _ (by omega) (by omega)
  · exact lies5 t P x5 h5 0 384 _ _ _ (by omega) (by omega)
  · exact lies6 t P x6 h6 0 384 _ _ _ (by omega) (by omega)
  · exact lies7 t P x7 h7 0 384 _ _ _ (by omega) (by omega)
  · intro s k a p' ha hp
    exact slab9 t T x9 h9 3 _ s k a p' (by omega) hp

/-- The tile of rows from 0 and columns from 256 on. -/
theorem tile_6 (R : Fin 32768) (C : Fin 512) (r : Fin 256) (l : Fin 128) (hR : (R : Nat) = 512 * t + (0 + r))
    (hC : (C : Nat) = 256 + l) :
    piece (View.ld x0 r0_6) (View.ld x1 r0_7) (View.ld x2 r0_7) (View.ld x3 r0_7) (View.ld x5 r0_7) (View.ld x6 r0_7) (View.ld x7 r0_7) (View.ld x9 r0_8) (ix2 r l)
      = attn P T R C := by
  have hN : (t : Nat) < 64 := t.isLt
  have i0 := idx0 t
  have i1 := idx1 t
  have i2 := idx2 t
  have i3 := idx3 t
  have i5 := idx5 t
  have i6 := idx6 t
  have i7 := idx7 t
  have i9 := idx9 t
  refine piece_attn P T _ _ _ _ _ _ _ _ R C r l 2 (512 * t + 0) (by omega) (by omega) (by omega) ?_ ?_ ?_ ?_ ?_ ?_ ?_ ?_
  · exact lies0 t P x0 h0 0 256 _ _ _ (by omega) (by omega)
  · exact lies1 t P x1 h1 0 256 _ _ _ (by omega) (by omega)
  · exact lies2 t P x2 h2 0 256 _ _ _ (by omega) (by omega)
  · exact lies3 t P x3 h3 0 256 _ _ _ (by omega) (by omega)
  · exact lies5 t P x5 h5 0 256 _ _ _ (by omega) (by omega)
  · exact lies6 t P x6 h6 0 256 _ _ _ (by omega) (by omega)
  · exact lies7 t P x7 h7 0 256 _ _ _ (by omega) (by omega)
  · intro s k a p' ha hp
    exact slab9 t T x9 h9 2 _ s k a p' (by omega) hp

/-- The tile of rows from 0 and columns from 128 on. -/
theorem tile_3 (R : Fin 32768) (C : Fin 512) (r : Fin 256) (l : Fin 128) (hR : (R : Nat) = 512 * t + (0 + r))
    (hC : (C : Nat) = 128 + l) :
    piece (View.ld x0 r0_3) (View.ld x1 r0_4) (View.ld x2 r0_4) (View.ld x3 r0_4) (View.ld x5 r0_4) (View.ld x6 r0_4) (View.ld x7 r0_4) (View.ld x9 r0_5) (ix2 r l)
      = attn P T R C := by
  have hN : (t : Nat) < 64 := t.isLt
  have i0 := idx0 t
  have i1 := idx1 t
  have i2 := idx2 t
  have i3 := idx3 t
  have i5 := idx5 t
  have i6 := idx6 t
  have i7 := idx7 t
  have i9 := idx9 t
  refine piece_attn P T _ _ _ _ _ _ _ _ R C r l 1 (512 * t + 0) (by omega) (by omega) (by omega) ?_ ?_ ?_ ?_ ?_ ?_ ?_ ?_
  · exact lies0 t P x0 h0 0 128 _ _ _ (by omega) (by omega)
  · exact lies1 t P x1 h1 0 128 _ _ _ (by omega) (by omega)
  · exact lies2 t P x2 h2 0 128 _ _ _ (by omega) (by omega)
  · exact lies3 t P x3 h3 0 128 _ _ _ (by omega) (by omega)
  · exact lies5 t P x5 h5 0 128 _ _ _ (by omega) (by omega)
  · exact lies6 t P x6 h6 0 128 _ _ _ (by omega) (by omega)
  · exact lies7 t P x7 h7 0 128 _ _ _ (by omega) (by omega)
  · intro s k a p' ha hp
    exact slab9 t T x9 h9 1 _ s k a p' (by omega) hp

/-- The tile of rows from 0 and columns from 0 on. -/
theorem tile_0 (R : Fin 32768) (C : Fin 512) (r : Fin 256) (l : Fin 128) (hR : (R : Nat) = 512 * t + (0 + r))
    (hC : (C : Nat) = 0 + l) :
    piece (View.ld x0 r0_0) (View.ld x1 r0_1) (View.ld x2 r0_1) (View.ld x3 r0_1) (View.ld x5 r0_1) (View.ld x6 r0_1) (View.ld x7 r0_1) (View.ld x9 r0_2) (ix2 r l)
      = attn P T R C := by
  have hN : (t : Nat) < 64 := t.isLt
  have i0 := idx0 t
  have i1 := idx1 t
  have i2 := idx2 t
  have i3 := idx3 t
  have i5 := idx5 t
  have i6 := idx6 t
  have i7 := idx7 t
  have i9 := idx9 t
  refine piece_attn P T _ _ _ _ _ _ _ _ R C r l 0 (512 * t + 0) (by omega) (by omega) (by omega) ?_ ?_ ?_ ?_ ?_ ?_ ?_ ?_
  · exact lies0 t P x0 h0 0 0 _ _ _ (by omega) (by omega)
  · exact lies1 t P x1 h1 0 0 _ _ _ (by omega) (by omega)
  · exact lies2 t P x2 h2 0 0 _ _ _ (by omega) (by omega)
  · exact lies3 t P x3 h3 0 0 _ _ _ (by omega) (by omega)
  · exact lies5 t P x5 h5 0 0 _ _ _ (by omega) (by omega)
  · exact lies6 t P x6 h6 0 0 _ _ _ (by omega) (by omega)
  · exact lies7 t P x7 h7 0 0 _ _ _ (by omega) (by omega)
  · intro s k a p' ha hp
    exact slab9 t T x9 h9 0 _ s k a p' (by omega) hp

/-- What the body leaves in the result's buffer, at an index. -/
theorem out_attn (R : Fin 32768) (C : Fin 512) (y : S512x512.Idx) (hR : (R : Nat) = 512 * t + y 0) (hC : (C : Nat) = y 1) :
    out0_11 x0 x1 x2 x3 x4 x5 x6 x7 x8 x9 x10 y = attn P T R C := by
  unfold out0_11
  refine View.canon_eq_of_allAt _ y _ (cover0_11 _ _ _ _ _ _ _ _ y) ?_
  refine View.allAt_cons_unit _ _ _ _ _ ?_ ?_
  · intro x hx
    have a0 : (y 0 : Nat) = 256 + x 0 := hx 0
    have a1 : (y 1 : Nat) = 384 + x 1 := hx 1
    obtain ⟨r, l, rfl⟩ : ∃ (r : Fin 256) (l : Fin 128), x = ix2 r l := ⟨x 0, x 1, funext fun a => match a with | ⟨0, _⟩ => rfl | ⟨1, _⟩ => rfl⟩
    have a0' : (y 0 : Nat) = 256 + r := a0
    have a1' : (y 1 : Nat) = 384 + l := a1
    exact (congrFun (pay_r15 _ _ _ _ _ _ _ _) _).trans (tile_15 P T t x0 x1 x2 x3 x4 x5 x6 x7 x8 x9 x10 h0 h1 h2 h3 h4 h5 h6 h7 h8 h9 h10 R C r l (by omega) (by omega))
  refine View.allAt_cons_unit _ _ _ _ _ ?_ ?_
  · intro x hx
    have a0 : (y 0 : Nat) = 256 + x 0 := hx 0
    have a1 : (y 1 : Nat) = 256 + x 1 := hx 1
    obtain ⟨r, l, rfl⟩ : ∃ (r : Fin 256) (l : Fin 128), x = ix2 r l := ⟨x 0, x 1, funext fun a => match a with | ⟨0, _⟩ => rfl | ⟨1, _⟩ => rfl⟩
    have a0' : (y 0 : Nat) = 256 + r := a0
    have a1' : (y 1 : Nat) = 256 + l := a1
    exact (congrFun (pay_r14 _ _ _ _ _ _ _ _) _).trans (tile_14 P T t x0 x1 x2 x3 x4 x5 x6 x7 x8 x9 x10 h0 h1 h2 h3 h4 h5 h6 h7 h8 h9 h10 R C r l (by omega) (by omega))
  refine View.allAt_cons_unit _ _ _ _ _ ?_ ?_
  · intro x hx
    have a0 : (y 0 : Nat) = 256 + x 0 := hx 0
    have a1 : (y 1 : Nat) = 128 + x 1 := hx 1
    obtain ⟨r, l, rfl⟩ : ∃ (r : Fin 256) (l : Fin 128), x = ix2 r l := ⟨x 0, x 1, funext fun a => match a with | ⟨0, _⟩ => rfl | ⟨1, _⟩ => rfl⟩
    have a0' : (y 0 : Nat) = 256 + r := a0
    have a1' : (y 1 : Nat) = 128 + l := a1
    exact (congrFun (pay_r13 _ _ _ _ _ _ _ _) _).trans (tile_13 P T t x0 x1 x2 x3 x4 x5 x6 x7 x8 x9 x10 h0 h1 h2 h3 h4 h5 h6 h7 h8 h9 h10 R C r l (by omega) (by omega))
  refine View.allAt_cons_unit _ _ _ _ _ ?_ ?_
  · intro x hx
    have a0 : (y 0 : Nat) = 256 + x 0 := hx 0
    have a1 : (y 1 : Nat) = 0 + x 1 := hx 1
    obtain ⟨r, l, rfl⟩ : ∃ (r : Fin 256) (l : Fin 128), x = ix2 r l := ⟨x 0, x 1, funext fun a => match a with | ⟨0, _⟩ => rfl | ⟨1, _⟩ => rfl⟩
    have a0' : (y 0 : Nat) = 256 + r := a0
    have a1' : (y 1 : Nat) = 0 + l := a1
    exact (congrFun (pay_r12 _ _ _ _ _ _ _ _) _).trans (tile_12 P T t x0 x1 x2 x3 x4 x5 x6 x7 x8 x9 x10 h0 h1 h2 h3 h4 h5 h6 h7 h8 h9 h10 R C r l (by omega) (by omega))
  refine View.allAt_cons_unit _ _ _ _ _ ?_ ?_
  · intro x hx
    have a0 : (y 0 : Nat) = 0 + x 0 := hx 0
    have a1 : (y 1 : Nat) = 384 + x 1 := hx 1
    obtain ⟨r, l, rfl⟩ : ∃ (r : Fin 256) (l : Fin 128), x = ix2 r l := ⟨x 0, x 1, funext fun a => match a with | ⟨0, _⟩ => rfl | ⟨1, _⟩ => rfl⟩
    have a0' : (y 0 : Nat) = 0 + r := a0
    have a1' : (y 1 : Nat) = 384 + l := a1
    exact (congrFun (pay_r9 _ _ _ _ _ _ _ _) _).trans (tile_9 P T t x0 x1 x2 x3 x4 x5 x6 x7 x8 x9 x10 h0 h1 h2 h3 h4 h5 h6 h7 h8 h9 h10 R C r l (by omega) (by omega))
  refine View.allAt_cons_unit _ _ _ _ _ ?_ ?_
  · intro x hx
    have a0 : (y 0 : Nat) = 0 + x 0 := hx 0
    have a1 : (y 1 : Nat) = 256 + x 1 := hx 1
    obtain ⟨r, l, rfl⟩ : ∃ (r : Fin 256) (l : Fin 128), x = ix2 r l := ⟨x 0, x 1, funext fun a => match a with | ⟨0, _⟩ => rfl | ⟨1, _⟩ => rfl⟩
    have a0' : (y 0 : Nat) = 0 + r := a0
    have a1' : (y 1 : Nat) = 256 + l := a1
    exact (congrFun (pay_r6 _ _ _ _ _ _ _ _) _).trans (tile_6 P T t x0 x1 x2 x3 x4 x5 x6 x7 x8 x9 x10 h0 h1 h2 h3 h4 h5 h6 h7 h8 h9 h10 R C r l (by omega) (by omega))
  refine View.allAt_cons_unit _ _ _ _ _ ?_ ?_
  · intro x hx
    have a0 : (y 0 : Nat) = 0 + x 0 := hx 0
    have a1 : (y 1 : Nat) = 128 + x 1 := hx 1
    obtain ⟨r, l, rfl⟩ : ∃ (r : Fin 256) (l : Fin 128), x = ix2 r l := ⟨x 0, x 1, funext fun a => match a with | ⟨0, _⟩ => rfl | ⟨1, _⟩ => rfl⟩
    have a0' : (y 0 : Nat) = 0 + r := a0
    have a1' : (y 1 : Nat) = 128 + l := a1
    exact (congrFun (pay_r3 _ _ _ _ _ _ _ _) _).trans (tile_3 P T t x0 x1 x2 x3 x4 x5 x6 x7 x8 x9 x10 h0 h1 h2 h3 h4 h5 h6 h7 h8 h9 h10 R C r l (by omega) (by omega))
  refine View.allAt_cons_unit _ _ _ _ _ ?_ ?_
  · intro x hx
    have a0 : (y 0 : Nat) = 0 + x 0 := hx 0
    have a1 : (y 1 : Nat) = 0 + x 1 := hx 1
    obtain ⟨r, l, rfl⟩ : ∃ (r : Fin 256) (l : Fin 128), x = ix2 r l := ⟨x 0, x 1, funext fun a => match a with | ⟨0, _⟩ => rfl | ⟨1, _⟩ => rfl⟩
    have a0' : (y 0 : Nat) = 0 + r := a0
    have a1' : (y 1 : Nat) = 0 + l := a1
    exact (congrFun (pay_r0 _ _ _ _ _ _ _ _) _).trans (tile_0 P T t x0 x1 x2 x3 x4 x5 x6 x7 x8 x9 x10 h0 h1 h2 h3 h4 h5 h6 h7 h8 h9 h10 R C r l (by omega) (by omega))
  exact View.allAt_nil _ _

end Cert.KernelIdeal.Attn

end
-- ==== Proof.KernelValue.lean ====
module

public import proofs.«01_k».proof.Proof.Tiles
public import Idealize.ShloMosaic.Lib.Pipeline.ValueKit.Geometry

/-!
  The kernel's run: it leaves the array `attn` of the two arrays the host wrote before the call.
-/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- The array `attn` as contents of the result's buffer. -/
def attnBuf (P : S32768x6656.Idx → EReal) (T : S3x4x512x768.Idx → EReal) : Vec Ideal S32768x512 .bf16 :=
  fun i => attn P T (i 0) (i 1)

/-- What a point writes back is its block of that array. -/
theorem out_block (P : S32768x6656.Idx → EReal) (T : S3x4x512x768.Idx → EReal) (t : Fin cfg0.N)
    (x0 : Vec Ideal S512x512 .bf16) (x1 x2 x3 x4 x5 x6 x7 x8 : Vec Ideal S256x512 .bf16) (x9 x10 : Vec Ideal S1x4x512x768 .f32)
    (h0 : x0 = (win0_0.blk t).view.read (Elt Ideal) P) (h1 : x1 = (win0_1.blk t).view.read (Elt Ideal) P)
    (h2 : x2 = (win0_2.blk t).view.read (Elt Ideal) P) (h3 : x3 = (win0_3.blk t).view.read (Elt Ideal) P)
    (h4 : x4 = (win0_4.blk t).view.read (Elt Ideal) P) (h5 : x5 = (win0_5.blk t).view.read (Elt Ideal) P)
    (h6 : x6 = (win0_6.blk t).view.read (Elt Ideal) P) (h7 : x7 = (win0_7.blk t).view.read (Elt Ideal) P)
    (h8 : x8 = (win0_8.blk t).view.read (Elt Ideal) P) (h9 : x9 = (win0_9.blk t).view.read (Elt Ideal) T)
    (h10 : x10 = (win0_10.blk t).view.read (Elt Ideal) T) :
    win0_11.cut (grid0.coords t) (out0_11 x0 x1 x2 x3 x4 x5 x6 x7 x8 x9 x10) = (win0_11.blk t).view.read (Elt Ideal) (attnBuf P T) := by
  funext y
  show out0_11 x0 x1 x2 x3 x4 x5 x6 x7 x8 x9 x10 (win0_11.xinj (grid0.coords t) y) = attnBuf P T ((win0_11.rect t).emb y)
  have e0 := win0_11.rect_emb_val t y 0
  have e1 := win0_11.rect_emb_val t y 1
  have hi := idx11 t
  refine out_attn P T t x0 x1 x2 x3 x4 x5 x6 x7 x8 x9 x10 h0 h1 h2 h3 h4 h5 h6 h7 h8 h9 h10 _ _ _ ?_ ?_
  · refine e0.trans ?_
    show win0_11.index t 0 * 512 + (y 0 : Nat) = 512 * (t : Nat) + (y 0 : Nat)
    omega
  · refine e1.trans ?_
    show win0_11.index t 1 * 512 + (y 1 : Nat) = (y 1 : Nat)
    omega

variable (m : (ℓ : Loc nD τ sig) → Buf (Elt Ideal) ℓ) (ρ : Dev nD → PrngReg)

theorem flushed_attn (c : Dev nD) (t : Fin cfg0.N) :
    (dats m 0 c).flushed 11 t = (win0_11.blk t).view.read (Elt Ideal) (attnBuf (V m c main_v12) (V m c main_v70)) :=
  (Value.flushed11 m c t).trans (out_block (V m c main_v12) (V m c main_v70) t _ _ _ _ _ _ _ _ _ _ _ rfl rfl rfl rfl rfl rfl rfl rfl rfl rfl rfl)

/-- The blocks fill the array. -/
theorem cover_attn (i : S32768x512.Idx) : ∃ t : Fin cfg0.N, (cfg0.win 11).flush t = true ∧ i ∈ ((cfg0.win 11).blk t).view.set :=
  Pipeline.Window.Covers.cover (w := win0_11) (by decide +kernel) (by exact Memref.isWhole_whole _) i

theorem final_attn (c : Dev nD) : (dats m 0 c).arrAt 11 cfg0.N = attnBuf (V m c main_v12) (V m c main_v70) :=
  (dats m 0 c).arrAt_eq_of_cover 11 (attnBuf (V m c main_v12) (V m c main_v70)) (fun t _ => flushed_attn m c t) cover_attn

end Cert.KernelIdeal.Attn

end
-- ==== Proof.RefTerm.lean ====
module

public import proofs.«01_k».proof.Proof.Gen.ReferenceIdeal
public import Idealize.ShloMosaic.Lib.StableHlo.RunHlo
public import Idealize.ShloMosaic.Lib.StableHlo.RunRead
public import Idealize.ShloMosaic.Lib.Pointwise

/-!
  The reference's run: what its host lines leave in the result, as a term of the two arguments.
-/

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- The queries, in chunks. -/
def queries (x : FVec Ideal S8x4096x6656 .f32) : FVec Ideal S8x64x64x8x64 .f32 :=
  shapeCast S8x64x64x8x64 (extractStridedSlice S8x4096x512 ![0, 0, 0] x slices_S8x4096x6656_S8x4096x512_0_0_0) shapeCasts_S8x4096x512_S8x64x64x8x64

/-- Chunks with eight empty chunks before them. -/
def padded (w : FVec Ideal S8x64x64x8x64 .f32) : FVec Ideal S8x72x64x8x64 .f32 :=
  pad S8x72x64x8x64 ![0, 8, 0, 0, 0] ![0, 0, 0, 0, 0] ![0, 0, 0, 0, 0] w (sitofp .f32 (constantI S_ 32 0#32)) pads_S8x64x64x8x64_S8x72x64x8x64_000_800_000_000_000 h_S_

/-- The keys, in chunks, eight empty chunks before them. -/
def keys (x : FVec Ideal S8x4096x6656 .f32) : FVec Ideal S8x72x64x8x64 .f32 :=
  padded (shapeCast S8x64x64x8x64 (extractStridedSlice S8x4096x512 ![0, 0, 512] x slices_S8x4096x6656_S8x4096x512_0_0_512) shapeCasts_S8x4096x512_S8x64x64x8x64)

/-- The values, in chunks, eight empty chunks before them. -/
def values (x : FVec Ideal S8x4096x6656 .f32) : FVec Ideal S8x72x64x8x64 .f32 :=
  padded (shapeCast S8x64x64x8x64 (extractStridedSlice S8x4096x512 ![0, 0, 1024] x slices_S8x4096x6656_S8x4096x512_0_0_1024) shapeCasts_S8x4096x512_S8x64x64x8x64)

/-- Each chunk's own chunk and the eight before it, side by side. -/
def windows (z : FVec Ideal S8x72x64x8x64 .f32) : FVec Ideal S8x64x576x8x64 .f32 :=
  concatenate S8x64x576x8x64 2
    [⟨S8x64x64x8x64, extractStridedSlice S8x64x64x8x64 ![0, 0, 0, 0, 0] z slices_S8x72x64x8x64_S8x64x64x8x64_0_0_0_0_0⟩,
     ⟨S8x64x64x8x64, extractStridedSlice S8x64x64x8x64 ![0, 1, 0, 0, 0] z slices_S8x72x64x8x64_S8x64x64x8x64_0_1_0_0_0⟩,
     ⟨S8x64x64x8x64, extractStridedSlice S8x64x64x8x64 ![0, 2, 0, 0, 0] z slices_S8x72x64x8x64_S8x64x64x8x64_0_2_0_0_0⟩,
     ⟨S8x64x64x8x64, extractStridedSlice S8x64x64x8x64 ![0, 3, 0, 0, 0] z slices_S8x72x64x8x64_S8x64x64x8x64_0_3_0_0_0⟩,
     ⟨S8x64x64x8x64, extractStridedSlice S8x64x64x8x64 ![0, 4, 0, 0, 0] z slices_S8x72x64x8x64_S8x64x64x8x64_0_4_0_0_0⟩,
     ⟨S8x64x64x8x64, extractStridedSlice S8x64x64x8x64 ![0, 5, 0, 0, 0] z slices_S8x72x64x8x64_S8x64x64x8x64_0_5_0_0_0⟩,
     ⟨S8x64x64x8x64, extractStridedSlice S8x64x64x8x64 ![0, 6, 0, 0, 0] z slices_S8x72x64x8x64_S8x64x64x8x64_0_6_0_0_0⟩,
     ⟨S8x64x64x8x64, extractStridedSlice S8x64x64x8x64 ![0, 7, 0, 0, 0] z slices_S8x72x64x8x64_S8x64x64x8x64_0_7_0_0_0⟩,
     ⟨S8x64x64x8x64, extractStridedSlice S8x64x64x8x64 ![0, 8, 0, 0, 0] z slices_S8x72x64x8x64_S8x64x64x8x64_0_8_0_0_0⟩]
    concatenates_S8x64x64x8x64_S8x64x64x8x64_S8x64x64x8x64_S8x64x64x8x64_S8x64x64x8x64_S8x64x64x8x64_S8x64x64x8x64_S8x64x64x8x64_S8x64x64x8x64_S8x64x576x8x64_d2

/-- How far the key at a place of the window lies behind a query of the chunk. -/
def distance : IVec S64x576 32 :=
  subi
    (broadcastInDim S64x576 ![0, 1] bcast_S64x1_S64x576_0_1 (broadcastInDim S64x1 ![0] bcast_S64_S64x1_0
      (addi (broadcastInDim S64 ![] bcast_S_S64 (constantI S_ 32 512#32)) (iotaInDim S64 32 0))))
    (broadcastInDim S64x576 ![0, 1] bcast_S1x576_S64x576_0_1 (broadcastInDim S1x576 ![1] bcast_S576_S1x576_1 (iotaInDim S576 32 0)))

/-- The distance cut to 128 both ways, counted from 0. -/
def clipped : IVec S64x576 32 :=
  addi
    (minsi (broadcastInDim S64x576 ![] bcast_S_S64x576 (constantI S_ 32 128#32))
      (maxsi (broadcastInDim S64x576 ![] bcast_S_S64x576 (constantI S_ 32 4294967168#32)) distance))
    (broadcastInDim S64x576 ![] bcast_S_S64x576 (constantI S_ 32 128#32))

/-- The entry of the bias that a place reads. -/
def places : IVec S64x576x1 32 :=
  broadcastInDim S64x576x1 ![0, 1] bcast_S64x576_S64x576x1_0_1
    (select (cmpi .slt clipped (broadcastInDim S64x576 ![] bcast_S_S64x576 (constantI S_ 32 0#32)))
      (addi clipped (broadcastInDim S64x576 ![] bcast_S_S64x576 (constantI S_ 32 257#32))) clipped)

/-- The bias of every head, query of a chunk and place of its window. -/
def biases (y : FVec Ideal S8x257 .f32) : FVec Ideal S8x64x576 .f32 :=
  Host.gather gather_S8x257_S64x576x1_S8x64x576_0_1_n_n_1_2_81 y places

/-- The floor of `x / 64`. -/
def floor64 (x : IVec S1x576 32) (k : IVec S_ 32) : IVec S1x576 32 :=
  select
    (andi (cmpi .ne (signi x) (broadcastInDim S1x576 ![] bcast_S_S1x576 (signi k)))
      (cmpi .ne (Host.remsi x (broadcastInDim S1x576 ![] bcast_S_S1x576 k))
        (broadcastInDim S1x576 ![] bcast_S_S1x576 (constantI S_ 32 0#32))))
    (subi (Host.divsi x (broadcastInDim S1x576 ![] bcast_S_S1x576 k)) (broadcastInDim S1x576 ![] bcast_S_S1x576 (constantI S_ 32 1#32)))
    (Host.divsi x (broadcastInDim S1x576 ![] bcast_S_S1x576 k))

/-- Whether a place of a chunk's window lies in the sequence. -/
def inside : IVec S64x576 1 :=
  cmpi .sge
    (addi
      (broadcastInDim S64x576 ![0, 1] bcast_S64x1_S64x576_0_1
        (subi (broadcastInDim S64x1 ![0] bcast_S64_S64x1_0 (iotaInDim S64 32 0)) (broadcastInDim S64x1 ![] bcast_S_S64x1 (constantI S_ 32 8#32))))
      (broadcastInDim S64x576 ![0, 1] bcast_S1x576_S64x576_0_1
        (floor64 (broadcastInDim S1x576 ![1] bcast_S576_S1x576_1 (iotaInDim S576 32 0)) (constantI S_ 32 64#32))))
    (broadcastInDim S64x576 ![] bcast_S_S64x576 (constantI S_ 32 0#32))

/-- The masked scores. -/
def scores (x : FVec Ideal S8x4096x6656 .f32) (y : FVec Ideal S8x257 .f32) : FVec Ideal S8x8x64x64x576 .f32 :=
  select
    (broadcastInDim S8x8x64x64x576 ![0, 1, 2, 3, 4] bcast_S1x1x64x1x576_S8x8x64x64x576_0_1_2_3_4
      (broadcastInDim S1x1x64x1x576 ![2, 4] bcast_S64x576_S1x1x64x1x576_2_4 inside))
    (addf
      (mulf (Host.dotGeneral dot_S8x64x64x8x64_S8x64x576x8x64_S8x8x64x64x576_4_4_2_2_031_031 none (queries x) (windows (keys x)))
        (broadcastInDim S8x8x64x64x576 ![] bcast_S_S8x8x64x64x576 (constant S_ .f32 0x3E000000#32)))
      (broadcastInDim S8x8x64x64x576 ![0, 1, 2, 3, 4] bcast_S1x8x1x64x576_S8x8x64x64x576_0_1_2_3_4
        (broadcastInDim S1x8x1x64x576 ![1, 3, 4] bcast_S8x64x576_S1x8x1x64x576_1_3_4 (biases y))))
    (broadcastInDim S8x8x64x64x576 ![] bcast_S_S8x8x64x64x576 (constant S_ .f32 0xFF800000#32))

/-- The exponentials of the scores less their row's greatest. -/
def weights (s : FVec Ideal S8x8x64x64x576 .f32) : FVec Ideal S8x8x64x64x576 .f32 :=
  Host.exp (subf s
    (broadcastInDim S8x8x64x64x576 ![0, 1, 2, 3, 4] bcast_S8x8x64x64x1_S8x8x64x64x576_0_1_2_3_4
      (broadcastInDim S8x8x64x64x1 ![0, 1, 2, 3] bcast_S8x8x64x64_S8x8x64x64x1_0_1_2_3
        (maximumf (broadcastInDim S8x8x64x64 ![] bcast_S_S8x8x64x64 (constant S_ .f32 0xFF800000#32))
          (Host.reduce FloatOps.maximumf s (constant S_ .f32 0xFF800000#32) reducesTo_S8x8x64x64x576_S8x8x64x64_d4 h_S_)))))

/-- The weights over their row's sum. -/
def shares (e : FVec Ideal S8x8x64x64x576 .f32) : FVec Ideal S8x8x64x64x576 .f32 :=
  Host.divf e
    (broadcastInDim S8x8x64x64x576 ![0, 1, 2, 3, 4] bcast_S8x8x64x64x1_S8x8x64x64x576_0_1_2_3_4
      (broadcastInDim S8x8x64x64x1 ![0, 1, 2, 3] bcast_S8x8x64x64_S8x8x64x64x1_0_1_2_3
        (Host.reduceAdd e (constant S_ .f32 0x00000000#32) reducesTo_S8x8x64x64x576_S8x8x64x64_d4 h_S_)))

/-- The values mixed by the shares. -/
def mixed (v : FVec Ideal S8x64x576x8x64 .f32) (p : FVec Ideal S8x8x64x64x576 .f32) : FVec Ideal S8x64x8x64x64 .f32 :=
  Host.dotGeneral dot_S8x64x576x8x64_S8x8x64x64x576_S8x64x8x64x64_2_4_4_3_013_021 none v p

/-- The result. -/
def result (x : FVec Ideal S8x4096x6656 .f32) (y : FVec Ideal S8x257 .f32) : FVec Ideal S32768x512 .bf16 :=
  truncf .bf16 (shapeCast S32768x512
    (transpose S8x64x64x8x64 [0, 1, 4, 2, 3] (mixed (windows (values x)) (shares (weights (scores x y)))) transposes_S8x64x8x64x64_S8x64x64x8x64_0_1_4_2_3)
    shapeCasts_S8x64x64x8x64_S32768x512) bitsLt_bf16_f32

end Cert.ReferenceIdeal.Attn

end
-- ==== Proof.RefRun.lean ====
module

public import proofs.«01_k».proof.Proof.RefTerm

/-!
  The reference's run: what its host lines leave in the result, as the term of the two arguments.
-/

@[expose] public section

set_option maxRecDepth 16384

noncomputable section

namespace Cert.ReferenceIdeal.Attn

open Cert.ReferenceIdeal Cert.ReferenceIdeal.Gen Idealize.ShloMosaic Idealize.ShloMosaic.TcCoe Idealize.SL.Sem

set_option maxHeartbeats 4000000 in
/-- The reference's host lines, with the proof that they are the whole of it. -/
def lineSeq : { ops : List (HloOp τ sig (Elt Ideal)) // ∀ d : Dev nD, StableHlo.IsSeq (main (F := Ideal) d) ops } :=
  by
    apply Subtype.mk
    hlo_seq

/-- The lines alone. -/
abbrev lines : List (HloOp τ sig (Elt Ideal)) := lineSeq.1

theorem part_8 (W : Valuation τ sig (Elt Ideal)) :
    StableHlo.upto lines W 21 (Proc.devRef .tc main_v8)
      = extractStridedSlice S8x64x64x8x64 ![0, 0, 0, 0, 0] (keys (W (Proc.devRef .tc main_arg0))) slices_S8x72x64x8x64_S8x64x64x8x64_0_0_0_0_0 := by
  after_reads_simp
  simp -implicitDefEqProofs only [StableHlo.TRef.toBuf, StableHlo.TRef.ofBuf, cast_cast, cast_eq, id_eq]
  rfl

theorem part_9 (W : Valuation τ sig (Elt Ideal)) :
    StableHlo.upto lines W 21 (Proc.devRef .tc main_v9)
      = extractStridedSlice S8x64x64x8x64 ![0, 1, 0, 0, 0] (keys (W (Proc.devRef .tc main_arg0))) slices_S8x72x64x8x64_S8x64x64x8x64_0_1_0_0_0 := by
  after_reads_simp
  simp -implicitDefEqProofs only [StableHlo.TRef.toBuf, StableHlo.TRef.ofBuf, cast_cast, cast_eq, id_eq]
  rfl

theorem part_10 (W : Valuation τ sig (Elt Ideal)) :
    StableHlo.upto lines W 21 (Proc.devRef .tc main_v10)
      = extractStridedSlice S8x64x64x8x64 ![0, 2, 0, 0, 0] (keys (W (Proc.devRef .tc main_arg0))) slices_S8x72x64x8x64_S8x64x64x8x64_0_2_0_0_0 := by
  after_reads_simp
  simp -implicitDefEqProofs only [StableHlo.TRef.toBuf, StableHlo.TRef.ofBuf, cast_cast, cast_eq, id_eq]
  rfl

theorem part_11 (W : Valuation τ sig (Elt Ideal)) :
    StableHlo.upto lines W 21 (Proc.devRef .tc main_v11)
      = extractStridedSlice S8x64x64x8x64 ![0, 3, 0, 0, 0] (keys (W (Proc.devRef .tc main_arg0))) slices_S8x72x64x8x64_S8x64x64x8x64_0_3_0_0_0 := by
  after_reads_simp
  simp -implicitDefEqProofs only [StableHlo.TRef.toBuf, StableHlo.TRef.ofBuf, cast_cast, cast_eq, id_eq]
  rfl

theorem part_12 (W : Valuation τ sig (Elt Ideal)) :
    StableHlo.upto lines W 21 (Proc.devRef .tc main_v12)
      = extractStridedSlice S8x64x64x8x64 ![0, 4, 0, 0, 0] (keys (W (Proc.devRef .tc main_arg0))) slices_S8x72x64x8x64_S8x64x64x8x64_0_4_0_0_0 := by
  after_reads_simp
  simp -implicitDefEqProofs only [StableHlo.TRef.toBuf, StableHlo.TRef.ofBuf, cast_cast, cast_eq, id_eq]
  rfl

theorem part_13 (W : Valuation τ sig (Elt Ideal)) :
    StableHlo.upto lines W 21 (Proc.devRef .tc main_v13)
      = extractStridedSlice S8x64x64x8x64 ![0, 5, 0, 0, 0] (keys (W (Proc.devRef .tc main_arg0))) slices_S8x72x64x8x64_S8x64x64x8x64_0_5_0_0_0 := by
  after_reads_simp
  simp -implicitDefEqProofs only [StableHlo.TRef.toBuf, StableHlo.TRef.ofBuf, cast_cast, cast_eq, id_eq]
  rfl

theorem part_14 (W : Valuation τ sig (Elt Ideal)) :
    StableHlo.upto lines W 21 (Proc.devRef .tc main_v14)
      = extractStridedSlice S8x64x64x8x64 ![0, 6, 0, 0, 0] (keys (W (Proc.devRef .tc main_arg0))) slices_S8x72x64x8x64_S8x64x64x8x64_0_6_0_0_0 := by
  after_reads_simp
  simp -implicitDefEqProofs only [StableHlo.TRef.toBuf, StableHlo.TRef.ofBuf, cast_cast, cast_eq, id_eq]
  rfl

theorem part_15 (W : Valuation τ sig (Elt Ideal)) :
    StableHlo.upto lines W 21 (Proc.devRef .tc main_v15)
      = extractStridedSlice S8x64x64x8x64 ![0, 7, 0, 0, 0] (keys (W (Proc.devRef .tc main_arg0))) slices_S8x72x64x8x64_S8x64x64x8x64_0_7_0_0_0 := by
  after_reads_simp
  simp -implicitDefEqProofs only [StableHlo.TRef.toBuf, StableHlo.TRef.ofBuf, cast_cast, cast_eq, id_eq]
  rfl

theorem part_16 (W : Valuation τ sig (Elt Ideal)) :
    StableHlo.upto lines W 21 (Proc.devRef .tc main_v16)
      = extractStridedSlice S8x64x64x8x64 ![0, 8, 0, 0, 0] (keys (W (Proc.devRef .tc main_arg0))) slices_S8x72x64x8x64_S8x64x64x8x64_0_8_0_0_0 := by
  after_reads_simp
  simp -implicitDefEqProofs only [StableHlo.TRef.toBuf, StableHlo.TRef.ofBuf, cast_cast, cast_eq, id_eq]
  rfl

theorem part_18 (W : Valuation τ sig (Elt Ideal)) :
    StableHlo.upto lines W 31 (Proc.devRef .tc main_v18)
      = extractStridedSlice S8x64x64x8x64 ![0, 0, 0, 0, 0] (values (W (Proc.devRef .tc main_arg0))) slices_S8x72x64x8x64_S8x64x64x8x64_0_0_0_0_0 := by
  after_reads_simp
  simp -implicitDefEqProofs only [StableHlo.TRef.toBuf, StableHlo.TRef.ofBuf, cast_cast, cast_eq, id_eq]
  rfl

theorem part_19 (W : Valuation τ sig (Elt Ideal)) :
    StableHlo.upto lines W 31 (Proc.devRef .tc main_v19)
      = extractStridedSlice S8x64x64x8x64 ![0, 1, 0, 0, 0] (values (W (Proc.devRef .tc main_arg0))) slices_S8x72x64x8x64_S8x64x64x8x64_0_1_0_0_0 := by
  after_reads_simp
  simp -implicitDefEqProofs only [StableHlo.TRef.toBuf, StableHlo.TRef.ofBuf, cast_cast, cast_eq, id_eq]
  rfl

theorem part_20 (W : Valuation τ sig (Elt Ideal)) :
    StableHlo.upto lines W 31 (Proc.devRef .tc main_v20)
      = extractStridedSlice S8x64x64x8x64 ![0, 2, 0, 0, 0] (values (W (Proc.devRef .tc main_arg0))) slices_S8x72x64x8x64_S8x64x64x8x64_0_2_0_0_0 := by
  after_reads_simp
  simp -implicitDefEqProofs only [StableHlo.TRef.toBuf, StableHlo.TRef.ofBuf, cast_cast, cast_eq, id_eq]
  rfl

theorem part_21 (W : Valuation τ sig (Elt Ideal)) :
    StableHlo.upto lines W 31 (Proc.devRef .tc main_v21)
      = extractStridedSlice S8x64x64x8x64 ![0, 3, 0, 0, 0] (values (W (Proc.devRef .tc main_arg0))) slices_S8x72x64x8x64_S8x64x64x8x64_0_3_0_0_0 := by
  after_reads_simp
  simp -implicitDefEqProofs only [StableHlo.TRef.toBuf, StableHlo.TRef.ofBuf, cast_cast, cast_eq, id_eq]
  rfl

theorem part_22 (W : Valuation τ sig (Elt Ideal)) :
    StableHlo.upto lines W 31 (Proc.devRef .tc main_v22)
      = extractStridedSlice S8x64x64x8x64 ![0, 4, 0, 0, 0] (values (W (Proc.devRef .tc main_arg0))) slices_S8x72x64x8x64_S8x64x64x8x64_0_4_0_0_0 := by
  after_reads_simp
  simp -implicitDefEqProofs only [StableHlo.TRef.toBuf, StableHlo.TRef.ofBuf, cast_cast, cast_eq, id_eq]
  rfl

theorem part_23 (W : Valuation τ sig (Elt Ideal)) :
    StableHlo.upto lines W 31 (Proc.devRef .tc main_v23)
      = extractStridedSlice S8x64x64x8x64 ![0, 5, 0, 0, 0] (values (W (Proc.devRef .tc main_arg0))) slices_S8x72x64x8x64_S8x64x64x8x64_0_5_0_0_0 := by
  after_reads_simp
  simp -implicitDefEqProofs only [StableHlo.TRef.toBuf, StableHlo.TRef.ofBuf, cast_cast, cast_eq, id_eq]
  rfl

theorem part_24 (W : Valuation τ sig (Elt Ideal)) :
    StableHlo.upto lines W 31 (Proc.devRef .tc main_v24)
      = extractStridedSlice S8x64x64x8x64 ![0, 6, 0, 0, 0] (values (W (Proc.devRef .tc main_arg0))) slices_S8x72x64x8x64_S8x64x64x8x64_0_6_0_0_0 := by
  after_reads_simp
  simp -implicitDefEqProofs only [StableHlo.TRef.toBuf, StableHlo.TRef.ofBuf, cast_cast, cast_eq, id_eq]
  rfl

theorem part_25 (W : Valuation τ sig (Elt Ideal)) :
    StableHlo.upto lines W 31 (Proc.devRef .tc main_v25)
      = extractStridedSlice S8x64x64x8x64 ![0, 7, 0, 0, 0] (values (W (Proc.devRef .tc main_arg0))) slices_S8x72x64x8x64_S8x64x64x8x64_0_7_0_0_0 := by
  after_reads_simp
  simp -implicitDefEqProofs only [StableHlo.TRef.toBuf, StableHlo.TRef.ofBuf, cast_cast, cast_eq, id_eq]
  rfl

theorem part_26 (W : Valuation τ sig (Elt Ideal)) :
    StableHlo.upto lines W 31 (Proc.devRef .tc main_v26)
      = extractStridedSlice S8x64x64x8x64 ![0, 8, 0, 0, 0] (values (W (Proc.devRef .tc main_arg0))) slices_S8x72x64x8x64_S8x64x64x8x64_0_8_0_0_0 := by
  after_reads_simp
  simp -implicitDefEqProofs only [StableHlo.TRef.toBuf, StableHlo.TRef.ofBuf, cast_cast, cast_eq, id_eq]
  rfl

theorem read_result (W : Valuation τ sig (Elt Ideal)) :
    StableHlo.after lines W (Proc.devRef .tc main_v80) = result (W (Proc.devRef .tc main_arg0)) (W (Proc.devRef .tc main_arg1)) := by
  after_reads_simp
  simp -implicitDefEqProofs only [StableHlo.TRef.toBuf, StableHlo.TRef.ofBuf, cast_cast, cast_eq, id_eq]
  dsimp only [Matrix.cons_val]
  rw [part_8, part_9, part_10, part_11, part_12, part_13, part_14, part_15, part_16, part_18, part_19, part_20, part_21, part_22, part_23, part_24, part_25, part_26]
  rfl

theorem read_arg0 (W : Valuation τ sig (Elt Ideal)) : StableHlo.after lines W (Proc.devRef .tc main_arg0) = W (Proc.devRef .tc main_arg0) := by
  after_reads_simp

theorem read_arg1 (W : Valuation τ sig (Elt Ideal)) : StableHlo.after lines W (Proc.devRef .tc main_arg1) = W (Proc.devRef .tc main_arg1) := by
  after_reads_simp

/-- The run, whatever the arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v80) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (StableHlo.run_hlo (defs (F := Ideal)) main lineSeq.2 (by decide) (by decide)
      (by simp [lineSeq]) (by intro _ h; (repeat (cases h with | head => rfl | tail _ h => ?_)); exact nomatch h) m ρ)
    fun r h c => ⟨(h c main_v80).trans (read_result _), (h c main_arg0).trans (read_arg0 _), (h c main_arg1).trans (read_arg1 _)⟩

end Cert.ReferenceIdeal.Attn

end
-- ==== Proof.Host.lean ====
module

public import proofs.«01_k».proof.Proof.Gen.KernelIdeal.Frame
public import Idealize.ShloMosaic.Lib.StableHlo.RunRead
public import Idealize.ShloMosaic.Lib.Pointwise

/-!
  The two arrays the host writes before the call. The projection's columns are reordered, the queries
  scaled; the bias is spread along the diagonals of a tile, with the masked places at minus infinity,
  once for every distance of a tile from the start of the sequence.
-/

@[expose] public section

set_option maxRecDepth 16384

noncomputable section

open Cert.KernelIdeal Cert.KernelIdeal.Gen Idealize.ShloMosaic Idealize.ShloMosaic.TcCoe Idealize.SL.Sem

namespace Cert.KernelIdeal.Attn

/-- The scalar `1 / log 2`. -/
def log2e : FVec Ideal S_ .f32 := Host.divf (constant S_ .f32 0x3F800000#32) (Host.log (constant S_ .f32 0x40000000#32))

/-- The projection with the gates halved, the queries scaled and brought behind the gates, as rows. -/
def projTerm (x : FVec Ideal S8x4096x6656 .f32) : FVec Ideal S32768x6656 .bf16 :=
  shapeCast S32768x6656 (truncf .bf16
    (concatenate S8x4096x6656 2
      [⟨S8x4096x3072, mulf (broadcastInDim S8x4096x3072 ![] bcast_S_S8x4096x3072 (constant S_ .f32 0x3F000000#32))
          (extractStridedSlice S8x4096x3072 ![0, 0, 3584] x slices_S8x4096x6656_S8x4096x3072_0_0_3584)⟩,
       ⟨S8x4096x512, mulf (broadcastInDim S8x4096x512 ![] bcast_S_S8x4096x512 (mulf (constant S_ .f32 0x3E000000#32) log2e))
          (extractStridedSlice S8x4096x512 ![0, 0, 0] x slices_S8x4096x6656_S8x4096x512_0_0_0)⟩,
       ⟨S8x4096x3072, extractStridedSlice S8x4096x3072 ![0, 0, 512] x slices_S8x4096x6656_S8x4096x3072_0_0_512⟩]
      concatenates_S8x4096x3072_S8x4096x512_S8x4096x3072_S8x4096x6656_d2) bitsLt_bf16_f32)
    shapeCasts_S8x4096x6656_S32768x6656

/-- The bias times `1 / log 2`. -/
def scaledBias (y : FVec Ideal S8x257 .f32) : FVec Ideal S8x257 .f32 :=
  mulf y (broadcastInDim S8x257 ![] bcast_S_S8x257 log2e)

/-- The bias of one head along the diagonals of a tile. -/
def diag (y : FVec Ideal S8x257 .f32) : FVec Ideal S8x1024 .f32 :=
  concatenate S8x1024 1
    [⟨S8x639, broadcastInDim S8x639 ![0, 1] bcast_S8x1_S8x639_0_1 (extractStridedSlice S8x1 ![0, 256] (scaledBias y) slices_S8x257_S8x1_0_256)⟩,
     ⟨S8x257, Host.reverse [1] (scaledBias y)⟩,
     ⟨S8x128, broadcastInDim S8x128 ![0, 1] bcast_S8x1_S8x128_0_1 (extractStridedSlice S8x1 ![0, 0] (scaledBias y) slices_S8x257_S8x1_0_0)⟩]
    concatenates_S8x639_S8x257_S8x128_S8x1024_d1

/-- The diagonals turned left by 255 places. -/
def rolled (y : FVec Ideal S8x257 .f32) : FVec Ideal S8x1024 .f32 :=
  concatenate S8x1024 1
    [⟨S8x769, extractStridedSlice S8x769 ![0, 255] (diag y) slices_S8x1024_S8x769_0_255⟩,
     ⟨S8x255, extractStridedSlice S8x255 ![0, 0] (diag y) slices_S8x1024_S8x255_0_0⟩]
    concatenates_S8x769_S8x255_S8x1024_d1

/-- The bias spread over the rows and columns of a tile. -/
def toeplitz (y : FVec Ideal S8x257 .f32) : FVec Ideal S8x256x768 .f32 :=
  extractStridedSlice S8x256x768 ![0, 0, 0]
    (shapeCast S8x256x1023
      (extractStridedSlice S8x261888 ![0, 0]
        (shapeCast S8x262144
          (broadcastInDim S8x256x1024 ![0, 1, 2] bcast_S8x1x1024_S8x256x1024_0_1_2
            (broadcastInDim S8x1x1024 ![0, 2] bcast_S8x1024_S8x1x1024_0_2 (rolled y)))
          shapeCasts_S8x256x1024_S8x262144)
        slices_S8x262144_S8x261888_0_0)
      shapeCasts_S8x261888_S8x256x1023)
    slices_S8x256x1023_S8x256x768_0_0_0

/-- The floor of `x / k` on the tile's rows. -/
def floorRows (x : IVec S256 32) (k : IVec S_ 32) : IVec S256 32 :=
  select
    (andi (cmpi .ne (signi x) (broadcastInDim S256 ![] bcast_S_S256 (signi k)))
      (cmpi .ne (Host.remsi x (broadcastInDim S256 ![] bcast_S_S256 k))
        (broadcastInDim S256 ![] bcast_S_S256 (constantI S_ 32 0#32))))
    (subi (Host.divsi x (broadcastInDim S256 ![] bcast_S_S256 k)) (broadcastInDim S256 ![] bcast_S_S256 (constantI S_ 32 1#32)))
    (Host.divsi x (broadcastInDim S256 ![] bcast_S_S256 k))

/-- The floor of `x / k` on the tile's columns. -/
def floorCols (x : IVec S768 32) (k : IVec S_ 32) : IVec S768 32 :=
  select
    (andi (cmpi .ne (signi x) (broadcastInDim S768 ![] bcast_S_S768 (signi k)))
      (cmpi .ne (Host.remsi x (broadcastInDim S768 ![] bcast_S_S768 k))
        (broadcastInDim S768 ![] bcast_S_S768 (constantI S_ 32 0#32))))
    (subi (Host.divsi x (broadcastInDim S768 ![] bcast_S_S768 k)) (broadcastInDim S768 ![] bcast_S_S768 (constantI S_ 32 1#32)))
    (Host.divsi x (broadcastInDim S768 ![] bcast_S_S768 k))

/-- The chunk of a tile's row, as a column. -/
def rowChunk : IVec S256x1 32 :=
  broadcastInDim S256x1 ![0] bcast_S256_S256x1_0 (floorRows (iotaInDim S256 32 0) (constantI S_ 32 64#32))

/-- The chunk of a tile's column, as a row. -/
def colChunk : IVec S1x768 32 :=
  broadcastInDim S1x768 ![1] bcast_S768_S1x768_1 (floorCols (iotaInDim S768 32 0) (constantI S_ 32 64#32))

/-- The band: a row sees its own chunk and the eight before it. -/
def band : IVec S256x768 1 :=
  andi
    (cmpi .sge (broadcastInDim S256x768 ![0, 1] bcast_S1x768_S256x768_0_1 colChunk)
      (broadcastInDim S256x768 ![0, 1] bcast_S256x1_S256x768_0_1 rowChunk))
    (cmpi .sle (broadcastInDim S256x768 ![0, 1] bcast_S1x768_S256x768_0_1 colChunk)
      (broadcastInDim S256x768 ![0, 1] bcast_S256x1_S256x768_0_1
        (addi rowChunk (broadcastInDim S256x1 ![] bcast_S_S256x1 (constantI S_ 32 8#32)))))

/-- One variant of the table: the band cut to the columns from `n` on. -/
def variant (n : BitVec 32) (y : FVec Ideal S8x257 .f32) : FVec Ideal S8x256x768 .f32 :=
  select
    (broadcastInDim S8x256x768 ![0, 1, 2] bcast_S1x256x768_S8x256x768_0_1_2
      (broadcastInDim S1x256x768 ![1, 2] bcast_S256x768_S1x256x768_1_2
        (andi band
          (broadcastInDim S256x768 ![0, 1] bcast_S1x768_S256x768_0_1
            (cmpi .sge (broadcastInDim S1x768 ![1] bcast_S768_S1x768_1 (iotaInDim S768 32 0))
              (broadcastInDim S1x768 ![] bcast_S_S1x768 (constantI S_ 32 n)))))))
    (toeplitz y)
    (broadcastInDim S8x256x768 ![] bcast_S_S8x256x768 (constant (F := Ideal) S_ .f32 0xFF800000#32))

/-- The table: the three variants, the heads in pairs. -/
def tableTerm (y : FVec Ideal S8x257 .f32) : FVec Ideal S3x4x512x768 .f32 :=
  shapeCast S3x4x512x768
    (concatenate S3x8x256x768 0
      [⟨S1x8x256x768, broadcastInDim S1x8x256x768 ![1, 2, 3] bcast_S8x256x768_S1x8x256x768_1_2_3 (variant 512#32 y)⟩,
       ⟨S1x8x256x768, broadcastInDim S1x8x256x768 ![1, 2, 3] bcast_S8x256x768_S1x8x256x768_1_2_3 (variant 256#32 y)⟩,
       ⟨S1x8x256x768, broadcastInDim S1x8x256x768 ![1, 2, 3] bcast_S8x256x768_S1x8x256x768_1_2_3 (variant 0#32 y)⟩]
      concatenates_S1x8x256x768_S1x8x256x768_S1x8x256x768_S3x8x256x768_d0)
    shapeCasts_S3x8x256x768_S3x4x512x768

variable (m : (ℓ : Loc nD τ sig) → Buf (Elt Ideal) ℓ)

/-- What the call finds in the projection's rows. -/
theorem V_proj (c : Dev nD) : V m c main_v12 = projTerm (m ((c : Thread nD τ).loc main_arg0)) := by
  after_reads_simp
  try simp -implicitDefEqProofs only [StableHlo.TRef.toBuf, StableHlo.TRef.ofBuf, cast_cast, cast_eq]
  rfl

/-- The host's lines, one after the other. -/
abbrev lines : List (HloOp τ sig (Elt Ideal)) :=
  List.flatten [hostOps0, hostOps0_1, hostOps0_2, hostOps0_3, hostOps0_4, hostOps0_5, hostOps0_6, hostOps0_7, hostOps0_8, hostOps0_9, hostOps0_10, hostOps0_11, hostOps0_12]

/-- The left part of the turned diagonals, where it is read. -/
theorem left_part (W : Valuation τ sig (Elt Ideal)) :
    StableHlo.upto lines W 31 (Proc.devRef .tc main_call0_v0)
      = extractStridedSlice S8x769 ![0, 255] (diag (W (Proc.devRef .tc main_arg1))) slices_S8x1024_S8x769_0_255 := by
  after_reads_simp
  rfl

/-- The right part of the turned diagonals, where it is read. -/
theorem right_part (W : Valuation τ sig (Elt Ideal)) :
    StableHlo.upto lines W 31 (Proc.devRef .tc main_call0_v1)
      = extractStridedSlice S8x255 ![0, 0] (diag (W (Proc.devRef .tc main_arg1))) slices_S8x1024_S8x255_0_0 := by
  after_reads_simp
  rfl

/-- The variant from column 512 on, where it is read. -/
theorem variant_512 (W : Valuation τ sig (Elt Ideal)) :
    StableHlo.upto lines W 127 (Proc.devRef .tc main_v66)
      = broadcastInDim S1x8x256x768 ![1, 2, 3] bcast_S8x256x768_S1x8x256x768_1_2_3
          (variant 512#32 (W (Proc.devRef .tc main_arg1))) := by
  after_reads_simp
  simp -implicitDefEqProofs only [StableHlo.TRef.toBuf, StableHlo.TRef.ofBuf, cast_cast, cast_eq, id_eq]
  rw [left_part, right_part]
  rfl

/-- The variant from column 256 on, where it is read. -/
theorem variant_256 (W : Valuation τ sig (Elt Ideal)) :
    StableHlo.upto lines W 127 (Proc.devRef .tc main_v67)
      = broadcastInDim S1x8x256x768 ![1, 2, 3] bcast_S8x256x768_S1x8x256x768_1_2_3
          (variant 256#32 (W (Proc.devRef .tc main_arg1))) := by
  after_reads_simp
  simp -implicitDefEqProofs only [StableHlo.TRef.toBuf, StableHlo.TRef.ofBuf, cast_cast, cast_eq, id_eq]
  rw [left_part, right_part]
  rfl

/-- The variant from column 0 on, where it is read. -/
theorem variant_0 (W : Valuation τ sig (Elt Ideal)) :
    StableHlo.upto lines W 127 (Proc.devRef .tc main_v68)
      = broadcastInDim S1x8x256x768 ![1, 2, 3] bcast_S8x256x768_S1x8x256x768_1_2_3
          (variant 0#32 (W (Proc.devRef .tc main_arg1))) := by
  after_reads_simp
  simp -implicitDefEqProofs only [StableHlo.TRef.toBuf, StableHlo.TRef.ofBuf, cast_cast, cast_eq, id_eq]
  rw [left_part, right_part]
  rfl

/-- What the call finds in the table. -/
theorem V_table (c : Dev nD) : V m c main_v70 = tableTerm (m ((c : Thread nD τ).loc main_arg1)) := by
  after_reads_simp
  dsimp only [Matrix.cons_val]
  rw [variant_512, variant_256, variant_0]
  rfl

end Cert.KernelIdeal.Attn
-- ==== Proof.Turn.lean ====
module

public import proofs.«01_k».proof.Proof.Host

/-!
  The tile of the bias read off the turned diagonals: one row of the tile starts one place before the row above it.
-/

@[expose] public section

set_option maxRecDepth 16384

noncomputable section

namespace Cert.KernelIdeal.Attn

open Cert.KernelIdeal Cert.KernelIdeal.Gen Idealize.ShloMosaic Idealize.ShloMosaic.TcCoe Idealize.SL.Sem

/-- The tile read off the turned diagonals. -/
theorem toeplitz_rolled (y : FVec Ideal S8x257 .f32) (a : Fin 8) (r : Fin 256) (k : Fin 768) :
    toeplitz y (ix3 a r k) = rolled y (ix2 a ⟨((r : ℕ) * 1023 + k) % 1024, Nat.mod_lt _ (by norm_num)⟩) := by
  pointwise [toeplitz]

end Cert.KernelIdeal.Attn
-- ==== Proof.HostAt.lean ====
module

public import proofs.«01_k».proof.Proof.Turn

/-!
  The host's two arrays at an index: a scaled query, a key or a value of the projection, and an entry of the table.
-/

@[expose] public section

set_option maxRecDepth 16384

noncomputable section

namespace Cert.KernelIdeal.Attn

open Cert.KernelIdeal Cert.KernelIdeal.Gen Idealize.ShloMosaic Idealize.ShloMosaic.TcCoe Idealize.SL.Sem

/-- The number `1 / log 2`. -/
def ell : ℝ := (Real.log 2)⁻¹

/-- The host's scalar is that number. -/
theorem log2e_eq : Ideal.div 1 (Ideal.log (Ideal.ofBits FTy.f32 1073741824#32)) = ((ell : ℝ) : EReal) := by
  have h2 : Ideal.ofBits FTy.f32 1073741824#32 = ((2 : ℝ) : EReal) := by
    simp [Ideal.ofBits, Ideal.ieee]
    rw [← EReal.coe_mul]
    norm_num
  have hl : (0 : ℝ) < Real.log 2 := Real.log_pos (by norm_num)
  rw [h2, Ideal.log_coe, if_neg (by norm_num), Ideal.div, if_neg (by exact_mod_cast hl.ne'), one_mul, ← EReal.coe_inv]
  rfl

/-- The scale of the queries is an eighth. -/
theorem eighth_eq : Ideal.ofBits FTy.f32 1040187392#32 = ((1 / 8 : ℝ) : EReal) := by
  simp [Ideal.ofBits, Ideal.ieee]
  rw [← EReal.coe_mul]
  norm_num

/-- Minus infinity's word. -/
theorem word_bot : Ideal.ofBits FTy.f32 4286578688#32 = (⊥ : EReal) := by
  simp [Ideal.ofBits, Ideal.ieee]

/-- A query of the projection: the eighth part over `log 2`. -/
theorem proj_query (x : FVec Ideal S8x4096x6656 .f32) (R : Fin 32768) (C : Fin 6656) (j : ℕ) (hj : j < 512) (hC : (C : ℕ) = 3072 + j) :
    projTerm x (ix2 R C) = ((1 / 8 * ell : ℝ) : EReal) * x (ix3 ⟨(R : ℕ) / 4096, by omega⟩ ⟨(R : ℕ) % 4096, by omega⟩ ⟨j, by omega⟩) := by
  pointwise [projTerm, log2e]
  rw [dif_neg (by omega), dif_pos (by omega), log2e_eq, eighth_eq, ← EReal.coe_mul]
  congr 3
  exact Fin.ext (by dsimp only; omega)

/-- A key or a value of the projection: as it came. -/
theorem proj_key (x : FVec Ideal S8x4096x6656 .f32) (R : Fin 32768) (C : Fin 6656) (j : ℕ) (hj : j < 3072) (hC : (C : ℕ) = 3584 + j) :
    projTerm x (ix2 R C) = x (ix3 ⟨(R : ℕ) / 4096, by omega⟩ ⟨(R : ℕ) % 4096, by omega⟩ ⟨512 + j, by omega⟩) := by
  pointwise [projTerm, log2e]
  rw [dif_neg (by omega), dif_neg (by omega)]
  congr 2
  exact Fin.ext (by dsimp only; omega)

/-- A row's place along the turned diagonals. -/
theorem turn (r k : ℕ) (hr : r < 256) (hk : k < 768) :
    (r ≤ k ∧ (r * 1023 + k) % 1024 = k - r) ∨ (k < r ∧ (r * 1023 + k) % 1024 = 1024 + k - r) := by
  rcases Nat.lt_or_ge k r with h | h
  · refine Or.inr ⟨h, ?_⟩
    have e : r * 1023 + k = (1024 + k - r) + 1024 * (r - 1) := by omega
    rw [e, Nat.add_mul_mod_self_left, Nat.mod_eq_of_lt (by omega)]
  · refine Or.inl ⟨h, ?_⟩
    have e : r * 1023 + k = (k - r) + 1024 * r := by omega
    rw [e, Nat.add_mul_mod_self_left, Nat.mod_eq_of_lt (by omega)]

/-- The scaled bias at an index. -/
theorem scaledBias_at (y : FVec Ideal S8x257 .f32) (a : Fin 8) (n : Fin 257) :
    scaledBias y (ix2 a n) = y (ix2 a n) * ((ell : ℝ) : EReal) := by
  pointwise [scaledBias, log2e]
  rw [log2e_eq]

/-- The bias's entry on a diagonal. -/
def entry (t : ℕ) : Fin 257 := ⟨min (895 - t) 256, by omega⟩

/-- The diagonals at an index. -/
theorem diag_at (y : FVec Ideal S8x257 .f32) (a : Fin 8) (t : Fin 1024) :
    diag y (ix2 a t) = y (ix2 a (entry t)) * ((ell : ℝ) : EReal) := by
  rw [← scaledBias_at]
  have e0 : ∀ (z w : Fin 257), (z : ℕ) = (w : ℕ) → scaledBias y (ix2 a z) = scaledBias y (ix2 a w) := by
    intro z w h; rw [Fin.ext h]
  pointwise [diag]
  by_cases h : (t : ℕ) < 639
  · rw [dif_pos h]; exact e0 _ _ (by show 256 = min (895 - (t : ℕ)) 256; omega)
  rw [dif_neg h]
  by_cases h' : (t : ℕ) - 639 < 257
  · rw [dif_pos h']
    exact e0 (Fin.rev ⟨(t : ℕ) - 639, h'⟩) (entry t) (by simp only [Fin.val_rev, entry]; omega)
  · rw [dif_neg h']; exact e0 _ _ (by show 0 = min (895 - (t : ℕ)) 256; omega)

/-- The turned diagonals at an index. -/
theorem rolled_at (y : FVec Ideal S8x257 .f32) (a : Fin 8) (t : Fin 1024) :
    rolled y (ix2 a t) = diag y (ix2 a ⟨((t : ℕ) + 255) % 1024, Nat.mod_lt _ (by norm_num)⟩) := by
  have e0 : ∀ (z w : Fin 1024), (z : ℕ) = (w : ℕ) → diag y (ix2 a z) = diag y (ix2 a w) := by
    intro z w h; rw [Fin.ext h]
  have ht := t.isLt
  pointwise [rolled]
  by_cases h : (t : ℕ) < 769
  · rw [dif_pos h]; exact e0 _ _ (by dsimp only; omega)
  · rw [dif_neg h]; exact e0 _ _ (by dsimp only; omega)

/-- The bias of a row and a column of a tile: the distance, cut at both ends. -/
theorem toeplitz_at (y : FVec Ideal S8x257 .f32) (a : Fin 8) (r : Fin 256) (k : Fin 768) :
    toeplitz y (ix3 a r k) = y (ix2 a ⟨min (640 + (r : ℕ) - k) 256, by omega⟩) * ((ell : ℝ) : EReal) := by
  rw [toeplitz_rolled, rolled_at, diag_at]
  have hr := r.isLt
  have hk := k.isLt
  have ht := turn (r : ℕ) k hr hk
  have e0 : ∀ (z w : Fin 257), (z : ℕ) = (w : ℕ) → y (ix2 a z) * ((ell : ℝ) : EReal) = y (ix2 a w) * ((ell : ℝ) : EReal) := by
    intro z w h; rw [Fin.ext h]
  refine e0 _ _ ?_
  dsimp only [entry]
  omega

/-- The chunk of a row. -/
theorem floorRows_at (r : Fin 256) : floorRows (iotaInDim S256 32 0) (constantI S_ 32 64#32) (ix1 r) = BitVec.ofNat 32 ((r : ℕ) / 64) := by
  pointwise [floorRows]
  revert r
  decide +kernel

/-- The chunk of a column. -/
theorem floorCols_at (k : Fin 768) : floorCols (iotaInDim S768 32 0) (constantI S_ 32 64#32) (ix1 k) = BitVec.ofNat 32 ((k : ℕ) / 64) := by
  pointwise [floorCols]
  revert k
  decide +kernel

/-- A row sees a column: the column's chunk is one of nine from the row's own on. -/
def sees (r k : ℕ) : Prop := r / 64 ≤ k / 64 ∧ k / 64 ≤ r / 64 + 8

instance (r k : ℕ) : Decidable (sees r k) := by unfold sees; infer_instance

/-- The band at an index. -/
theorem band_at (r : Fin 256) (k : Fin 768) : band (ix2 r k) = if sees r k then 1#1 else 0#1 := by
  pointwise [band, rowChunk, colChunk]
  rw [floorRows_at, floorCols_at]
  have key : ∀ a : Fin 4, ∀ b : Fin 12, IntOp.andi (IntOp.cmpi CmpIPredicate.sge (BitVec.ofNat 32 b) (BitVec.ofNat 32 a))
      (IntOp.cmpi CmpIPredicate.sle (BitVec.ofNat 32 b) (IntOp.addi (BitVec.ofNat 32 a) 8#32))
      = if (a : ℕ) ≤ b ∧ (b : ℕ) ≤ a + 8 then 1#1 else 0#1 := by decide +kernel
  exact key ⟨(r : ℕ) / 64, by omega⟩ ⟨(k : ℕ) / 64, by omega⟩

/-- A variant at an index. -/
theorem variant_at (n : ℕ) (hn : n = 512 ∨ n = 256 ∨ n = 0) (y : FVec Ideal S8x257 .f32) (a : Fin 8) (r : Fin 256) (k : Fin 768) :
    variant (BitVec.ofNat 32 n) y (ix3 a r k)
      = if sees r k ∧ n ≤ k then y (ix2 a ⟨min (640 + (r : ℕ) - k) 256, by omega⟩) * ((ell : ℝ) : EReal) else ⊥ := by
  have key : IntOp.cmpi CmpIPredicate.sge (BitVec.ofNat 32 (k : ℕ)) (BitVec.ofNat 32 n) = if n ≤ (k : ℕ) then 1#1 else 0#1 := by
    revert k
    rcases hn with rfl | rfl | rfl <;> decide +kernel
  pointwise [variant]
  rw [band_at, toeplitz_at, word_bot, key]
  by_cases h1 : sees r k <;> by_cases h2 : n ≤ (k : ℕ) <;> simp [h1, h2, Scalar.select, IntOp.andi]

/-- The table at an index. -/
theorem table_at (y : FVec Ideal S8x257 .f32) (a : Fin 3) (p : Fin 4) (r : Fin 512) (k : Fin 768) :
    tableTerm y (ix4 a p r k)
      = if sees ((r : ℕ) % 256) k ∧ (2 - (a : ℕ)) * 256 ≤ k then
          y (ix2 ⟨p * 2 + (r : ℕ) / 256, by omega⟩ ⟨min (640 + (r : ℕ) % 256 - k) 256, by omega⟩) * ((ell : ℝ) : EReal)
        else ⊥ := by
  pointwise [tableTerm]
  obtain ⟨a, ha⟩ := a
  have h0 := fun q s => variant_at 512 (by simp) y q s k
  have h1 := fun q s => variant_at 256 (by simp) y q s k
  have h2 := fun q s => variant_at 0 (by simp) y q s k
  interval_cases a
  · rw [dif_pos (by norm_num)]; exact h0 _ _
  · rw [dif_neg (by norm_num), dif_pos (by norm_num)]; exact h1 _ _
  · rw [dif_neg (by norm_num), dif_neg (by norm_num)]; exact h2 _ _

end Cert.KernelIdeal.Attn
-- ==== Proof.RefAt.lean ====
module

public import proofs.«01_k».proof.Proof.RefTerm
public import proofs.«01_k».proof.Proof.Softmax

/-!
  The reference's term at an index: the queries, the keys and the values of a chunk and its window.
-/

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- A query of a chunk is a row of the projection. -/
theorem queries_at (x : FVec Ideal S8x4096x6656 .f32) (b : Fin 8) (c q : Fin 64) (h : Fin 8) (d : Fin 64) :
    queries x (ix5 b c q h d) = x (ix3 b ⟨64 * c + q, by omega⟩ ⟨64 * h + d, by omega⟩) := by
  pointwise [queries]
  congr 2 <;> exact Fin.ext (by simp only []; omega)

/-- A key is a row of the projection, 512 columns on; the first eight chunks are empty. -/
theorem keys_at (x : FVec Ideal S8x4096x6656 .f32) (b : Fin 8) (c : Fin 72) (q : Fin 64) (h : Fin 8) (d : Fin 64) (hc : 8 ≤ (c : Nat)) :
    keys x (ix5 b c q h d) = x (ix3 b ⟨64 * (c - 8) + q, by omega⟩ ⟨512 + 64 * h + d, by omega⟩) := by
  pointwise [keys, padded]
  rw [dif_pos (by omega)]
  congr 2 <;> exact Fin.ext (by simp only []; omega)

/-- A value is a row of the projection, 1024 columns on. -/
theorem values_at (x : FVec Ideal S8x4096x6656 .f32) (b : Fin 8) (c : Fin 72) (q : Fin 64) (h : Fin 8) (d : Fin 64) (hc : 8 ≤ (c : Nat)) :
    values x (ix5 b c q h d) = x (ix3 b ⟨64 * (c - 8) + q, by omega⟩ ⟨1024 + 64 * h + d, by omega⟩) := by
  pointwise [values, padded]
  rw [dif_pos (by omega)]
  congr 2 <;> exact Fin.ext (by simp only []; omega)

/-- Two entries of an array are one when their numbers agree. -/
theorem chunk_congr (z : FVec Ideal S8x72x64x8x64 .f32) (b : Fin 8) (h : Fin 8) (d : Fin 64) {c c' : Fin 72} {q q' : Fin 64}
    (hc : (c : Nat) = c') (hq : (q : Nat) = q') : z (ix5 b c q h d) = z (ix5 b c' q' h d) := by
  rw [Fin.ext hc, Fin.ext hq]

/-- A place of a chunk's window, in the padded chunks. -/
theorem windows_at (z : FVec Ideal S8x72x64x8x64 .f32) (b : Fin 8) (c : Fin 64) (p : Fin 576) (h : Fin 8) (d : Fin 64) :
    windows z (ix5 b c p h d) = z (ix5 b ⟨c + p / 64, by omega⟩ ⟨p % 64, by omega⟩ h d) := by
  pointwise [windows]
  repeat' split
  all_goals exact chunk_congr z b h d (by simp only []; omega) (by simp only []; omega)

/-- A score: the product over 8 with the bias where the place lies in the sequence, `⊥` elsewhere. -/
theorem scores_at (x : FVec Ideal S8x4096x6656 .f32) (y : FVec Ideal S8x257 .f32) (b h : Fin 8) (c q : Fin 64) (p : Fin 576) :
    scores x y (ix5 b h c q p) = Scalar.select (inside (ix2 c p))
      ((∑ d : Fin 64, queries x (ix5 b c q h d) * windows (keys x) (ix5 b c p h d)) * ((1 / 8 : ℝ) : EReal) + biases y (ix3 h q p)) ⊥ := by
  pointwise [scores]
  have h1 : Ideal.ofBits FTy.f32 4286578688#32 = ⊥ := by simp [Ideal.ofBits, Ideal.ieee]
  have h2 : Ideal.ofBits FTy.f32 1040187392#32 = ((1 / 8 : ℝ) : EReal) := by
    simp [Ideal.ofBits, Ideal.ieee]
    rw [← EReal.coe_mul]; norm_num
  rw [h1, h2]

/-- The greatest score of a row. -/
theorem greatest_at (s : FVec Ideal S8x8x64x64x576 .f32) (b h : Fin 8) (c q : Fin 64) :
    Host.reduce FloatOps.maximumf s (constant S_ .f32 0xFF800000#32) reducesTo_S8x8x64x64x576_S8x8x64x64_d4 h_S_ (ix4 b h c q)
      = Softmax.top fun p => s (ix5 b h c q p) := by
  have h1 : Ideal.ofBits FTy.f32 4286578688#32 = ⊥ := by simp [Ideal.ofBits, Ideal.ieee]
  generalize hm : Softmax.top (fun p => s (ix5 b h c q p)) = M
  pointwise []
  rw [h1]
  exact hm

/-- The result at an index. -/
theorem result_at (x : FVec Ideal S8x4096x6656 .f32) (y : FVec Ideal S8x257 .f32) (R : Fin 32768) (C : Fin 512) :
    result x y (ix2 R C) = mixed (windows (values x)) (shares (weights (scores x y)))
      (ix5 ⟨R / 4096, by omega⟩ ⟨R % 4096 / 64, by omega⟩ ⟨C / 64, by omega⟩ ⟨C % 64, by omega⟩ ⟨R % 64, by omega⟩) := by
  pointwise [result]
  have : (⟨(R : Nat) / 64 % 64, by omega⟩ : Fin 64) = ⟨R % 4096 / 64, by omega⟩ := Fin.ext (by simp only []; omega)
  rw [this]

end Cert.ReferenceIdeal.Attn

end
-- ==== Proof.RefSum.lean ====
module

public import proofs.«01_k».proof.Proof.RefTerm
public import proofs.«01_k».proof.Proof.Softmax

/-!
  The reference's shares and mixture at an index.
-/

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- A weight over its row's sum. -/
theorem shares_at (s : FVec Ideal S8x8x64x64x576 .f32) (b h : Fin 8) (c q : Fin 64) (p : Fin 576) :
    shares s (ix5 b h c q p) = Ideal.div (s (ix5 b h c q p)) (∑ j, s (ix5 b h c q j)) := by
  pointwise [shares]

/-- The values times the shares, summed over the window. -/
theorem mixed_at (v : FVec Ideal S8x64x576x8x64 .f32) (s : FVec Ideal S8x8x64x64x576 .f32) (b h : Fin 8) (c q d : Fin 64) :
    mixed v s (ix5 b c h d q) = ∑ p, v (ix5 b c p h d) * s (ix5 b h c q p) := by
  pointwise [mixed]

end Cert.ReferenceIdeal.Attn

end
-- ==== Proof.RefPlace.lean ====
module

public import proofs.«01_k».proof.Proof.RefTerm

/-!
  The reference's index words: which entry of the bias a place reads and which places lie in the sequence.
-/

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- A gather of one column for each place, every row kept: the entry of the row at the column that the index word
    names, cut to the table. -/
theorem columns_at {α : Type} {H N R C w : Nat} (hN : 0 < N)
    (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ w) (h : Fin H) (q : Fin R) (p : Fin C) :
    Host.gather (⟨[0], [1], [], [], [1], 2, ![H, 1], wf⟩ : GatherDims ⟨2, ![H, N]⟩ ⟨3, ![R, C, 1]⟩ ⟨3, ![H, R, C]⟩) x idx (ix3 h q p)
      = x (ix2 h ⟨min (idx (ix3 q p 0)).toInt.toNat (N - 1), by omega⟩) := by
  generalize hd : (⟨[0], [1], [], [], [1], 2, ![H, 1], wf⟩ : GatherDims ⟨2, ![H, N]⟩ ⟨3, ![R, C, 1]⟩ ⟨3, ![H, R, C]⟩) = d
  unfold Host.gather
  congr 1
  funext a
  refine Fin.ext ?_
  show d.start (ix3 h q p) idx a + d.batchCoord (ix3 h q p) a + d.offCoord (ix3 h q p) a = _
  have h01 : a = 0 ∨ a = 1 := by
    match a with
    | ⟨0, _⟩ => exact Or.inl rfl
    | ⟨1, _⟩ => exact Or.inr rfl
  subst hd
  rw [GatherDims.batchCoord_eq_zero _ _ _ List.not_mem_nil]
  rcases h01 with rfl | rfl
  · unfold GatherDims.start
    rw [dif_neg (show (0 : Fin 2) ∉ [1] by decide)]
    simp only [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ [1] from List.mem_singleton.mpr rfl)]
    simp only [Nat.add_zero]
    have hsi : (⟨[0], [1], [], [], [1], 2, ![H, 1], wf⟩ : GatherDims ⟨2, ![H, N]⟩ ⟨3, ![R, C, 1]⟩ ⟨3, ![H, R, C]⟩).siIdx (ix3 h q p)
        ⟨List.idxOf (1 : Fin 2) [1], List.idxOf_lt_length_iff.2 (List.mem_singleton.mpr rfl)⟩ = ix3 q p 0 := by
      funext b; refine Fin.ext ?_
      match b with
      | ⟨0, _⟩ => rfl
      | ⟨1, _⟩ => rfl
      | ⟨2, _⟩ => rfl
    rw [hsi]
    rfl

/-- A place reads the bias of its head at its index word, cut to the table. -/
theorem biases_word (y : FVec Ideal S8x257 .f32) (h : Fin 8) (q : Fin 64) (p : Fin 576) :
    biases y (ix3 h q p) = y (ix2 h ⟨min (places (ix3 q p 0)).toInt.toNat 256, by omega⟩) :=
  columns_at (by decide) gather_S8x257_S64x576x1_S8x64x576_0_1_n_n_1_2_81.wf y places h q p

/-- The distance of a place, as a word. -/
theorem distance_at (q : Fin 64) (p : Fin 576) : distance (ix2 q p) = BitVec.ofNat 32 (575 + q - p) - 63#32 := by
  pointwise [distance]
  simp only [IntOp.subi, IntOp.addi]
  apply BitVec.eq_of_toNat_eq
  simp only [BitVec.toNat_sub, BitVec.toNat_add, BitVec.toNat_ofNat]
  omega

/-- The words of the cut, for every distance that occurs. -/
theorem cut_word : ∀ n : Fin 639, IntOp.addi (IntOp.minsi (128#32) (IntOp.maxsi (4294967168#32) (BitVec.ofNat 32 n - 63#32))) 128#32
    = BitVec.ofNat 32 (min (65 + n) 256) := by
  decide +kernel

/-- The cut distance is `min (640 + q - p) 256`. -/
theorem clipped_at (q : Fin 64) (p : Fin 576) : clipped (ix2 q p) = BitVec.ofNat 32 (min (640 + q - p) 256) := by
  pointwise [clipped]
  rw [distance_at]
  refine (cut_word ⟨575 + q - p, by omega⟩).trans ?_
  congr 1
  simp only []
  omega

/-- No place of the table is negative. -/
theorem wrap_word : ∀ n : Fin 257, Scalar.select (IntOp.cmpi CmpIPredicate.slt (BitVec.ofNat 32 n) 0#32) (IntOp.addi (BitVec.ofNat 32 n) 257#32)
    (BitVec.ofNat 32 n) = BitVec.ofNat 32 n := by
  decide +kernel

/-- The index word of a place. -/
theorem places_at (q : Fin 64) (p : Fin 576) : places (ix3 q p 0) = BitVec.ofNat 32 (min (640 + q - p) 256) := by
  pointwise [places]
  rw [clipped_at]
  exact wrap_word ⟨min (640 + q - p) 256, by omega⟩

/-- A place reads the bias of its head at the cut distance. -/
theorem biases_at (y : FVec Ideal S8x257 .f32) (h : Fin 8) (q : Fin 64) (p : Fin 576) :
    biases y (ix3 h q p) = y (ix2 h ⟨min (640 + q - p) 256, by omega⟩) := by
  have hn : (places (ix3 q p 0)).toInt.toNat = min (640 + (q : Nat) - p) 256 := by
    rw [places_at]
    have : ∀ n : Fin 257, (BitVec.ofNat 32 n).toInt.toNat = n := by decide +kernel
    exact this ⟨min (640 + (q : Nat) - p) 256, by omega⟩
  refine (biases_word y h q p).trans (congrArg y (congrArg (ix2 h) (Fin.ext ?_)))
  show min (places (ix3 q p 0)).toInt.toNat 256 = min (640 + (q : Nat) - p) 256
  rw [hn]
  omega

/-- The words of the floor, for every place. -/
theorem floor_word : ∀ p : Fin 576, Scalar.select
          (IntOp.andi
            (IntOp.cmpi CmpIPredicate.ne
              (if BitVec.ofNat 32 ↑p = 0 then 0 else if (BitVec.ofNat 32 ↑p).msb = true then -1 else 1)
              (if 64#32 = 0 then 0 else if (64#32).msb = true then -1 else (1 : BitVec 32)))
            (IntOp.cmpi CmpIPredicate.ne (IntOp.remsi ArithUnit.host (BitVec.ofNat 32 ↑p) 64#32) 0#32))
          (IntOp.subi (IntOp.divsi ArithUnit.host (BitVec.ofNat 32 ↑p) 64#32) 1#32)
          (IntOp.divsi ArithUnit.host (BitVec.ofNat 32 ↑p) 64#32) = BitVec.ofNat 32 (p / 64) := by
  decide +kernel

/-- The words of the test. -/
theorem test_word : ∀ (c : Fin 64) (k : Fin 9), IntOp.cmpi CmpIPredicate.sge (IntOp.addi (IntOp.subi (BitVec.ofNat 32 c) 8#32) (BitVec.ofNat 32 k)) 0#32
    = if 8 ≤ (c : Nat) + k then 1#1 else 0#1 := by
  decide +kernel

/-- Which places of a chunk's window lie in the sequence. -/
theorem inside_at (c : Fin 64) (p : Fin 576) : inside (ix2 c p) = if 8 ≤ (c : Nat) + p / 64 then 1#1 else 0#1 := by
  pointwise [inside, floor64]
  refine (congrArg (fun w => IntOp.cmpi CmpIPredicate.sge (IntOp.addi (IntOp.subi (BitVec.ofNat 32 c) 8#32) w) 0#32) (floor_word p)).trans ?_
  exact test_word c ⟨p / 64, by omega⟩

end Cert.ReferenceIdeal.Attn

end
-- ==== Proof.RefValue.lean ====
module

public import proofs.«01_k».proof.Proof.RefAt
public import proofs.«01_k».proof.Proof.RefSum
public import proofs.«01_k».proof.Proof.RefPlace

/-!
  An entry of the reference's result: the softmax mixture of its row's 576 places.
-/

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- A row's number spread over its places. -/
theorem spread_at (g : FVec Ideal S8x8x64x64 .f32) (b h : Fin 8) (c q : Fin 64) (p : Fin 576) :
    broadcastInDim S8x8x64x64x576 ![0, 1, 2, 3, 4] bcast_S8x8x64x64x1_S8x8x64x64x576_0_1_2_3_4
      (broadcastInDim S8x8x64x64x1 ![0, 1, 2, 3] bcast_S8x8x64x64_S8x8x64x64x1_0_1_2_3 g) (ix5 b h c q p) = g (ix4 b h c q) := by
  pointwise []

/-- The exponential of a difference, at an index. -/
theorem exp_sub_at {S : Shape} (s g : FVec Ideal S .f32) (i : S.Idx) : Host.exp (subf s g) i = Ideal.exp (s i - g i) := rfl

/-- The greater of `⊥` and a number, at an index. -/
theorem max_bot_at {S : Shape} (h : S_.BroadcastsInDim S ![]) (g : FVec Ideal S .f32) (i : S.Idx) :
    maximumf (broadcastInDim S ![] h (constant S_ .f32 0xFF800000#32)) g i = g i := by
  have h1 : Ideal.ofBits FTy.f32 4286578688#32 = ⊥ := by simp [Ideal.ofBits, Ideal.ieee]
  refine (show maximumf (broadcastInDim S ![] h (constant S_ .f32 0xFF800000#32)) g i = max (Ideal.ofBits FTy.f32 4286578688#32) (g i) from rfl).trans ?_
  rw [h1, max_eq_right bot_le]

/-- The weight of a place: the exponential of its score less the row's greatest. -/
theorem weights_at (s : FVec Ideal S8x8x64x64x576 .f32) (b h : Fin 8) (c q : Fin 64) (p : Fin 576) :
    weights s (ix5 b h c q p) = Ideal.exp (s (ix5 b h c q p) - Softmax.top fun p => s (ix5 b h c q p)) := by
  rw [← greatest_at s b h c q]
  unfold weights
  generalize Host.reduce FloatOps.maximumf s (constant S_ .f32 0xFF800000#32) reducesTo_S8x8x64x64x576_S8x8x64x64_d4 h_S_ = g
  rw [exp_sub_at, spread_at, max_bot_at]

/-- The row of the sequence at a place of a row's window. -/
def windowRow (R : Fin 32768) (p : Fin 576) : Fin 4096 := ⟨64 * ((R : Nat) % 4096 / 64 + (p : Nat) / 64 - 8) + (p : Nat) % 64, by omega⟩

/-- The score of a place for a result's row and column. -/
def score (x : FVec Ideal S8x4096x6656 .f32) (y : FVec Ideal S8x257 .f32) (R : Fin 32768) (C : Fin 512) (p : Fin 576) : EReal :=
  if 8 ≤ (R : Nat) % 4096 / 64 + (p : Nat) / 64 then
    (∑ d : Fin 64, x (ix3 ⟨(R : Nat) / 4096, by omega⟩ ⟨(R : Nat) % 4096, by omega⟩ ⟨64 * ((C : Nat) / 64) + d, by omega⟩)
      * x (ix3 ⟨(R : Nat) / 4096, by omega⟩ (windowRow R p) ⟨512 + 64 * ((C : Nat) / 64) + d, by omega⟩)) * ((1 / 8 : ℝ) : EReal)
    + y (ix2 ⟨(C : Nat) / 64, by omega⟩ ⟨min (640 + (R : Nat) % 64 - p) 256, by omega⟩)
  else ⊥

/-- The value of a place for a result's row and column. -/
def value (x : FVec Ideal S8x4096x6656 .f32) (R : Fin 32768) (C : Fin 512) (p : Fin 576) : EReal :=
  windows (values x) (ix5 ⟨(R : Nat) / 4096, by omega⟩ ⟨(R : Nat) % 4096 / 64, by omega⟩ p ⟨(C : Nat) / 64, by omega⟩ ⟨(C : Nat) % 64, by omega⟩)

theorem entry_congr (x : FVec Ideal S8x4096x6656 .f32) (b : Fin 8) {r r' : Fin 4096} {j j' : Fin 6656}
    (hr : (r : Nat) = r') (hj : (j : Nat) = j') : x (ix3 b r j) = x (ix3 b r' j') := by
  rw [Fin.ext hr, Fin.ext hj]

theorem value_eq (x : FVec Ideal S8x4096x6656 .f32) (R : Fin 32768) (C : Fin 512) (p : Fin 576)
    (hp : 8 ≤ (R : Nat) % 4096 / 64 + (p : Nat) / 64) :
    value x R C p = x (ix3 ⟨(R : Nat) / 4096, by omega⟩ (windowRow R p) ⟨1024 + (C : Nat), by omega⟩) := by
  unfold value
  rw [windows_at, values_at _ _ _ _ _ _ hp]
  exact entry_congr x _ rfl (by simp only []; omega)

theorem score_eq (x : FVec Ideal S8x4096x6656 .f32) (y : FVec Ideal S8x257 .f32) (R : Fin 32768) (C : Fin 512) (p : Fin 576) :
    scores x y (ix5 ⟨(R : Nat) / 4096, by omega⟩ ⟨(C : Nat) / 64, by omega⟩ ⟨(R : Nat) % 4096 / 64, by omega⟩ ⟨(R : Nat) % 64, by omega⟩ p)
      = score x y R C p := by
  rw [scores_at, inside_at, biases_at]
  unfold score
  by_cases hp : 8 ≤ (R : Nat) % 4096 / 64 + (p : Nat) / 64
  · rw [if_pos hp, if_pos hp]
    refine (show Scalar.select (1#1) _ _ = _ from rfl).trans ?_
    refine congrArg (· + _) (congrArg (· * ((1 / 8 : ℝ) : EReal)) (Finset.sum_congr rfl fun d _ => ?_))
    rw [queries_at, windows_at, keys_at _ _ _ _ _ _ hp]
    exact congrArg₂ (· * ·) (entry_congr x _ (by simp only []; omega) rfl) rfl
  · rw [if_neg hp, if_neg hp]
    rfl

/-- An entry of the result. -/
theorem result_eq (x : FVec Ideal S8x4096x6656 .f32) (y : FVec Ideal S8x257 .f32) (R : Fin 32768) (C : Fin 512) :
    result x y (ix2 R C) = Softmax.baseE (score x y R C) (value x R C) := by
  rw [result_at, mixed_at]
  unfold Softmax.baseE
  refine Finset.sum_congr rfl fun p _ => ?_
  rw [shares_at]
  simp only [weights_at, score_eq]
  rfl

end Cert.ReferenceIdeal.Attn

end
-- ==== Proof.Match.lean ====
module

public import proofs.«01_k».proof.Proof.Blocks
public import proofs.«01_k».proof.Proof.HostAt
public import proofs.«01_k».proof.Proof.RefValue

/-!
  The two attentions agree, entry by entry, when the queries, the keys and the bias are finite.
-/

@[expose] public section

set_option maxRecDepth 16384

noncomputable section

namespace Cert.Match

open Cert Cert.KernelIdeal.Attn Idealize.ShloMosaic Idealize.ShloMosaic.TcCoe Idealize.SL.Sem

/-- Neither infinity. -/
def Fin_ (z : EReal) : Prop := z ≠ ⊤ ∧ z ≠ ⊥

theorem Fin_.coe {z : EReal} (h : Fin_ z) : ((z.toReal : ℝ) : EReal) = z := EReal.coe_toReal h.1 h.2

theorem ell_pos : (0 : ℝ) < ell := inv_pos.mpr (Real.log_pos (by norm_num))

/-- A finite score, as a real. -/
theorem score_real (A B : Fin 64 → EReal) (z : EReal) (hA : ∀ d, Fin_ (A d)) (hB : ∀ d, Fin_ (B d)) (hz : Fin_ z) :
    (∑ d, A d * B d) * ((1 / 8 : ℝ) : EReal) + z = (((∑ d, (A d).toReal * (B d).toReal) * (1 / 8) + z.toReal : ℝ) : EReal) := by
  rw [EReal.coe_add, EReal.coe_mul, Softmax.coe_finsum, hz.coe]
  congr 2
  refine Finset.sum_congr rfl fun d _ => ?_
  rw [EReal.coe_mul, (hA d).coe, (hB d).coe]

/-- The kernel's scaled score is the score times one over `log 2`. -/
theorem score_scaled (A B : Fin 64 → EReal) (z : EReal) (hA : ∀ d, Fin_ (A d)) (hB : ∀ d, Fin_ (B d)) (hz : Fin_ z) :
    (∑ d, (((1 / 8 * ell : ℝ) : EReal) * A d) * B d) + z * ((ell : ℝ) : EReal)
      = ((ell : ℝ) : EReal) * ((∑ d, A d * B d) * ((1 / 8 : ℝ) : EReal) + z) := by
  rw [score_real A B z hA hB hz, ← EReal.coe_mul]
  have h : (∑ d, (((1 / 8 * ell : ℝ) : EReal) * A d) * B d) = ((∑ d, (1 / 8 * ell) * (A d).toReal * (B d).toReal : ℝ) : EReal) := by
    rw [Softmax.coe_finsum]
    refine Finset.sum_congr rfl fun d _ => ?_
    rw [EReal.coe_mul (1 / 8 * ell * _), EReal.coe_mul (1 / 8 * ell), (hA d).coe, (hB d).coe]
  rw [h]
  nth_rw 1 [← hz.coe]
  rw [← EReal.coe_mul, ← EReal.coe_add]
  congr 1
  rw [mul_add, Finset.sum_mul, Finset.mul_sum]
  congr 1
  · refine Finset.sum_congr rfl fun d _ => ?_
    ring
  · ring

variable (x : FVec Ideal KernelIdeal.S8x4096x6656 .f32) (y : FVec Ideal KernelIdeal.S8x257 .f32)

/-- Entries at equal numbers are equal. -/
theorem entry3 {b b' : Fin 8} {r r' : Fin 4096} {j j' : Fin 6656} (hb : (b : Nat) = b') (hr : (r : Nat) = r') (hj : (j : Nat) = j') :
    x (ix3 b r j) = x (ix3 b' r' j') := by
  rw [Fin.ext hb, Fin.ext hr, Fin.ext hj]

theorem entry2 {b b' : Fin 8} {j j' : Fin 257} (hb : (b : Nat) = b') (hj : (j : Nat) = j') : y (ix2 b j) = y (ix2 b' j') := by
  rw [Fin.ext hb, Fin.ext hj]

/-- The kernel's place of a place of the reference's window. -/
def place (R : Fin 32768) (p : Fin 576) : Fin 768 := ⟨64 * ((R : Nat) % 256 / 64) + p, by omega⟩

/-- The kernel's score of a place. -/
def tileScore (R : Fin 32768) (C : Fin 512) (k : Fin 768) : EReal :=
  ∑ d : Fin 64, projTerm x (ix2 R ⟨3072 + 64 * ((C : Nat) / 64) + d, by omega⟩)
        * projTerm x (ix2 (keyRow R k) ⟨3584 + 64 * ((C : Nat) / 64) + d, by omega⟩)
      + tableTerm y (ix4 ⟨min ((R : Nat) % 4096 / 256) 2, by omega⟩ ⟨(C : Nat) / 128, by omega⟩ ⟨256 * ((C : Nat) % 128 / 64) + (R : Nat) % 256, by omega⟩ k)

/-- The kernel's value of a place. -/
def tileValue (R : Fin 32768) (C : Fin 512) (k : Fin 768) : EReal := projTerm x (ix2 (keyRow R k) ⟨4096 + (C : Nat), by omega⟩)

theorem attn_eq (R : Fin 32768) (C : Fin 512) : attn (projTerm x) (tableTerm y) R C = Softmax.base2 (tileScore x y R C) (tileValue x R C) := rfl

/-- A place that the reference's window does not have scores `⊥`. -/
theorem score_off (R : Fin 32768) (C : Fin 512) (k : Fin 768) (hk : ∀ p, place R p ≠ k) : tileScore x y R C k = ⊥ := by
  unfold tileScore
  rw [table_at, if_neg, EReal.add_bot]
  rintro ⟨⟨h1, h2⟩, -⟩
  simp only [] at h1 h2
  refine hk ⟨(k : Nat) - 64 * ((R : Nat) % 256 / 64), by omega⟩ (Fin.ext ?_)
  simp only [place]
  omega

section
variable (hx : ∀ (b : Fin 8) (s : Fin 4096) (j : Fin 6656), (j : Nat) < 1024 → Fin_ (x (ix3 b s j))) (hy : ∀ (a : Fin 8) (n : Fin 257), Fin_ (y (ix2 a n)))
include hx hy

/-- The kernel's score of a place is the reference's, over `log 2`. -/
theorem score_on (R : Fin 32768) (C : Fin 512) (p : Fin 576) :
    tileScore x y R C (place R p) = ((ell : ℝ) : EReal) * ReferenceIdeal.Attn.score x y R C p := by
  unfold tileScore ReferenceIdeal.Attn.score
  rw [table_at]
  by_cases hp : 8 ≤ (R : Nat) % 4096 / 64 + (p : Nat) / 64
  · rw [if_pos hp, if_pos (by
      refine ⟨⟨?_, ?_⟩, ?_⟩ <;> simp only [place] <;> omega)]
    refine Eq.trans ?_ (score_scaled _ _ _ (fun d => hx _ _ _ (by simp only []; omega)) (fun d => hx _ _ _ (by simp only []; omega)) (hy _ _))
    refine congrArg₂ (· + ·) (Finset.sum_congr rfl fun d _ => congrArg₂ (· * ·) ?_ ?_) (congrArg (· * _) ?_)
    · rw [proj_query x _ _ (64 * ((C : Nat) / 64) + d) (by omega) (by simp only []; omega)]
    · rw [proj_key x _ _ (64 * ((C : Nat) / 64) + d) (by omega) (by simp only []; omega)]
      exact entry3 x (by simp only [keyRow, place]; omega) (by simp only [keyRow, place, ReferenceIdeal.Attn.windowRow]; omega) (by simp only []; omega)
    · exact entry2 y (by simp only []; omega) (by simp only [place]; omega)
  · rw [if_neg hp, if_neg (by
      rintro ⟨-, h⟩
      simp only [place] at h
      omega), EReal.add_bot, EReal.coe_mul_bot_of_pos ell_pos]

/-- A place in the sequence has a finite score. -/
theorem score_fin (R : Fin 32768) (C : Fin 512) (p : Fin 576) (hp : 8 ≤ (R : Nat) % 4096 / 64 + (p : Nat) / 64) :
    Fin_ (ReferenceIdeal.Attn.score x y R C p) := by
  unfold ReferenceIdeal.Attn.score
  rw [if_pos hp]
  have h := score_real (fun d : Fin 64 => x (ix3 ⟨(R : Nat) / 4096, by omega⟩ ⟨(R : Nat) % 4096, by omega⟩ ⟨64 * ((C : Nat) / 64) + d, by omega⟩))
    (fun d : Fin 64 => x (ix3 ⟨(R : Nat) / 4096, by omega⟩ (ReferenceIdeal.Attn.windowRow R p) ⟨512 + 64 * ((C : Nat) / 64) + d, by omega⟩))
    (y (ix2 ⟨(C : Nat) / 64, by omega⟩ ⟨min (640 + (R : Nat) % 64 - p) 256, by omega⟩))
    (fun d => hx _ _ _ (by simp only []; omega)) (fun d => hx _ _ _ (by simp only []; omega)) (hy _ _)
  exact ⟨fun e => EReal.coe_ne_top _ (h.symm.trans e), fun e => EReal.coe_ne_bot _ (h.symm.trans e)⟩

/-- The kernel's attention is the reference's. -/
theorem attn_result (R : Fin 32768) (C : Fin 512) : attn (projTerm x) (tableTerm y) R C = ReferenceIdeal.Attn.result x y (ix2 R C) := by
  rw [attn_eq, ReferenceIdeal.Attn.result_eq]
  have in_of : ∀ p, ReferenceIdeal.Attn.score x y R C p ≠ ⊥ → 8 ≤ (R : Nat) % 4096 / 64 + (p : Nat) / 64 := fun p h => by
    by_contra hp
    exact h (if_neg hp)
  refine Softmax.base2_eq (place R) (fun a b h => Fin.ext ?_) _ _ _ _ ell (mul_inv_cancel₀ (Real.log_pos (by norm_num)).ne') ell_pos.le
    (score_on x y hx hy R C) (score_off x y R C) (fun p h => ?_) (fun p h => ?_) ⟨512 + (R : Nat) % 64, by omega⟩ ?_
  · have := congrArg Fin.val h
    simp only [place] at this
    omega
  · have hp := in_of p h
    rw [ReferenceIdeal.Attn.value_eq x R C p hp]
    unfold tileValue
    rw [proj_key x _ _ (512 + C) (by omega) (by simp only []; omega)]
    exact entry3 x (by simp only [keyRow, place]; omega) (by simp only [keyRow, place, ReferenceIdeal.Attn.windowRow]; omega) (by simp only []; omega)
  · by_cases hp : 8 ≤ (R : Nat) % 4096 / 64 + (p : Nat) / 64
    · exact (score_fin x y hx hy R C p hp).1 h
    · rw [show ReferenceIdeal.Attn.score x y R C p = ⊥ from if_neg hp] at h
      exact bot_ne_top h
  · exact (score_fin x y hx hy R C _ (by simp only []; omega)).2

end

end Cert.Match

end
-- ==== Proof.Finite.lean ====
module

public import proofs.«01_k».proof.Defs
public import proofs.«01_k».proof.Proof.Match

/-!
  The precondition at an index: the queries, the keys and the bias are finite.
-/

@[expose] public section

set_option maxRecDepth 16384

noncomputable section

namespace Cert.Match

open Cert Idealize.ShloMosaic Idealize.ShloMosaic.TcCoe Idealize.SL.Sem

/-- The precondition's shapes fit. -/
theorem preFacts : Cert.Pre_finite.Facts where
  slices_S8x4096x6656_S8x4096x1024_0_0_0 := by decide
  bcast_S_S8x4096x1024 := by decide
  bcast_S_S8x257 := by decide

/-- A number whose absolute value lies below infinity is finite. -/
theorem fin_of_abs (z : EReal) (h : BitVec.ofBool (decide (FloatOps.absf (F := Ideal) (φ := .f32) z < Ideal.ofBits FTy.f32 2139095040#32)) = 1#1) : Fin_ z := by
  have h1 : Ideal.ofBits FTy.f32 2139095040#32 = ⊤ := by simp [Ideal.ofBits, Ideal.ieee]
  have h2 : FloatOps.absf (F := Ideal) (φ := .f32) z < ⊤ := by
    by_contra hn
    rw [h1, decide_eq_false hn] at h
    exact absurd h (by decide)
  have h3 : max z (-z) < ⊤ := h2
  constructor
  · rintro rfl
    simp at h3
  · rintro rfl
    simp at h3

/-- The queries and the keys. -/
theorem proj_fin [Cert.Pre_finite.Facts] (x : FVec Ideal Cert.Pre_finite.S8x4096x6656 .f32) (y : FVec Ideal Cert.Pre_finite.S8x257 .f32)
    (h : (Cert.Pre_finite.fn (F := Ideal) x y).1 = fun _ => 1#1) (b : Fin 8) (s : Fin 4096) (j : Fin 6656) (hj : (j : Nat) < 1024) : Fin_ (x (ix3 b s j)) := by
  have e := congrFun h (ix3 b s ⟨j, hj⟩)
  revert e
  pointwise [Cert.Pre_finite.fn]
  intro e
  exact fin_of_abs _ e

/-- The bias. -/
theorem bias_fin [Cert.Pre_finite.Facts] (x : FVec Ideal Cert.Pre_finite.S8x4096x6656 .f32) (y : FVec Ideal Cert.Pre_finite.S8x257 .f32)
    (h : (Cert.Pre_finite.fn (F := Ideal) x y).2 = fun _ => 1#1) (a : Fin 8) (n : Fin 257) : Fin_ (y (ix2 a n)) := by
  have e := congrFun h (ix2 a n)
  revert e
  pointwise [Cert.Pre_finite.fn]
  intro e
  exact fin_of_abs _ e

end Cert.Match

end
-- ==== Proof.ExpertsWords.lean ====
/- The words of the experts: a bucket's two experts, as words and as numbers. -/
module

public import Idealize.ShloMosaic.Lib.Routing.Ops
public import Idealize.ShloMosaic.Lib.Pointwise
public import Idealize.ShloMosaic.Lib.Affine

@[expose] public section

set_option maxRecDepth 16384

noncomputable section

namespace Cert.ExpertWords

open Idealize.ShloMosaic

/-- The shape of one word. -/
abbrev Dot : Shape := ⟨0, ![]⟩

/-- A word as a tensor of one entry. -/
abbrev dot (b : BitVec 32) : IVec Dot 32 := fun _ => b

/-- The floor of a word over 6. -/
def floorW (b : BitVec 32) : BitVec 32 :=
  select (andi (cmpi .ne (signi (dot b)) (signi (dot 6#32))) (cmpi .ne (Host.remsi (dot b) (dot 6#32)) (dot 0#32)))
    (subi (Host.divsi (dot b) (dot 6#32)) (dot 1#32)) (Host.divsi (dot b) (dot 6#32)) ix0

/-- The divisor of the remainder: 6, kept from being 0. -/
def sixW : IVec Dot 32 := select (cmpi .eq (dot 6#32) (dot 0#32)) (dot 1#32) (dot 6#32)

/-- The remainder of a word over 6, of the divisor's sign. -/
def remW (b : BitVec 32) : BitVec 32 :=
  select (andi (cmpi .ne (cmpi .slt (Host.remsi (dot b) sixW) (dot 0#32)) (cmpi .slt sixW (dot 0#32)))
      (cmpi .ne (Host.remsi (dot b) sixW) (dot 0#32)))
    (addi (Host.remsi (dot b) sixW) sixW) (Host.remsi (dot b) sixW) ix0

/-- One if the remainder is at least `k`. -/
def atLeast (k b : BitVec 32) : IVec Dot 32 := extui 32 (cmpi .sge (dot (remW b)) (dot k)) (by decide)

/-- The lower expert of a bucket. -/
def lowW (b : BitVec 32) : BitVec 32 := addi (addi (muli (dot (floorW b)) (dot 4#32)) (atLeast 3#32 b)) (atLeast 5#32 b) ix0

/-- The higher expert of a bucket. -/
def highW (b : BitVec 32) : BitVec 32 :=
  subi (subi (addi (addi (muli (dot (floorW b)) (dot 4#32)) (dot (remW b))) (dot 1#32)) (muli (dot 2#32) (atLeast 3#32 b))) (atLeast 5#32 b) ix0

/-- The lower expert's number. -/
def lowN (w : Nat) : Nat := w / 6 * 4 + (if 3 ≤ w % 6 then 1 else 0) + (if 5 ≤ w % 6 then 1 else 0)

/-- The higher expert's number. -/
def highN (w : Nat) : Nat := w / 6 * 4 + w % 6 + 1 - 2 * (if 3 ≤ w % 6 then 1 else 0) - (if 5 ≤ w % 6 then 1 else 0)

/-- The reference's lower expert within its group. -/
def firstW (b : BitVec 32) : BitVec 32 :=
  select (cmpi .slt (dot (remW b)) (dot 3#32)) (dot 0#32) (select (cmpi .slt (dot (remW b)) (dot 5#32)) (dot 1#32) (dot 2#32)) ix0

/-- The reference's higher expert within its group. -/
def secondW (b : BitVec 32) : BitVec 32 :=
  select (cmpi .slt (dot (remW b)) (dot 3#32)) (addi (dot (remW b)) (dot 1#32))
    (select (cmpi .slt (dot (remW b)) (dot 5#32)) (subi (dot (remW b)) (dot 1#32)) (dot 3#32)) ix0

/-- The reference's lower expert of a bucket. -/
def lowRW (b : BitVec 32) : BitVec 32 := addi (muli (dot (floorW b)) (dot 4#32)) (dot (firstW b)) ix0

/-- The reference's higher expert of a bucket. -/
def highRW (b : BitVec 32) : BitVec 32 := addi (muli (dot (floorW b)) (dot 4#32)) (dot (secondW b)) ix0

theorem lowRW_at : ∀ w : Fin 24, lowRW (BitVec.ofNat 32 w) = BitVec.ofNat 32 (lowN w) := by decide +kernel
theorem highRW_at : ∀ w : Fin 24, highRW (BitVec.ofNat 32 w) = BitVec.ofNat 32 (highN w) := by decide +kernel
theorem floorW_at : ∀ w : Fin 25, floorW (BitVec.ofNat 32 w) = BitVec.ofNat 32 (w / 6) := by decide +kernel
theorem remW_at : ∀ w : Fin 25, remW (BitVec.ofNat 32 w) = BitVec.ofNat 32 (w % 6) := by decide +kernel
theorem lowW_at : ∀ w : Fin 24, lowW (BitVec.ofNat 32 w) = BitVec.ofNat 32 (lowN w) := by decide +kernel
theorem highW_at : ∀ w : Fin 24, highW (BitVec.ofNat 32 w) = BitVec.ofNat 32 (highN w) := by decide +kernel
theorem low_lt_high : ∀ w : Fin 24, lowN w < highN w := by decide +kernel
theorem high_lt : ∀ w : Fin 24, highN w < 16 := by decide +kernel
theorem low_lt (w : Fin 24) : lowN w < 16 := (low_lt_high w).trans (high_lt w)

/-- A row position lies at or behind the end of bucket `q`. -/
def Past (x : IVec ⟨1, ![24]⟩ 32) (p : BitVec 32) (q : Nat) : Prop := ∃ h : q < 24, IntOp.cmpi .sge p (x (ix1 ⟨q, h⟩)) = 1#1

instance (x : IVec ⟨1, ![24]⟩ 32) (p : BitVec 32) : DecidablePred (Past x p) := fun _ => Classical.propDecidable _

/-- How many buckets end at or before a row position. -/
def hits (x : IVec ⟨1, ![24]⟩ 32) (p : BitVec 32) : Nat := Nat.count (Past x p) 24

theorem hits_le (x : IVec ⟨1, ![24]⟩ 32) (p : BitVec 32) : hits x p ≤ 24 := Nat.count_le _

/-- The sum over the buckets of the words that say whether they end by then. -/
theorem count_at {n : Nat} (msk : IVec (Routing.shape2 n 24) 1) (hw : 1 < 32) (h : (Routing.shape2 n 24).ReducesTo [1] (Routing.shape1 n))
    (hu : 0 < Routing.shape0.numel) (i : Fin n) (x : IVec ⟨1, ![24]⟩ 32) (p : BitVec 32)
    (hQ : ∀ q : Fin 24, msk (ix2 i q) = IntOp.cmpi .sge p (x (ix1 q))) :
    Host.reduce IntOp.addi (extui 32 msk hw) (constantI Routing.shape0 32 0#32) h hu (ix1 i) = BitVec.ofNat 32 (hits x p) :=
  Routing.reduce_count (by decide) msk hw h hu i (Past x p) fun q =>
    ⟨fun e => ⟨q.isLt, (hQ q).symm.trans e⟩, fun e => (hQ q).trans e.2⟩

/-- The least of a count and 23. -/
theorem min_at : ∀ w : Fin 25, IntOp.minsi (BitVec.ofNat 32 w) 23#32 = BitVec.ofNat 32 (min w 23) := by decide +kernel

/-- A row before the last end lies in one of the 24 buckets. -/
theorem hits_lt (x : IVec ⟨1, ![24]⟩ 32) (p : BitVec 32) (h : IntOp.cmpi .slt p (x (ix1 23)) = 1#1) : hits x p ≤ 23 := by
  have hn : ¬ Past x p 23 := by
    intro e
    have e' : IntOp.cmpi .sge p (x (ix1 (23 : Fin 24))) = 1#1 := e.2
    rw [IntOp.cmpi_sge] at e'
    rw [IntOp.cmpi_slt] at h
    omega
  have := Nat.count_le (p := Past x p) (n := 23)
  unfold hits
  rw [Nat.count_succ, if_neg hn]
  omega

end Cert.ExpertWords

end
-- ==== Proof.ExpertsIdealSetup.lean ====
/- The experts call: what the region finds, its tables and blocks, and the branch words of the body. -/
module

public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Experts

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

/-- The propositions the separation logic of this program speaks. -/
abbrev Assn (F : FTy → Type) [FloatOps F] : Type := sProp (MT nD τ sig Unit (Elt F) ℕ (UR sig nD τ) ℕ)

variable (m : (ℓ : Loc nD τ sig) → Buf (Elt F) ℓ)

/-- A core's buffers when the call is entered: the launch memory after the host operations before it. -/
abbrev entry (c : Dev nD) (b : Ref sig .tc) : Buf (Elt F) ((c : Thread nD τ).loc b) :=
  StableHlo.after (List.flatten [hostOps0, hostOps0_1, hostOps0_2, hostOps0_3, hostOps0_4]) (fun b => m (c, b)) b

/-- The first line of host operations takes no new buffer. -/
theorem line0_fresh : (hostOps0 : List (HloOp τ sig (Elt F))).Forall fun op => op.fresh = ∅ := by
  simp only [List.Forall]; repeat' constructor
/-- The second line of host operations takes no new buffer. -/
theorem line1_fresh : (hostOps0_1 : List (HloOp τ sig (Elt F))).Forall fun op => op.fresh = ∅ := by
  simp only [List.Forall]; repeat' constructor
/-- The third line of host operations takes no new buffer. -/
theorem line2_fresh : (hostOps0_2 : List (HloOp τ sig (Elt F))).Forall fun op => op.fresh = ∅ := by
  simp only [List.Forall]; repeat' constructor
/-- The fourth line of host operations takes no new buffer. -/
theorem line3_fresh : (hostOps0_3 : List (HloOp τ sig (Elt F))).Forall fun op => op.fresh = ∅ := by
  simp only [List.Forall]; repeat' constructor
/-- The fifth line of host operations takes no new buffer. -/
theorem line4_fresh : (hostOps0_4 : List (HloOp τ sig (Elt F))).Forall fun op => op.fresh = ∅ := by
  simp only [List.Forall]; repeat' constructor

set_option maxHeartbeats 800000 in
/-- The program is its host operations and then the call. -/
theorem main_enters (𝒱₀ : Variants) :
    Pipeline.HMainP (Ix := Unit) (Name := ℕ) (U := UR sig nD τ) (Lvl := ℕ) pcfgs 0 defs₀ 𝒱₀ m (main (F := F)) (entry m) :=
  Pipeline.hmainP_prefixes pcfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨line0_fresh, line1_fresh, line2_fresh, line3_fresh, line4_fresh⟩) main_chain

/-- No host operation writes any of the five arguments. -/
theorem entry_arg (c : Dev nD) (b : Ref sig .tc)
    (hb : b = main_arg0 ∨ b = main_arg1 ∨ b = main_arg2 ∨ b = main_arg3 ∨ b = main_arg4) :
    entry m c b = m ((c : Thread nD τ).loc b) := by
  refine StableHlo.after_of_forall_not_mem (b := Proc.devRef .tc b) _ _ (List.forall_iff_forall_mem.mp ?_)
  rcases hb with rfl | rfl | rfl | rfl | rfl <;>
  · simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-! ## The three tables -/

/-- What the tables hold when the call is entered. -/
def tables : pre0.Contents (Elt F) := fun j => entry m (0 : Dev nD) (pre0.ref j)

/-- There is one device, so every core's tables hold that. -/
theorem entry_table (c : Dev nD) (j : Fin 3) : entry m c (pre0.ref j) = tables m j := by
  obtain rfl : c = 0 := Subsingleton.elim _ _; rfl

/-- The experts the tables name lie in the stack of weights. -/
abbrev Named : Prop := ok0 (F := F) (tables m)
/-- The tables' contents as contents the call can run at. -/
abbrev run (hO : Named m) : (pcfg0 (F := F)).Adm := ⟨tables m, hO⟩
/-- The pipeline at those contents. -/
abbrev pipe (hO : Named m) : Pipeline.Cfg sig Λ₀ := cfg0 (run m hO)

/-- The table of lower experts, whole. -/
abbrev tabA : Memref sig .tc .smem S152 .i32 := Memref.whole main_v32
/-- The table of higher experts, whole. -/
abbrev tabB : Memref sig .tc .smem S152 .i32 := Memref.whole main_v41
/-- The table of live tiles, whole. -/
abbrev tabV : Memref sig .tc .smem S152 .i32 := Memref.whole main_v45

/-- Contents of a table's buffer on core `c`. -/
abbrev TabBuf (c : Dev nD) {S : Shape} {e : EltTy} (M : Memref sig .tc .smem S e) : Type := Buf (Elt F) (M.view.loc (c : Thread nD τ))
/-- A table held for reading at contents `f`: the half share the body is lent. -/
abbrev lent (c : Dev nD) {S : Shape} {e : EltTy} (M : Memref sig .tc .smem S e) (f : TabBuf (F := F) c M) : Assn F :=
  M.view.loc (c : Thread nD τ) ↦{fullShare.right} f

/-- The tables lent to the body, one by one. -/
theorem lent_all (c : Dev nD) : (Pipeline.ΦT pre0 (tables m) c : Assn F) =
    iprop(lent c tabA (tables m 0) ∗ lent c tabB (tables m 1) ∗ lent c tabV (tables m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The word of the table of live tiles at a grid point, as the body's first load reads it. -/
abbrev word (i : grid0.Coords) (c : Dev nD) (f : TabBuf (F := F) c tabV) : BitVec 32 :=
  tabV.view.readAt (Elt F) (Rect.unit (s := S152) (k0_off1 i) S1.size (k0_off1_inb i)).toLoadRect f (Shape.Idx.first (numel1_S1.symm ▸ Nat.one_pos))
/-- The same word as the body's second load reads it. -/
abbrev word' (i : grid0.Coords) (c : Dev nD) (f : TabBuf (F := F) c tabV) : BitVec 32 :=
  tabV.view.readAt (Elt F) (Rect.unit (s := S152) (k0_off2 i) S1.size (k0_off2_inb i)).toLoadRect f (Shape.Idx.first (numel1_S1.symm ▸ Nat.one_pos))

/-- The two loads read one word. -/
theorem word'_eq (i : grid0.Coords) (c : Dev nD) (f : TabBuf (F := F) c tabV) : word' i c f = word i c f := rfl

/-- The first branch is taken at a zero word. -/
theorem cond1_iff (v : BitVec 32) : k0_cond1 v = 1#1 ↔ v = 0#32 := by
  by_cases h : v = 0#32
  · subst h; decide
  · have h1 : (v == 0#32) = false := by simpa using h
    have h2 : (v != 0#32) = true := by simpa using h
    simp [k0_cond1, Scalar.cmpi, Scalar.extui, IntOp.cmpi, h, h1, h2]
/-- The second branch is taken at any other word. -/
theorem cond2_iff (v : BitVec 32) : k0_cond2 v = 1#1 ↔ v ≠ 0#32 := by
  by_cases h : v = 0#32
  · subst h; decide
  · have h1 : (v == 0#32) = false := by simpa using h
    have h2 : (v != 0#32) = true := by simpa using h
    simp [k0_cond2, Scalar.cmpi, Scalar.extui, IntOp.cmpi, h, h1, h2]

/-- At every word one of the two branches stores the output. -/
theorem one_stores (v : BitVec 32) : (!(k0_cond1 v == 1#1) && !(k0_cond2 v == 1#1)) = false := by
  by_cases h : v = 0#32
  · rw [(cond1_iff v).mpr h]; rfl
  · rw [(cond2_iff v).mpr h]; simp

/-- So no grid point leaves the output window untouched. -/
theorem never_idle (hO : Named m) (t : Fin (pipe m hO).N) : (pipe m hO).idle 5 ((pipe m hO).grid.coords t) = false :=
  one_stores ((tables m).atD 2 (k0_off1 (grid0.coords t)))

/-! ## The windows' blocks -/

/-- Window `w`'s block at point `t`, read off its array as the call finds it. -/
def block (hO : Named m) (c : Dev nD) (w : Fin (pipe m hO).W) (t : Fin (pipe m hO).N) :
    (((pipe m hO).win w).xblock ((pipe m hO).grid.coords t)).Idx → Elt F ((pipe m hO).win w).elt :=
  (((pipe m hO).win w).blk t).view.read (Elt F) (entry m c (Pipeline.arrRef spec0 w))

/-- The rows' buffer holds its block at every point. -/
theorem found0 (hO : Named m) {c : Dev nD} (dat : Dat τ (Elt F) Unit ℕ (UR sig nD τ) ℕ (pipe m hO) c) (hA : dat.A 0 = entry m c (Pipeline.arrRef spec0 0))
    (hafter : ∀ t, dat.after 0 t = block m hO c 0 t) (t : Fin (pipe m hO).N) (d) : dat.before 0 t d = block m hO c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
/-- The lower expert's first weights: the buffer holds its block at every point, fetched there or kept. -/
theorem found1 (hO : Named m) {c : Dev nD} (dat : Dat τ (Elt F) Unit ℕ (UR sig nD τ) ℕ (pipe m hO) c) (hA : dat.A 1 = entry m c (Pipeline.arrRef spec0 1))
    (hafter : ∀ t, dat.after 1 t = block m hO c 1 t) (t : Fin (pipe m hO).N) (d) : dat.before 1 t d = block m hO c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
/-- The lower expert's last weights, likewise. -/
theorem found2 (hO : Named m) {c : Dev nD} (dat : Dat τ (Elt F) Unit ℕ (UR sig nD τ) ℕ (pipe m hO) c) (hA : dat.A 2 = entry m c (Pipeline.arrRef spec0 2))
    (hafter : ∀ t, dat.after 2 t = block m hO c 2 t) (t : Fin (pipe m hO).N) (d) : dat.before 2 t d = block m hO c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
/-- The higher expert's first weights, likewise. -/
theorem found3 (hO : Named m) {c : Dev nD} (dat : Dat τ (Elt F) Unit ℕ (UR sig nD τ) ℕ (pipe m hO) c) (hA : dat.A 3 = entry m c (Pipeline.arrRef spec0 3))
    (hafter : ∀ t, dat.after 3 t = block m hO c 3 t) (t : Fin (pipe m hO).N) (d) : dat.before 3 t d = block m hO c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
/-- The higher expert's last weights, likewise. -/
theorem found4 (hO : Named m) {c : Dev nD} (dat : Dat τ (Elt F) Unit ℕ (UR sig nD τ) ℕ (pipe m hO) c) (hA : dat.A 4 = entry m c (Pipeline.arrRef spec0 4))
    (hafter : ∀ t, dat.after 4 t = block m hO c 4 t) (t : Fin (pipe m hO).N) (d) : dat.before 4 t d = block m hO c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)

end Cert.Kernel2Ideal.Experts

end
-- ==== Proof.ExpertsIdealRun.lean ====
/- The experts call: one run of its body, by the word of the table of live tiles. -/
module

public import proofs.«01_k».proof.Proof.ExpertsIdealSetup

@[expose] public section

set_option maxRecDepth 16384

noncomputable section

namespace Cert.Kernel2Ideal.Experts

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

set_option maxHeartbeats 1000000 in
/-- A tile that is not live: the body's run, and the pieces it stores. -/
def runDead (c : Dev nD) (i : grid0.Coords) (a4 : Memref sig .tc .vmem S256x1152 .f32) (h4 : a4.IsWhole)
    (a5 : Memref sig .tc .vmem S1x1024x1024 .bf16) (h5 : a5.IsWhole) (a6 : Memref sig .tc .vmem S1x512x1024 .bf16) (h6 : a6.IsWhole)
    (a7 : Memref sig .tc .vmem S1x1024x1024 .bf16) (h7 : a7.IsWhole) (a8 : Memref sig .tc .vmem S1x512x1024 .bf16) (h8 : a8.IsWhole)
    (a9 : Memref sig .tc .vmem S256x1024 .f32) (h9 : a9.IsWhole)
    (x0 : Vec F S256x1152 .f32) (x1 : Vec F S1x1024x1024 .bf16) (x2 : Vec F S1x512x1024 .bf16) (x3 : Vec F S1x1024x1024 .bf16)
    (x4 : Vec F S1x512x1024 .bf16) (ta : TabBuf (F := F) c tabA) (tb : TabBuf (F := F) c tabB) (tv : TabBuf (F := F) c tabV)
    (hc1 : k0_cond1 (word i c tv) = 1#1) (hc2 : ¬ k0_cond2 (word' i c tv) = 1#1) :
    { L : List (View.Piece (Elt F) S256x1024 .f32) //
      ∀ (E : Set ℕ) (K : PUnit → Assn F),
        iprop(owns (c : Thread nD τ) a4 fullShare x0 ∗ owns (c : Thread nD τ) a5 fullShare x1 ∗ owns (c : Thread nD τ) a6 fullShare x2
            ∗ owns (c : Thread nD τ) a7 fullShare x3 ∗ owns (c : Thread nD τ) a8 fullShare x4 ∗ (∃ d, owns (c : Thread nD τ) a9 fullShare d)
            ∗ lent c tabA ta ∗ lent c tabB tb ∗ lent c tabV tv
            ∗ (iprop(owns (c : Thread nD τ) a4 fullShare x0 ∗ owns (c : Thread nD τ) a5 fullShare x1 ∗ owns (c : Thread nD τ) a6 fullShare x2
                ∗ owns (c : Thread nD τ) a7 fullShare x3 ∗ owns (c : Thread nD τ) a8 fullShare x4
                ∗ (∃ f, a9.view.loc (c : Thread nD τ) ↦[a9.view.set]{fullShare} a9.view.writes (Elt F) f L)
                ∗ lent c tabA ta ∗ lent c tabB tb ∗ lent c tabV tv) -∗ K ⟨⟩))
          ⊢ wp frame (wpE (defs₀ (F := F)) Variants.none c none) E
              (cc0_experts i tabA (Memref.isWhole_whole _) tabB (Memref.isWhole_whole _) tabV (Memref.isWhole_whole _) a4 h4 a5 h5 a6 h6 a7 h7 a8 h8 a9 h9) K } := by
  refine ⟨?_, fun E K => ?run⟩
  case run =>
    simp only [cc0_experts_eq_skeleton]; unfold cc0_experts_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HA, HB, HV, Hk⟩
    obtain rfl := h4.eq_unread hf0; obtain rfl := h5.eq_unread hf1; obtain rfl := h6.eq_unread hf2; obtain rfl := h7.eq_unread hf3; obtain rfl := h8.eq_unread hf4
    sl_exec (disch := first | sl_exact hc1 | sl_exact hc2)
    sl_step
    iapply Hk
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr; · ipureintro; exact h7.read_unread _
      iexact H3
    isplitl [H4]
    · iexists _; isplitr; · ipureintro; exact h8.read_unread _
      iexact H4
    isplitl [H5]; · iexists _; iexact H5
    isplitl [HA]; · iexact HA
    isplitl [HB]; · iexact HB
    iexact HV

set_option maxHeartbeats 1000000 in
/-- A live tile: the body's run, and the pieces it stores. -/
def runLive (c : Dev nD) (i : grid0.Coords) (a4 : Memref sig .tc .vmem S256x1152 .f32) (h4 : a4.IsWhole)
    (a5 : Memref sig .tc .vmem S1x1024x1024 .bf16) (h5 : a5.IsWhole) (a6 : Memref sig .tc .vmem S1x512x1024 .bf16) (h6 : a6.IsWhole)
    (a7 : Memref sig .tc .vmem S1x1024x1024 .bf16) (h7 : a7.IsWhole) (a8 : Memref sig .tc .vmem S1x512x1024 .bf16) (h8 : a8.IsWhole)
    (a9 : Memref sig .tc .vmem S256x1024 .f32) (h9 : a9.IsWhole)
    (x0 : Vec F S256x1152 .f32) (x1 : Vec F S1x1024x1024 .bf16) (x2 : Vec F S1x512x1024 .bf16) (x3 : Vec F S1x1024x1024 .bf16)
    (x4 : Vec F S1x512x1024 .bf16) (ta : TabBuf (F := F) c tabA) (tb : TabBuf (F := F) c tabB) (tv : TabBuf (F := F) c tabV)
    (hc1 : ¬ k0_cond1 (word i c tv) = 1#1) (hc2 : k0_cond2 (word' i c tv) = 1#1) :
    { L : List (View.Piece (Elt F) S256x1024 .f32) //
      ∀ (E : Set ℕ) (K : PUnit → Assn F),
        iprop(owns (c : Thread nD τ) a4 fullShare x0 ∗ owns (c : Thread nD τ) a5 fullShare x1 ∗ owns (c : Thread nD τ) a6 fullShare x2
            ∗ owns (c : Thread nD τ) a7 fullShare x3 ∗ owns (c : Thread nD τ) a8 fullShare x4 ∗ (∃ d, owns (c : Thread nD τ) a9 fullShare d)
            ∗ lent c tabA ta ∗ lent c tabB tb ∗ lent c tabV tv
            ∗ (iprop(owns (c : Thread nD τ) a4 fullShare x0 ∗ owns (c : Thread nD τ) a5 fullShare x1 ∗ owns (c : Thread nD τ) a6 fullShare x2
                ∗ owns (c : Thread nD τ) a7 fullShare x3 ∗ owns (c : Thread nD τ) a8 fullShare x4
                ∗ (∃ f, a9.view.loc (c : Thread nD τ) ↦[a9.view.set]{fullShare} a9.view.writes (Elt F) f L)
                ∗ lent c tabA ta ∗ lent c tabB tb ∗ lent c tabV tv) -∗ K ⟨⟩))
          ⊢ wp frame (wpE (defs₀ (F := F)) Variants.none c none) E
              (cc0_experts i tabA (Memref.isWhole_whole _) tabB (Memref.isWhole_whole _) tabV (Memref.isWhole_whole _) a4 h4 a5 h5 a6 h6 a7 h7 a8 h8 a9 h9) K } := by
  refine ⟨?_, fun E K => ?run⟩
  case run =>
    simp only [cc0_experts_eq_skeleton]; unfold cc0_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HA, HB, HV, Hk⟩
    obtain rfl := h4.eq_unread hf0; obtain rfl := h5.eq_unread hf1; obtain rfl := h6.eq_unread hf2; obtain rfl := h7.eq_unread hf3; obtain rfl := h8.eq_unread hf4
    sl_exec (disch := first | sl_exact hc1 | sl_exact hc2)
    sl_step
    iapply Hk
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr; · ipureintro; exact h7.read_unread _
      iexact H3
    isplitl [H4]
    · iexists _; isplitr; · ipureintro; exact h8.read_unread _
      iexact H4
    isplitl [H5]; · iexists _; iexact H5
    isplitl [HA]; · iexact HA
    isplitl [HB]; · iexact HB
    iexact HV

end Cert.Kernel2Ideal.Experts

end
-- ==== Proof.ExpertsIdealFrame.lean ====
/- The experts call: its arguments end as they began, and its result holds what the body leaves at each tile. -/
module

public import proofs.«01_k».proof.Proof.ExpertsIdealRun
public import Idealize.ShloMosaic.Lib.Claim

@[expose] public section

set_option maxRecDepth 16384

noncomputable section

namespace Cert.Kernel2Ideal.Experts

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
variable (m : (ℓ : Loc nD τ sig) → Buf (Elt F) ℓ) (ρ : Dev nD → PrngReg)

/-- One buffer of the output window, through which its contents are read back. -/
abbrev outView : View sig .tc .vmem S256x1024 .f32 := (Memref.whole cc0_stg5_0 : Memref sig .tc .vmem S256x1024 .f32).view
/-- Window 0's current buffer at point `t`. -/
abbrev ms0 (hO : Named m) (t : Fin (pipe m hO).N) : Memref sig .tc .vmem S256x1152 .f32 := spec0_0.stage ((pipe m hO).slots t 0)
/-- It is whole. -/
abbrev hs0 (hO : Named m) (t : Fin (pipe m hO).N) : (ms0 m hO t).IsWhole := hstage0_0 (((pipe m hO).slots t 0).cast nbuf0_0)
/-- Window 1's current buffer at point `t`. -/
abbrev ms1 (hO : Named m) (t : Fin (pipe m hO).N) : Memref sig .tc .vmem S1x1024x1024 .bf16 := spec0_1.stage ((pipe m hO).slots t 1)
/-- It is whole. -/
abbrev hs1 (hO : Named m) (t : Fin (pipe m hO).N) : (ms1 m hO t).IsWhole := hstage0_1 (((pipe m hO).slots t 1).cast nbuf0_1)
/-- Window 2's current buffer at point `t`. -/
abbrev ms2 (hO : Named m) (t : Fin (pipe m hO).N) : Memref sig .tc .vmem S1x512x1024 .bf16 := spec0_2.stage ((pipe m hO).slots t 2)
/-- It is whole. -/
abbrev hs2 (hO : Named m) (t : Fin (pipe m hO).N) : (ms2 m hO t).IsWhole := hstage0_2 (((pipe m hO).slots t 2).cast nbuf0_2)
/-- Window 3's current buffer at point `t`. -/
abbrev ms3 (hO : Named m) (t : Fin (pipe m hO).N) : Memref sig .tc .vmem S1x1024x1024 .bf16 := spec0_3.stage ((pipe m hO).slots t 3)
/-- It is whole. -/
abbrev hs3 (hO : Named m) (t : Fin (pipe m hO).N) : (ms3 m hO t).IsWhole := hstage0_3 (((pipe m hO).slots t 3).cast nbuf0_3)
/-- Window 4's current buffer at point `t`. -/
abbrev ms4 (hO : Named m) (t : Fin (pipe m hO).N) : Memref sig .tc .vmem S1x512x1024 .bf16 := spec0_4.stage ((pipe m hO).slots t 4)
/-- It is whole. -/
abbrev hs4 (hO : Named m) (t : Fin (pipe m hO).N) : (ms4 m hO t).IsWhole := hstage0_4 (((pipe m hO).slots t 4).cast nbuf0_4)
/-- Window 5's current buffer at point `t`. -/
abbrev ms5 (hO : Named m) (t : Fin (pipe m hO).N) : Memref sig .tc .vmem S256x1024 .f32 := spec0_5.stage ((pipe m hO).slots t 5)
/-- It is whole. -/
abbrev hs5 (hO : Named m) (t : Fin (pipe m hO).N) : (ms5 m hO t).IsWhole := hstage0_5 (((pipe m hO).slots t 5).cast nbuf0_5)

/-- The pieces stored at a tile that is not live fill the block. -/
theorem fillDead (c : Dev nD) (i : grid0.Coords) (a4 : Memref sig .tc .vmem S256x1152 .f32) (h4 : a4.IsWhole)
    (a5 : Memref sig .tc .vmem S1x1024x1024 .bf16) (h5 : a5.IsWhole) (a6 : Memref sig .tc .vmem S1x512x1024 .bf16) (h6 : a6.IsWhole)
    (a7 : Memref sig .tc .vmem S1x1024x1024 .bf16) (h7 : a7.IsWhole) (a8 : Memref sig .tc .vmem S1x512x1024 .bf16) (h8 : a8.IsWhole)
    (a9 : Memref sig .tc .vmem S256x1024 .f32) (h9 : a9.IsWhole)
    (x0 : Vec F S256x1152 .f32) (x1 : Vec F S1x1024x1024 .bf16) (x2 : Vec F S1x512x1024 .bf16) (x3 : Vec F S1x1024x1024 .bf16)
    (x4 : Vec F S1x512x1024 .bf16) (ta : TabBuf (F := F) c tabA) (tb : TabBuf (F := F) c tabB) (tv : TabBuf (F := F) c tabV)
    (hc1 : k0_cond1 (word i c tv) = 1#1) (hc2 : ¬ k0_cond2 (word' i c tv) = 1#1) (y : S256x1024.Idx) :
    ∃ pc ∈ (runDead c i a4 h4 a5 h5 a6 h6 a7 h7 a8 h8 a9 h9 x0 x1 x2 x3 x4 ta tb tv hc1 hc2).1, y ∈ pc.1.set :=
  View.cover_of_tiledL (runDead c i a4 h4 a5 h5 a6 h6 a7 h7 a8 h8 a9 h9 x0 x1 x2 x3 x4 ta tb tv hc1 hc2).1 S256x1024.size (by sl_kernel_rfl) y

/-- What a tile that is not live leaves in the output's buffer. -/
def leftDead (c : Dev nD) (i : grid0.Coords) (a4 : Memref sig .tc .vmem S256x1152 .f32) (h4 : a4.IsWhole)
    (a5 : Memref sig .tc .vmem S1x1024x1024 .bf16) (h5 : a5.IsWhole) (a6 : Memref sig .tc .vmem S1x512x1024 .bf16) (h6 : a6.IsWhole)
    (a7 : Memref sig .tc .vmem S1x1024x1024 .bf16) (h7 : a7.IsWhole) (a8 : Memref sig .tc .vmem S1x512x1024 .bf16) (h8 : a8.IsWhole)
    (a9 : Memref sig .tc .vmem S256x1024 .f32) (h9 : a9.IsWhole)
    (x0 : Vec F S256x1152 .f32) (x1 : Vec F S1x1024x1024 .bf16) (x2 : Vec F S1x512x1024 .bf16) (x3 : Vec F S1x1024x1024 .bf16)
    (x4 : Vec F S1x512x1024 .bf16) (ta : TabBuf (F := F) c tabA) (tb : TabBuf (F := F) c tabB) (tv : TabBuf (F := F) c tabV)
    (hc1 : k0_cond1 (word i c tv) = 1#1) (hc2 : ¬ k0_cond2 (word' i c tv) = 1#1) : Vec F S256x1024 .f32 :=
  outView.read (Elt F) (outView.writes (Elt F) outView.junk (runDead c i a4 h4 a5 h5 a6 h6 a7 h7 a8 h8 a9 h9 x0 x1 x2 x3 x4 ta tb tv hc1 hc2).1)

/-- The pieces stored at a live tile fill the block. -/
theorem fillLive (c : Dev nD) (i : grid0.Coords) (a4 : Memref sig .tc .vmem S256x1152 .f32) (h4 : a4.IsWhole)
    (a5 : Memref sig .tc .vmem S1x1024x1024 .bf16) (h5 : a5.IsWhole) (a6 : Memref sig .tc .vmem S1x512x1024 .bf16) (h6 : a6.IsWhole)
    (a7 : Memref sig .tc .vmem S1x1024x1024 .bf16) (h7 : a7.IsWhole) (a8 : Memref sig .tc .vmem S1x512x1024 .bf16) (h8 : a8.IsWhole)
    (a9 : Memref sig .tc .vmem S256x1024 .f32) (h9 : a9.IsWhole)
    (x0 : Vec F S256x1152 .f32) (x1 : Vec F S1x1024x1024 .bf16) (x2 : Vec F S1x512x1024 .bf16) (x3 : Vec F S1x1024x1024 .bf16)
    (x4 : Vec F S1x512x1024 .bf16) (ta : TabBuf (F := F) c tabA) (tb : TabBuf (F := F) c tabB) (tv : TabBuf (F := F) c tabV)
    (hc1 : ¬ k0_cond1 (word i c tv) = 1#1) (hc2 : k0_cond2 (word' i c tv) = 1#1) (y : S256x1024.Idx) :
    ∃ pc ∈ (runLive c i a4 h4 a5 h5 a6 h6 a7 h7 a8 h8 a9 h9 x0 x1 x2 x3 x4 ta tb tv hc1 hc2).1, y ∈ pc.1.set :=
  View.cover_of_tiledL (runLive c i a4 h4 a5 h5 a6 h6 a7 h7 a8 h8 a9 h9 x0 x1 x2 x3 x4 ta tb tv hc1 hc2).1 S256x1024.size (by sl_kernel_rfl) y

/-- What a live tile leaves in the output's buffer. -/
def leftLive (c : Dev nD) (i : grid0.Coords) (a4 : Memref sig .tc .vmem S256x1152 .f32) (h4 : a4.IsWhole)
    (a5 : Memref sig .tc .vmem S1x1024x1024 .bf16) (h5 : a5.IsWhole) (a6 : Memref sig .tc .vmem S1x512x1024 .bf16) (h6 : a6.IsWhole)
    (a7 : Memref sig .tc .vmem S1x1024x1024 .bf16) (h7 : a7.IsWhole) (a8 : Memref sig .tc .vmem S1x512x1024 .bf16) (h8 : a8.IsWhole)
    (a9 : Memref sig .tc .vmem S256x1024 .f32) (h9 : a9.IsWhole)
    (x0 : Vec F S256x1152 .f32) (x1 : Vec F S1x1024x1024 .bf16) (x2 : Vec F S1x512x1024 .bf16) (x3 : Vec F S1x1024x1024 .bf16)
    (x4 : Vec F S1x512x1024 .bf16) (ta : TabBuf (F := F) c tabA) (tb : TabBuf (F := F) c tabB) (tv : TabBuf (F := F) c tabV)
    (hc1 : ¬ k0_cond1 (word i c tv) = 1#1) (hc2 : k0_cond2 (word' i c tv) = 1#1) : Vec F S256x1024 .f32 :=
  outView.read (Elt F) (outView.writes (Elt F) outView.junk (runLive c i a4 h4 a5 h5 a6 h6 a7 h7 a8 h8 a9 h9 x0 x1 x2 x3 x4 ta tb tv hc1 hc2).1)

/-- A word is dead or live, never both. -/
theorem dead_of (v : BitVec 32) (h : k0_cond1 v = 1#1) : ¬ k0_cond2 v = 1#1 := fun h' => (cond2_iff v).mp h' ((cond1_iff v).mp h)
/-- A word that is not dead is live. -/
theorem live_of (v : BitVec 32) (h : ¬ k0_cond1 v = 1#1) : k0_cond2 v = 1#1 := (cond2_iff v).mpr fun h' => h ((cond1_iff v).mpr h')

/-- What the output's buffer holds after the body at point `t`. -/
def left (hO : Named m) (c : Dev nD) (t : Fin (pipe m hO).N) : Vec F S256x1024 .f32 :=
  if h : k0_cond1 (word (grid0.coords t) c (tables m 2)) = 1#1 then
    leftDead c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (block m hO c 0 t) (block m hO c 1 t) (block m hO c 2 t) (block m hO c 3 t) (block m hO c 4 t) (tables m 0) (tables m 1) (tables m 2) h (dead_of _ h)
  else
    leftLive c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (block m hO c 0 t) (block m hO c 1 t) (block m hO c 2 t) (block m hO c 3 t) (block m hO c 4 t) (tables m 0) (tables m 1) (tables m 2) h (live_of _ h)

/-- The pipeline's proof data: the arrays as the call finds them, each input's block left in place, the output at `left`. -/
def data (hO : Named m) (_ : Fin 1) (c : Dev nD) : Dat τ (Elt F) Unit ℕ (UR sig nD τ) ℕ (pipe m hO) c where
  A w := entry m c (Pipeline.arrRef spec0 w)
  after w t := match w with
    | ⟨0, _⟩ => block m hO c 0 t
    | ⟨1, _⟩ => block m hO c 1 t
    | ⟨2, _⟩ => block m hO c 2 t
    | ⟨3, _⟩ => block m hO c 3 t
    | ⟨4, _⟩ => block m hO c 4 t
    | ⟨5, _⟩ => left m hO c t
  Φ _ := iprop(Pipeline.ΦA spec0 c ∗ Pipeline.ΦT pre0 (tables m) c)
  q w := Pipeline.shareOf spec0 w
  owed _ := 0

/-- The data's arrays. -/
theorem data_A (hO : Named m) (c : Dev nD) (w : Fin (pipe m hO).W) : (data m hO 0 c).A w = entry m c (Pipeline.arrRef spec0 w) := by
  dsimp only [data]
/-- What the body leaves in window 0. -/
theorem data_after0 (hO : Named m) (c : Dev nD) (t : Fin (pipe m hO).N) : (data m hO 0 c).after 0 t = block m hO c 0 t := by dsimp only [data]; try rfl
/-- What the body leaves in window 1. -/
theorem data_after1 (hO : Named m) (c : Dev nD) (t : Fin (pipe m hO).N) : (data m hO 0 c).after 1 t = block m hO c 1 t := by dsimp only [data]; try rfl
/-- What the body leaves in window 2. -/
theorem data_after2 (hO : Named m) (c : Dev nD) (t : Fin (pipe m hO).N) : (data m hO 0 c).after 2 t = block m hO c 2 t := by dsimp only [data]; try rfl
/-- What the body leaves in window 3. -/
theorem data_after3 (hO : Named m) (c : Dev nD) (t : Fin (pipe m hO).N) : (data m hO 0 c).after 3 t = block m hO c 3 t := by dsimp only [data]; try rfl
/-- What the body leaves in window 4. -/
theorem data_after4 (hO : Named m) (c : Dev nD) (t : Fin (pipe m hO).N) : (data m hO 0 c).after 4 t = block m hO c 4 t := by dsimp only [data]; try rfl
/-- What the body leaves in window 5. -/
theorem data_after5 (hO : Named m) (c : Dev nD) (t : Fin (pipe m hO).N) : (data m hO 0 c).after 5 t = left m hO c t := by dsimp only [data]; try rfl
/-- What the body finds in window 0. -/
theorem data_before0 (hO : Named m) (c : Dev nD) (t : Fin (pipe m hO).N) (d) : (data m hO 0 c).before 0 t d = block m hO c 0 t :=
  found0 m hO (data m hO 0 c) (data_A m hO c 0) (data_after0 m hO c) t d
/-- What the body finds in window 1. -/
theorem data_before1 (hO : Named m) (c : Dev nD) (t : Fin (pipe m hO).N) (d) : (data m hO 0 c).before 1 t d = block m hO c 1 t :=
  found1 m hO (data m hO 0 c) (data_A m hO c 1) (data_after1 m hO c) t d
/-- What the body finds in window 2. -/
theorem data_before2 (hO : Named m) (c : Dev nD) (t : Fin (pipe m hO).N) (d) : (data m hO 0 c).before 2 t d = block m hO c 2 t :=
  found2 m hO (data m hO 0 c) (data_A m hO c 2) (data_after2 m hO c) t d
/-- What the body finds in window 3. -/
theorem data_before3 (hO : Named m) (c : Dev nD) (t : Fin (pipe m hO).N) (d) : (data m hO 0 c).before 3 t d = block m hO c 3 t :=
  found3 m hO (data m hO 0 c) (data_A m hO c 3) (data_after3 m hO c) t d
/-- What the body finds in window 4. -/
theorem data_before4 (hO : Named m) (c : Dev nD) (t : Fin (pipe m hO).N) (d) : (data m hO 0 c).before 4 t d = block m hO c 4 t :=
  found4 m hO (data m hO 0 c) (data_A m hO c 4) (data_after4 m hO c) t d

/-- What the body is called with at point `t`. -/
def bodyIn (hO : Named m) (c : Dev nD) (t : Fin (pipe m hO).N) : Assn F :=
  iprop((data m hO 0 c).Φ t.castSucc ∗ (data m hO 0 c).owesAt () t.castSucc
    ∗ (∃ d, owns (c : Thread nD τ) (ms0 m hO t) fullShare ((data m hO 0 c).before 0 t d))
    ∗ (∃ d, owns (c : Thread nD τ) (ms1 m hO t) fullShare ((data m hO 0 c).before 1 t d))
    ∗ (∃ d, owns (c : Thread nD τ) (ms2 m hO t) fullShare ((data m hO 0 c).before 2 t d))
    ∗ (∃ d, owns (c : Thread nD τ) (ms3 m hO t) fullShare ((data m hO 0 c).before 3 t d))
    ∗ (∃ d, owns (c : Thread nD τ) (ms4 m hO t) fullShare ((data m hO 0 c).before 4 t d))
    ∗ (∃ d, owns (c : Thread nD τ) (ms5 m hO t) fullShare ((data m hO 0 c).before 5 t d)))

/-- What it gives back. -/
def bodyOut (hO : Named m) (c : Dev nD) (t : Fin (pipe m hO).N) : Assn F :=
  iprop((data m hO 0 c).Φ t.succ ∗ (data m hO 0 c).owesAt () t.succ
    ∗ owns (c : Thread nD τ) (ms0 m hO t) fullShare ((data m hO 0 c).after 0 t)
    ∗ owns (c : Thread nD τ) (ms1 m hO t) fullShare ((data m hO 0 c).after 1 t)
    ∗ owns (c : Thread nD τ) (ms2 m hO t) fullShare ((data m hO 0 c).after 2 t)
    ∗ owns (c : Thread nD τ) (ms3 m hO t) fullShare ((data m hO 0 c).after 3 t)
    ∗ owns (c : Thread nD τ) (ms4 m hO t) fullShare ((data m hO 0 c).after 4 t)
    ∗ owns (c : Thread nD τ) (ms5 m hO t) fullShare ((data m hO 0 c).after 5 t))

/-- The body at point `t`, on the buffers the pipeline hands it. -/
abbrev bodyAt (hO : Named m) (t : Fin (pipe m hO).N) : Prog (TpuEff nD τ sig (Elt F) Λ₀ .tc) PUnit :=
  cc0_experts (grid0.coords t) tabA (Memref.isWhole_whole _) tabB (Memref.isWhole_whole _) tabV (Memref.isWhole_whole _)
    (ms0 m hO t) (hs0 m hO t) (ms1 m hO t) (hs1 m hO t) (ms2 m hO t) (hs2 m hO t) (ms3 m hO t) (hs3 m hO t) (ms4 m hO t) (hs4 m hO t) (ms5 m hO t) (hs5 m hO t)

set_option maxHeartbeats 800000 in
/-- The body at any point, live or not. -/
theorem body_sound (hO : Named m) (c : Dev nD) (t : Fin (pipe m hO).N) :
    bodyIn m hO c t ⊢ wp frame (wpE (defs₀ (F := F)) Variants.none c none) Set.univ (bodyAt m hO t) (fun _ => bodyOut m hO c t) := by
  unfold bodyIn bodyOut bodyAt
  simp only [data_before0, data_before1, data_before2, data_before3, data_before4]
  rw [show (data m hO 0 c).Φ t.succ = (data m hO 0 c).Φ t.castSucc from rfl,
    show (data m hO 0 c).owesAt () t.succ = (data m hO 0 c).owesAt () t.castSucc from rfl,
    data_after0, data_after1, data_after2, data_after3, data_after4, data_after5]
  rw [show (data m hO 0 c).Φ t.castSucc = iprop(Pipeline.ΦA spec0 c ∗ Pipeline.ΦT pre0 (tables m) c) from rfl, lent_all]
  by_cases h : k0_cond1 (word (grid0.coords t) c (tables m 2)) = 1#1
  · rw [show left m hO c t = _ from dif_pos h]
    unfold leftDead
    iintro ⟨⟨HΦ, ⟨HA, HB, HV⟩⟩, Ho, ⟨%d0, H0⟩, ⟨%d1, H1⟩, ⟨%d2, H2⟩, ⟨%d3, H3⟩, ⟨%d4, H4⟩, ⟨%d5, H5⟩⟩
    iapply ((runDead c (grid0.coords t) _ _ _ _ _ _ _ _ _ _ _ _ (block m hO c 0 t) (block m hO c 1 t) (block m hO c 2 t) (block m hO c 3 t) (block m hO c 4 t) (tables m 0) (tables m 1) (tables m 2) h (dead_of _ h)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HA]; · iexact HA
    isplitl [HB]; · iexact HB
    isplitl [HV]; · iexact HV
    iintro ⟨H0, H1, H2, H3, H4, ⟨%e5, H5⟩, HA, HB, HV⟩
    isplitl [HΦ HA HB HV]
    · isplitl [HΦ]
      · iexact HΦ
      isplitl [HA]; · iexact HA
      isplitl [HB]; · iexact HB
      iexact HV
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (fillDead c _ _ _ _ _ _ _ _ _ _ _ _ _ _ _ _ _ _ _ _ _ _ _)
  · rw [show left m hO c t = _ from dif_neg h]
    unfold leftLive
    iintro ⟨⟨HΦ, ⟨HA, HB, HV⟩⟩, Ho, ⟨%d0, H0⟩, ⟨%d1, H1⟩, ⟨%d2, H2⟩, ⟨%d3, H3⟩, ⟨%d4, H4⟩, ⟨%d5, H5⟩⟩
    iapply ((runLive c (grid0.coords t) _ _ _ _ _ _ _ _ _ _ _ _ (block m hO c 0 t) (block m hO c 1 t) (block m hO c 2 t) (block m hO c 3 t) (block m hO c 4 t) (tables m 0) (tables m 1) (tables m 2) h (live_of _ h)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HA]; · iexact HA
    isplitl [HB]; · iexact HB
    isplitl [HV]; · iexact HV
    iintro ⟨H0, H1, H2, H3, H4, ⟨%e5, H5⟩, HA, HB, HV⟩
    isplitl [HΦ HA HB HV]
    · isplitl [HΦ]
      · iexact HΦ
      isplitl [HA]; · iexact HA
      isplitl [HB]; · iexact HB
      iexact HV
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (fillLive c _ _ _ _ _ _ _ _ _ _ _ _ _ _ _ _ _ _ _ _ _ _ _)

/-- The row of the body table at point `t`. -/
theorem body_row (hO : Named m) (t : Fin (pipe m hO).N) :
    defs₀ (F := F) .tc (pipe m hO).body ((pipe m hO).bodyArgs t ((pipe m hO).slots t)) = bodyAt m hO t := by
  unfold defs₀; rw [Defs.onTc_tc]

/-- The library's obligation of the body, at every point. -/
theorem body_ok (hO : Named m) (c : Dev nD) : BodyObligation (data (F := F) m hO 0 c) (defs₀ (F := F)) Variants.none () Set.univ := fun t => by
  rw [bigSep_W0, bigSep_W0, body_row m hO]
  have e : (pipe m hO).idle (5 : Fin 6) ((pipe m hO).grid.coords t) = false := never_idle m hO t
  rw [e]
  exact triple_restated (body_sound m hO c t) rfl .rfl fun _ => .rfl

set_option maxHeartbeats 2000000 in
set_option backward.isDefEq.respectTransparency.types false in
/-- The program's run: what the pipeline's arrays and the other buffers end at, and no counter left up. -/
theorem run_ends (hO : Named m) : θ_run defs (onTc (τ := τ) (main (F := F))) (s₀ m ρ)
    (fun r => (Pipeline.FramePost (Pipeline.pin pcfgs fun _ => run m hO) (data m hO) 0 (entry m)) r ∧ r.2.sem = fun _ => 0) :=
  Pipeline.θ_run_frameP_shared (Q' := _) pcfgs (fun _ => run m hO) (data m hO) (0 : Fin 1) launch₀0 defs₀ Variants.none m ρ main
    (hbody := fun c => (body_ok m hO c).loose) (hq := fun _ _ _ => rfl)
    (howed := fun _ _ => rfl) (V := entry m) (hmain := main_enters m Variants.none) (hA := data_A m hO) (hpf := entry_table m)
    (hΦ := fun _ _ => rfl)

/-- The frame: the five arguments end as they began, and no counter is left up. -/
theorem arguments_kept (hO : Named m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (by decide : main_arg0 ∈ Pipeline.restRefs sig spec0)).trans (entry_arg m c _ (.inl rfl)),
      ((h.1 c).1 0).trans (((data m hO 0 c).arrAt_in 0 rfl _).trans ((data_A m hO c 0).trans (entry_arg m c _ (.inr (.inl rfl))))),
      ((h.1 c).2 main_arg2 (by decide : main_arg2 ∈ Pipeline.restRefs sig spec0)).trans (entry_arg m c _ (.inr (.inr (.inl rfl)))),
      ((h.1 c).2 main_arg3 (by decide : main_arg3 ∈ Pipeline.restRefs sig spec0)).trans (entry_arg m c _ (.inr (.inr (.inr (.inl rfl))))),
      ((h.1 c).2 main_arg4 (by decide : main_arg4 ∈ Pipeline.restRefs sig spec0)).trans (entry_arg m c _ (.inr (.inr (.inr (.inr rfl)))))⟩, h.2⟩)
    (run_ends m ρ hO)

end Cert.Kernel2Ideal.Experts

end
-- ==== Proof.ExpertsTile.lean ====
/- The experts' kernel: what a tile's body leaves in the output window. -/
module

public import proofs.«01_k».proof.Proof.ExpertsIdealFrame
public import Idealize.ShloMosaic.Lib.VecWindow

@[expose] public section

set_option maxRecDepth 16384

noncomputable section

namespace Cert.Kernel2Ideal.Experts

open Cert.Kernel2Ideal Cert.Kernel2Ideal.Gen Idealize.ShloMosaic Idealize.ShloMosaic.TcCoe Idealize.SL.Sem

variable {F : FTy → Type} [FloatOps F]

/-- The rows' first columns. -/
def rowsOf (x0 : Vec F S256x1152 .f32) : Vec F S256x1024 .f32 := View.ld x0 (Rect.unit ![0, 0] ![256, 1024] inb_S256x1152_S256x1024_0_0)
/-- The rows' last columns. -/
def restOf (x0 : Vec F S256x1152 .f32) : Vec F S256x128 .f32 := View.ld x0 (Rect.unit ![0, 1024] ![256, 128] inb_S256x1152_S256x128_0_1024)
/-- A first weight's block. -/
def inOf (x : Vec F S1x1024x1024 .bf16) : Vec F S1x1024x1024 .bf16 := View.ld x (Rect.unit ![0, 0, 0] ![1, 1024, 1024] inb_S1x1024x1024_S1x1024x1024_0_0_0)
/-- A last weight's block. -/
def outOf (x : Vec F S1x512x1024 .bf16) : Vec F S1x512x1024 .bf16 := View.ld x (Rect.unit ![0, 0, 0] ![1, 512, 1024] inb_S1x512x1024_S1x512x1024_0_0_0)

/-- The tile of a live point: its two experts, weighted. -/
def liveTile (x0 : Vec F S256x1152 .f32) (x1 : Vec F S1x1024x1024 .bf16) (x2 : Vec F S1x512x1024 .bf16) (x3 : Vec F S1x1024x1024 .bf16)
    (x4 : Vec F S1x512x1024 .bf16) : Vec F S256x1024 .f32 :=
  k0_pay2 (k0_pay4 (rowsOf x0) (restOf x0) (inOf x1) (outOf x2)) (k0_pay5 (restOf x0)) (k0_pay6 (rowsOf x0) (inOf x3)) (k0_pay7 (rowsOf x0) (inOf x3))
    (k0_pay8 (rowsOf x0) (inOf x3)) (outOf x4)

section
variable (c : Dev nD) (i : grid0.Coords) (a4 : Memref sig .tc .vmem S256x1152 .f32) (h4 : a4.IsWhole)
    (a5 : Memref sig .tc .vmem S1x1024x1024 .bf16) (h5 : a5.IsWhole) (a6 : Memref sig .tc .vmem S1x512x1024 .bf16) (h6 : a6.IsWhole)
    (a7 : Memref sig .tc .vmem S1x1024x1024 .bf16) (h7 : a7.IsWhole) (a8 : Memref sig .tc .vmem S1x512x1024 .bf16) (h8 : a8.IsWhole)
    (a9 : Memref sig .tc .vmem S256x1024 .f32) (h9 : a9.IsWhole)
    (x0 : Vec F S256x1152 .f32) (x1 : Vec F S1x1024x1024 .bf16) (x2 : Vec F S1x512x1024 .bf16) (x3 : Vec F S1x1024x1024 .bf16)
    (x4 : Vec F S1x512x1024 .bf16) (ta : TabBuf (F := F) c tabA) (tb : TabBuf (F := F) c tabB) (tv : TabBuf (F := F) c tabV)

theorem leftDead_eq (hc1 : k0_cond1 (word i c tv) = 1#1) (hc2 : ¬ k0_cond2 (word' i c tv) = 1#1) :
    leftDead c i a4 h4 a5 h5 a6 h6 a7 h7 a8 h8 a9 h9 x0 x1 x2 x3 x4 ta tb tv hc1 hc2 = k0_pay1 := by
  exact View.read_writes_full _ _ _ _ []

theorem leftLive_eq (hc1 : ¬ k0_cond1 (word i c tv) = 1#1) (hc2 : k0_cond2 (word' i c tv) = 1#1) :
    leftLive c i a4 h4 a5 h5 a6 h6 a7 h7 a8 h8 a9 h9 x0 x1 x2 x3 x4 ta tb tv hc1 hc2 = liveTile x0 x1 x2 x3 x4 := by
  have e0 : ∀ r : Rect S256x1152, View.readAt (Elt F) a4.view r.toLoadRect (h4.unread x0) = View.ld x0 r := fun r => by
    rw [View.readAt_eq_ld, h4.read_unread]
  have e1 : ∀ r : Rect S1x1024x1024, View.readAt (Elt F) a5.view r.toLoadRect (h5.unread x1) = View.ld x1 r := fun r => by
    rw [View.readAt_eq_ld, h5.read_unread]
  have e2 : ∀ r : Rect S1x512x1024, View.readAt (Elt F) a6.view r.toLoadRect (h6.unread x2) = View.ld x2 r := fun r => by
    rw [View.readAt_eq_ld, h6.read_unread]
  have e3 : ∀ r : Rect S1x1024x1024, View.readAt (Elt F) a7.view r.toLoadRect (h7.unread x3) = View.ld x3 r := fun r => by
    rw [View.readAt_eq_ld, h7.read_unread]
  have e4 : ∀ r : Rect S1x512x1024, View.readAt (Elt F) a8.view r.toLoadRect (h8.unread x4) = View.ld x4 r := fun r => by
    rw [View.readAt_eq_ld, h8.read_unread]
  unfold leftLive runLive
  dsimp only
  refine (View.read_writes_full _ _ _ _ []).trans ?_
  unfold runLive.sl.r_2 runLive.sl.r_3 runLive.sl.r_4 runLive.sl.r_5 runLive.sl.r_6
  simp only [e0, e1, e2, e3, e4]
  rfl
end

end Cert.Kernel2Ideal.Experts

end
-- ==== Proof.ExpertsMath.lean ====
/- The experts' mathematics: the gate, one expert, and a sum over all experts of which two count. -/
module

public import Idealize.ShloMosaic.Lib.Pointwise

@[expose] public section

noncomputable section

namespace Cert.ExpertMath

open Idealize.ShloMosaic

/-- A number times its own logistic. -/
def gate (g : EReal) : EReal := g * Ideal.div 1 (1 + Ideal.exp (-g))

/-- One expert's output for one row and one column. -/
def expert (x : Fin 1024 → EReal) (g u : Fin 1024 → Fin 512 → EReal) (d : Fin 512 → EReal) : EReal :=
  ∑ j, (gate (∑ k, x k * g k j) * ∑ k, x k * u k j) * d j

/-- Of all experts only the two chosen count. -/
theorem two_of_all (l h : Fin 16) (hn : l ≠ h) (a b : EReal) (E : Fin 16 → EReal) :
    ∑ e : Fin 16, ((if e = l then 1 else 0) * a + (if e = h then 1 else 0) * b) * E e = a * E l + b * E h := by
  rw [Finset.sum_eq_add l h hn]
  · rw [if_pos rfl, if_neg hn, if_neg hn.symm, if_pos rfl, one_mul, zero_mul, add_zero, one_mul, zero_mul, zero_add]
  · intro e _ q
    rw [if_neg q.1, if_neg q.2, zero_mul, zero_mul, add_zero, zero_mul]
  · intro q; exact absurd (Finset.mem_univ _) q
  · intro q; exact absurd (Finset.mem_univ _) q

/-- The logistic by the hyperbolic tangent, on the reals. -/
theorem half_tanh (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; congr 1; ring
  have p : Real.exp (1 / 2 * r) * Real.exp (-(1 / 2 * r)) = 1 := by rw [← Real.exp_add]; simp
  have ha := Real.exp_pos (1 / 2 * r)
  have hb := Real.exp_pos (-(1 / 2 * r))
  rw [Real.tanh_eq_sinh_div_cosh, Real.sinh_eq, Real.cosh_eq, e]
  generalize Real.exp (1 / 2 * r) = a at *
  generalize Real.exp (-(1 / 2 * r)) = b at *
  have h1 : 1 + b * b ≠ 0 := by positivity
  have h2 : (a + b) / 2 ≠ 0 := by positivity
  field_simp
  nlinarith [p]

/-- The gate by the hyperbolic tangent. -/
theorem gate_tanh (g : EReal) : g * (((1 / 2 : ℝ) : EReal) * Ideal.tanh (((1 / 2 : ℝ) : EReal) * g) + ((1 / 2 : ℝ) : EReal)) = gate g := by
  unfold gate
  induction g with
  | bot =>
    have h1 : ((1 / 2 : ℝ) : EReal) * ⊥ = ⊥ := EReal.coe_mul_bot_of_pos (by norm_num)
    have h2 : ((1 / 2 : ℝ) : EReal) * (-1) + ((1 / 2 : ℝ) : EReal) = 0 := by
      rw [show (-1 : EReal) = ((-1 : ℝ) : EReal) by simp, ← EReal.coe_mul, ← EReal.coe_add]; norm_num
    have h3 : Ideal.div 1 (1 + Ideal.exp (-⊥)) = 0 := by
      rw [EReal.neg_bot, show Ideal.exp ⊤ = ⊤ from rfl, show (1 : EReal) + ⊤ = ⊤ from EReal.coe_add_top 1]
      simp [Ideal.div]
    rw [h1, h3, show Ideal.tanh ⊥ = -1 from rfl, h2]
  | top =>
    have h1 : ((1 / 2 : ℝ) : EReal) * ⊤ = ⊤ := EReal.coe_mul_top_of_pos (by norm_num)
    have h2 : ((1 / 2 : ℝ) : EReal) * 1 + ((1 / 2 : ℝ) : EReal) = 1 := by
      rw [mul_one, ← EReal.coe_add]; norm_num
    have h3 : Ideal.div 1 (1 + Ideal.exp (-⊤)) = 1 := by
      rw [EReal.neg_top, show Ideal.exp ⊥ = 0 from rfl, add_zero]
      simp [Ideal.div]
    rw [h1, h3, show Ideal.tanh ⊤ = 1 from rfl, h2]
  | coe r =>
    have hp : (1 + Real.exp (-r)) ≠ 0 := by positivity
    have h3 : Ideal.div 1 (1 + Ideal.exp (-(r : EReal))) = (((1 + Real.exp (-r))⁻¹ : ℝ) : EReal) := by
      rw [← EReal.coe_neg, show Ideal.exp ((-r : ℝ) : EReal) = (Real.exp (-r) : EReal) from rfl, ← EReal.coe_one, ← EReal.coe_add]
      rw [Ideal.div, if_neg (by exact_mod_cast hp), EReal.coe_one, one_mul, ← EReal.coe_inv]
    rw [h3, ← EReal.coe_mul, show Ideal.tanh ((1 / 2 * r : ℝ) : EReal) = (Real.tanh (1 / 2 * r) : EReal) from rfl, ← EReal.coe_mul, ← EReal.coe_add,
      half_tanh]

end Cert.ExpertMath

end
-- ==== Proof.ExpertsTileAt.lean ====
/- The experts' kernel: a live tile at an index. -/
module

public import proofs.«01_k».proof.Proof.ExpertsTile
public import proofs.«01_k».proof.Proof.ExpertsMath

@[expose] public section

set_option maxRecDepth 16384

noncomputable section

namespace Cert.Kernel2Ideal.Experts

open Cert.Kernel2Ideal Cert.Kernel2Ideal.Gen Idealize.ShloMosaic Idealize.ShloMosaic.TcCoe Idealize.SL.Sem

theorem dead_at (r : Fin 256) (C : Fin 1024) : (k0_pay1 : FVec Ideal S256x1024 .f32) (ix2 r C) = 0 := by
  pointwise [k0_pay1]

theorem half : Ideal.ofBits FTy.f32 0x3F000000#32 = ((1 / 2 : ℝ) : EReal) := by
  simp [Ideal.ofBits, Ideal.ieee]
  rw [← EReal.coe_mul]; norm_num

theorem liveTile_at (x0 : Vec Ideal S256x1152 .f32) (x1 : Vec Ideal S1x1024x1024 .bf16) (x2 : Vec Ideal S1x512x1024 .bf16) (x3 : Vec Ideal S1x1024x1024 .bf16)
    (x4 : Vec Ideal S1x512x1024 .bf16) (r : Fin 256) (C : Fin 1024) :
    liveTile x0 x1 x2 x3 x4 (ix2 r C)
      = x0 (ix2 r 1026) * ExpertMath.expert (fun k => x0 (ix2 r ⟨k, by omega⟩)) (fun k j => x1 (ix3 0 k ⟨j, by omega⟩)) (fun k j => x1 (ix3 0 k ⟨512 + j, by omega⟩))
          (fun j => x2 (ix3 0 j C))
        + x0 (ix2 r 1027) * ExpertMath.expert (fun k => x0 (ix2 r ⟨k, by omega⟩)) (fun k j => x3 (ix3 0 k ⟨j, by omega⟩)) (fun k j => x3 (ix3 0 k ⟨512 + j, by omega⟩))
          (fun j => x4 (ix3 0 j C)) := by
  unfold ExpertMath.expert
  simp only [← ExpertMath.gate_tanh]
  pointwise [liveTile, k0_pay2, k0_pay3, k0_pay4, k0_pay5, k0_pay6, k0_pay7, k0_pay8, rowsOf, restOf, inOf, outOf]
  simp only [half]

end Cert.Kernel2Ideal.Experts

end
-- ==== Proof.ExpertsIdealHost.lean ====
/- The experts call: what the host lines before it leave in the tables and the weights. -/
module

public import proofs.«01_k».proof.Proof.ExpertsIdealSetup
public import proofs.«01_k».proof.Proof.ExpertsWords
public import Idealize.ShloMosaic.Lib.StableHlo.RunRead

@[expose] public section

set_option maxRecDepth 16384

noncomputable section

namespace Cert.Kernel2Ideal.Experts

open Cert.Kernel2Ideal Cert.Kernel2Ideal.Gen Idealize.ShloMosaic Idealize.ShloMosaic.TcCoe Idealize.SL.Sem

variable {F : FTy → Type} [FloatOps F]

/-- The first row of every tile. -/
def starts : IVec S152 32 := muli (iotaInDim S152 32 0) (broadcastInDim S152 ![] bcast_S_S152 (constantI S_ 32 256#32))

/-- The end of the last bucket. -/
def lastEnd (x : IVec S24 32) : IVec S_ 32 := shapeCast S_ (extractStridedSlice S1 ![23] x slices_S24_S1_23) shapeCasts_S1_S_

/-- Whether a tile begins before the last end. -/
def livesT (x : IVec S24 32) : IVec S152 1 := cmpi .slt starts (broadcastInDim S152 ![] bcast_S_S152 (lastEnd x))

/-- The row by which a tile is placed in a bucket. -/
def probes (x : IVec S24 32) : IVec S152 32 :=
  minsi starts (broadcastInDim S152 ![] bcast_S_S152 (subi (lastEnd x) (constantI S_ 32 1#32)))

/-- Whether a tile's row lies behind a bucket's end. -/
def behind (x : IVec S24 32) : IVec S152x24 1 :=
  cmpi .sge (broadcastInDim S152x24 ![0, 1] bcast_S152x1_S152x24_0_1 (broadcastInDim S152x1 ![0] bcast_S152_S152x1_0 (probes x)))
    (broadcastInDim S152x24 ![0, 1] bcast_S1x24_S152x24_0_1 (broadcastInDim S1x24 ![1] bcast_S24_S1x24_1 x))

/-- The bucket of every tile. -/
def bucketT (x : IVec S24 32) : IVec S152 32 :=
  minsi (Host.reduce IntOp.addi (extui 32 (behind x) natLt_1_32) (constantI S_ 32 0#32) reducesTo_S152x24_S152_d1 h_S_)
    (broadcastInDim S152 ![] bcast_S_S152 (constantI S_ 32 23#32))

variable (m : (ℓ : Loc nD τ sig) → Buf (Elt F) ℓ)

variable (c : Dev nD)

/-- The table of lower experts. -/
theorem entry_low : entry m c main_v32 = fun i => ExpertWords.lowW (bucketT (m ((c : Thread nD τ).loc main_arg0)) i) := by
  after_reads_simp
  try simp -implicitDefEqProofs only [StableHlo.TRef.toBuf, StableHlo.TRef.ofBuf, cast_cast, cast_eq, id_eq]
  rfl

/-- The table of higher experts. -/
theorem entry_high : entry m c main_v41 = fun i => ExpertWords.highW (bucketT (m ((c : Thread nD τ).loc main_arg0)) i) := by
  after_reads_simp
  try simp -implicitDefEqProofs only [StableHlo.TRef.toBuf, StableHlo.TRef.ofBuf, cast_cast, cast_eq, id_eq]
  rfl

/-- The table of live tiles. -/
theorem entry_live : entry m c main_v45 = extui 32 (livesT (m ((c : Thread nD τ).loc main_arg0))) natLt_1_32 := by
  after_reads_simp
  try simp -implicitDefEqProofs only [StableHlo.TRef.toBuf, StableHlo.TRef.ofBuf, cast_cast, cast_eq, id_eq]
  rfl

/-- The bucket of a tile, as a number. -/
def bucketN (x : IVec S24 32) (n : Fin 152) : Nat := min (ExpertWords.hits x (probes x (ix1 n))) 23

theorem bucketN_lt (x : IVec S24 32) (n : Fin 152) : bucketN x n < 24 := by
  have := Nat.min_le_right (ExpertWords.hits x (probes x (ix1 n))) 23
  unfold bucketN
  omega

/-- The bucket of a tile, as the table's word. -/
theorem bucket_at (x : IVec S24 32) (n : Fin 152) : bucketT x (ix1 n) = BitVec.ofNat 32 (bucketN x n) := by
  have h : Host.reduce IntOp.addi (extui 32 (behind x) natLt_1_32) (constantI S_ 32 0#32) reducesTo_S152x24_S152_d1 h_S_ (ix1 n)
      = BitVec.ofNat 32 (ExpertWords.hits x (probes x (ix1 n))) :=
    ExpertWords.count_at (behind x) natLt_1_32 reducesTo_S152x24_S152_d1 h_S_ n x (probes x (ix1 n)) fun q => by
      unfold behind
      pointwise
  have e : bucketT x (ix1 n) = IntOp.minsi (Host.reduce IntOp.addi (extui 32 (behind x) natLt_1_32) (constantI S_ 32 0#32) reducesTo_S152x24_S152_d1 h_S_ (ix1 n)) 23#32 := rfl
  rw [e, h]
  exact ExpertWords.min_at ⟨_, Nat.lt_succ_of_le (ExpertWords.hits_le _ _)⟩

/-- The lower expert of a tile. -/
theorem low_at (n : Fin 152) : entry m c main_v32 (ix1 n)
    = BitVec.ofNat 32 (ExpertWords.lowN (bucketN (m ((c : Thread nD τ).loc main_arg0)) n)) := by
  refine (congrFun (entry_low m c) (ix1 n)).trans ?_
  refine (congrArg ExpertWords.lowW (bucket_at _ n)).trans ?_
  exact ExpertWords.lowW_at ⟨_, bucketN_lt _ n⟩

/-- The higher expert of a tile. -/
theorem high_at (n : Fin 152) : entry m c main_v41 (ix1 n)
    = BitVec.ofNat 32 (ExpertWords.highN (bucketN (m ((c : Thread nD τ).loc main_arg0)) n)) := by
  refine (congrFun (entry_high m c) (ix1 n)).trans ?_
  refine (congrArg ExpertWords.highW (bucket_at _ n)).trans ?_
  exact ExpertWords.highW_at ⟨_, bucketN_lt _ n⟩

/-- A grid point's tile. -/
abbrev tileOf (i : grid0.Coords) : Fin 152 := i 0

/-- A grid point's word of a table is the tile's own. -/
theorem offset_at : ∀ n : Fin 152, (Scalar.indexCast (BitVec.ofNat 32 n.val)).toNat = n.val := by decide +kernel

/-- The place at which a table is read at a grid point. -/
theorem place_at (i : grid0.Coords) :
    (Rect.unit (s := S152) (k0_off1 i) S1.size (k0_off1_inb i)).emb (Shape.Idx.first (numel1_S1.symm ▸ Nat.one_pos)) = ix1 (tileOf i) := by
  refine funext fun a => Fin.ext ?_
  match a with
  | ⟨0, _⟩ => exact (congrArg (· + 0) (offset_at (tileOf i))).trans (Nat.add_zero _)

/-- The block of the lower expert's first weights at a grid point. -/
theorem index1_at (i : grid0.Coords) : cc0_transform_1 k0_off1_inb numel1_S1 (tables m) i
    = ![ExpertWords.lowN (bucketN (m (((0 : Dev nD) : Thread nD τ).loc main_arg0)) (tileOf i)), 0, 0] := by
  have e : (tables m).at 0 (Rect.unit (s := S152) (k0_off1 i) S1.size (k0_off1_inb i)) numel1_S1 = BitVec.ofNat 32 (ExpertWords.lowN (bucketN (m (((0 : Dev nD) : Thread nD τ).loc main_arg0)) (tileOf i))) :=
    (congrArg (entry m 0 main_v32) (place_at i)).trans (low_at m 0 (tileOf i))
  have l := ExpertWords.low_lt ⟨_, bucketN_lt (m (((0 : Dev nD) : Thread nD τ).loc main_arg0)) (tileOf i)⟩
  have t := (congrArg BitVec.toNat e).trans ((BitVec.toNat_ofNat _ _).trans (Nat.mod_eq_of_lt (Nat.lt_trans l (by decide))))
  exact congrArg (fun k : Nat => (![k, 0, 0] : Fin 3 → Nat)) t

/-- The block of the higher expert's first weights at a grid point. -/
theorem index3_at (i : grid0.Coords) : cc0_transform_3 k0_off1_inb numel1_S1 (tables m) i
    = ![ExpertWords.highN (bucketN (m (((0 : Dev nD) : Thread nD τ).loc main_arg0)) (tileOf i)), 0, 0] := by
  have e : (tables m).at 1 (Rect.unit (s := S152) (k0_off1 i) S1.size (k0_off1_inb i)) numel1_S1 = BitVec.ofNat 32 (ExpertWords.highN (bucketN (m (((0 : Dev nD) : Thread nD τ).loc main_arg0)) (tileOf i))) :=
    (congrArg (entry m 0 main_v41) (place_at i)).trans (high_at m 0 (tileOf i))
  have l := ExpertWords.high_lt ⟨_, bucketN_lt (m (((0 : Dev nD) : Thread nD τ).loc main_arg0)) (tileOf i)⟩
  have t := (congrArg BitVec.toNat e).trans ((BitVec.toNat_ofNat _ _).trans (Nat.mod_eq_of_lt (Nat.lt_trans l (by decide))))
  exact congrArg (fun k : Nat => (![k, 0, 0] : Fin 3 → Nat)) t

/-- The last weights are indexed like the first. -/
theorem index2_at (i : grid0.Coords) : cc0_transform_2 k0_off1_inb numel1_S1 (tables m) i
    = ![ExpertWords.lowN (bucketN (m (((0 : Dev nD) : Thread nD τ).loc main_arg0)) (tileOf i)), 0, 0] := index1_at m i

theorem index4_at (i : grid0.Coords) : cc0_transform_4 k0_off1_inb numel1_S1 (tables m) i
    = ![ExpertWords.highN (bucketN (m (((0 : Dev nD) : Thread nD τ).loc main_arg0)) (tileOf i)), 0, 0] := index3_at m i

/-- An expert's first weights lie in their stack. -/
theorem firstIn (k : Nat) (hk : k < 16) (a : Fin 3) : ((![k, 0, 0] : Fin 3 → Nat) a + 1) * S1x1024x1024.size a ≤ S16x1024x1024.size a := by
  match a with
  | 0 => exact (Nat.mul_one _).le.trans hk
  | 1 => exact (by decide : (0 + 1) * 1024 ≤ 1024)
  | 2 => exact (by decide : (0 + 1) * 1024 ≤ 1024)

/-- An expert's last weights lie in their stack. -/
theorem lastIn (k : Nat) (hk : k < 16) (a : Fin 3) : ((![k, 0, 0] : Fin 3 → Nat) a + 1) * S1x512x1024.size a ≤ S16x512x1024.size a := by
  match a with
  | 0 => exact (Nat.mul_one _).le.trans hk
  | 1 => exact (by decide : (0 + 1) * 512 ≤ 512)
  | 2 => exact (by decide : (0 + 1) * 1024 ≤ 1024)

/-- The tables name experts of the stack, whatever the arguments. -/
theorem named : Named m := by
  refine ⟨fun i => ⟨?_, ?_⟩, fun i => ⟨?_, ?_⟩, fun i => ⟨?_, ?_⟩, fun i => ⟨?_, ?_⟩⟩
  · rw [index1_at]; exact firstIn _ (ExpertWords.low_lt ⟨_, bucketN_lt _ _⟩)
  · exact .inr (Affine.block_words_dvd (of_decide_eq_true rfl) (by decide))
  · rw [index2_at]; exact lastIn _ (ExpertWords.low_lt ⟨_, bucketN_lt _ _⟩)
  · exact .inr (Affine.block_words_dvd (of_decide_eq_true rfl) (by decide))
  · rw [index3_at]; exact firstIn _ (ExpertWords.high_lt ⟨_, bucketN_lt _ _⟩)
  · exact .inr (Affine.block_words_dvd (of_decide_eq_true rfl) (by decide))
  · rw [index4_at]; exact lastIn _ (ExpertWords.high_lt ⟨_, bucketN_lt _ _⟩)
  · exact .inr (Affine.block_words_dvd (of_decide_eq_true rfl) (by decide))

end Cert.Kernel2Ideal.Experts

end
-- ==== Proof.ExpertsBlocks.lean ====
/- The experts' kernel: the windows' blocks, entry by entry. -/
module

public import proofs.«01_k».proof.Proof.ExpertsIdealHost
public import Idealize.ShloMosaic.Lib.Pipeline.ValueKit.Geometry

@[expose] public section

set_option maxRecDepth 16384

noncomputable section

namespace Cert.Kernel2Ideal.Experts

open Cert.Kernel2Ideal Cert.Kernel2Ideal.Gen Idealize.ShloMosaic Idealize.ShloMosaic.TcCoe Idealize.SL.Sem

variable {F : FTy → Type} [FloatOps F] (m : (ℓ : Loc nD τ sig) → Buf (Elt F) ℓ) (hO : Named m) (c : Dev nD)

/-- A point's tile. -/
abbrev tileAt (t : Fin grid0.N) : Fin 152 := tileOf (grid0.coords t)

/-- The tile's bucket. -/
abbrev bucketAt (t : Fin grid0.N) : Nat := bucketN (m (((0 : Dev nD) : Thread nD τ).loc main_arg0)) (tileAt t)

theorem tileW : ∀ n : Fin 152, (BitVec.ofNat 32 n.val).toNat = n.val := by decide +kernel

/-- Two indices of a matrix are one when their numbers agree. -/
theorem ext2 {a b : Nat} (i j : (⟨2, ![a, b]⟩ : Shape).Idx) (h0 : (i 0 : Nat) = j 0) (h1 : (i 1 : Nat) = j 1) : i = j := by
  refine funext fun x => Fin.ext ?_
  match x with
  | ⟨0, _⟩ => exact h0
  | ⟨1, _⟩ => exact h1

/-- Two indices of a stack of matrices are one when their numbers agree. -/
theorem ext3 {a b c : Nat} (i j : (⟨3, ![a, b, c]⟩ : Shape).Idx) (h0 : (i 0 : Nat) = j 0) (h1 : (i 1 : Nat) = j 1) (h2 : (i 2 : Nat) = j 2) : i = j := by
  refine funext fun x => Fin.ext ?_
  match x with
  | ⟨0, _⟩ => exact h0
  | ⟨1, _⟩ => exact h1
  | ⟨2, _⟩ => exact h2

/-- Where an element of a block lies, the block's index given. -/
theorem emb_of {s : Shape} (size ix ix' : Fin s.rank → Nat) (h : ∀ a, (ix a + 1) * size a ≤ s.size a) (e : ix = ix')
    (y : (Rect.block size ix h).shape.Idx) (a : Fin s.rank) : ((Rect.block size ix h).emb y a : Nat) = ix' a * size a + y a := by
  subst e
  rw [Rect.emb_apply]
  show ix a * size a + 1 * (y a : Nat) = _
  omega

include hO in
theorem in1 (i : grid0.Coords) (a : Fin 3) : (cc0_transform_1 k0_off1_inb numel1_S1 (tables m) i a + 1) * S1x1024x1024.size a ≤ S16x1024x1024.size a :=
  (hO.1 i).elim fun h _ => h a

/-- Window 1's block, read off its array. -/
def read1 (i : grid0.Coords) : S1x1024x1024.Idx → Elt F .bf16 := fun y => entry m c main_v43
  ((Rect.block (s := S16x1024x1024) S1x1024x1024.size (cc0_transform_1 k0_off1_inb numel1_S1 (tables m) i) (in1 m hO i)).emb y)

theorem read1_at (i : grid0.Coords) (a : Fin 1024) (b : Fin 1024) : read1 m hO c i (ix3 0 a b)
    = entry m c main_v43 (ix3 ⟨ExpertWords.lowN (bucketN (m (((0 : Dev nD) : Thread nD τ).loc main_arg0)) (tileOf i)), ExpertWords.low_lt ⟨_, bucketN_lt _ _⟩⟩ a b) := by
  have e := emb_of (s := S16x1024x1024) S1x1024x1024.size _ _ (in1 m hO i) (index1_at m i) (ix3 0 a b)
  refine congrArg (entry m c main_v43) (ext3 _ _ ((e 0).trans ?_) ((e 1).trans ?_) ((e 2).trans ?_))
  · exact Nat.mul_one _
  · show 0 * 1024 + (a : Nat) = a; omega
  · show 0 * 1024 + (b : Nat) = b; omega

include hO in
theorem in2 (i : grid0.Coords) (a : Fin 3) : (cc0_transform_2 k0_off1_inb numel1_S1 (tables m) i a + 1) * S1x512x1024.size a ≤ S16x512x1024.size a :=
  (hO.2.1 i).elim fun h _ => h a

/-- Window 2's block, read off its array. -/
def read2 (i : grid0.Coords) : S1x512x1024.Idx → Elt F .bf16 := fun y => entry m c main_v44
  ((Rect.block (s := S16x512x1024) S1x512x1024.size (cc0_transform_2 k0_off1_inb numel1_S1 (tables m) i) (in2 m hO i)).emb y)

theorem read2_at (i : grid0.Coords) (a : Fin 512) (b : Fin 1024) : read2 m hO c i (ix3 0 a b)
    = entry m c main_v44 (ix3 ⟨ExpertWords.lowN (bucketN (m (((0 : Dev nD) : Thread nD τ).loc main_arg0)) (tileOf i)), ExpertWords.low_lt ⟨_, bucketN_lt _ _⟩⟩ a b) := by
  have e := emb_of (s := S16x512x1024) S1x512x1024.size _ _ (in2 m hO i) (index2_at m i) (ix3 0 a b)
  refine congrArg (entry m c main_v44) (ext3 _ _ ((e 0).trans ?_) ((e 1).trans ?_) ((e 2).trans ?_))
  · exact Nat.mul_one _
  · show 0 * 512 + (a : Nat) = a; omega
  · show 0 * 1024 + (b : Nat) = b; omega

include hO in
theorem in3 (i : grid0.Coords) (a : Fin 3) : (cc0_transform_3 k0_off1_inb numel1_S1 (tables m) i a + 1) * S1x1024x1024.size a ≤ S16x1024x1024.size a :=
  (hO.2.2.1 i).elim fun h _ => h a

/-- Window 3's block, read off its array. -/
def read3 (i : grid0.Coords) : S1x1024x1024.Idx → Elt F .bf16 := fun y => entry m c main_v43
  ((Rect.block (s := S16x1024x1024) S1x1024x1024.size (cc0_transform_3 k0_off1_inb numel1_S1 (tables m) i) (in3 m hO i)).emb y)

theorem read3_at (i : grid0.Coords) (a : Fin 1024) (b : Fin 1024) : read3 m hO c i (ix3 0 a b)
    = entry m c main_v43 (ix3 ⟨ExpertWords.highN (bucketN (m (((0 : Dev nD) : Thread nD τ).loc main_arg0)) (tileOf i)), ExpertWords.high_lt ⟨_, bucketN_lt _ _⟩⟩ a b) := by
  have e := emb_of (s := S16x1024x1024) S1x1024x1024.size _ _ (in3 m hO i) (index3_at m i) (ix3 0 a b)
  refine congrArg (entry m c main_v43) (ext3 _ _ ((e 0).trans ?_) ((e 1).trans ?_) ((e 2).trans ?_))
  · exact Nat.mul_one _
  · show 0 * 1024 + (a : Nat) = a; omega
  · show 0 * 1024 + (b : Nat) = b; omega

include hO in
theorem in4 (i : grid0.Coords) (a : Fin 3) : (cc0_transform_4 k0_off1_inb numel1_S1 (tables m) i a + 1) * S1x512x1024.size a ≤ S16x512x1024.size a :=
  (hO.2.2.2 i).elim fun h _ => h a

/-- Window 4's block, read off its array. -/
def read4 (i : grid0.Coords) : S1x512x1024.Idx → Elt F .bf16 := fun y => entry m c main_v44
  ((Rect.block (s := S16x512x1024) S1x512x1024.size (cc0_transform_4 k0_off1_inb numel1_S1 (tables m) i) (in4 m hO i)).emb y)

theorem read4_at (i : grid0.Coords) (a : Fin 512) (b : Fin 1024) : read4 m hO c i (ix3 0 a b)
    = entry m c main_v44 (ix3 ⟨ExpertWords.highN (bucketN (m (((0 : Dev nD) : Thread nD τ).loc main_arg0)) (tileOf i)), ExpertWords.high_lt ⟨_, bucketN_lt _ _⟩⟩ a b) := by
  have e := emb_of (s := S16x512x1024) S1x512x1024.size _ _ (in4 m hO i) (index4_at m i) (ix3 0 a b)
  refine congrArg (entry m c main_v44) (ext3 _ _ ((e 0).trans ?_) ((e 1).trans ?_) ((e 2).trans ?_))
  · exact Nat.mul_one _
  · show 0 * 512 + (a : Nat) = a; omega
  · show 0 * 1024 + (b : Nat) = b; omega

/-- Window 0's block, read off its array. -/
def read0 (i : grid0.Coords) : S256x1152.Idx → Elt F .f32 := fun y => entry m c main_arg1
  ((Rect.block (s := S38912x1152) S256x1152.size (cc0_transform_0 i) (hinb0_0 i)).emb y)

theorem read0_at (i : grid0.Coords) (r : Fin 256) (k : Fin 1152) :
    read0 m c i (ix2 r k) = entry m c main_arg1 (ix2 ⟨256 * tileOf i + r, by have := (tileOf i).isLt; omega⟩ k) := by
  have e := emb_of (s := S38912x1152) S256x1152.size _ _ (hinb0_0 i) rfl (ix2 r k)
  refine congrArg (entry m c main_arg1) (ext2 _ _ ((e 0).trans ?_) ((e 1).trans ?_))
  · show (BitVec.ofNat 32 (tileOf i).val).toNat * 256 + (r : Nat) = 256 * (tileOf i).val + r
    rw [tileW]; omega
  · show 0 * 1152 + (k : Nat) = k; omega

end Cert.Kernel2Ideal.Experts

end
-- ==== Proof.ExpertsLeft.lean ====
/- The experts' kernel: what a grid point leaves in the output's buffer. -/
module

public import proofs.«01_k».proof.Proof.ExpertsTileAt
public import proofs.«01_k».proof.Proof.ExpertsBlocks

@[expose] public section

set_option maxRecDepth 16384

noncomputable section

namespace Cert.Kernel2Ideal.Experts

open Cert.Kernel2Ideal Cert.Kernel2Ideal.Gen Idealize.ShloMosaic Idealize.ShloMosaic.TcCoe Idealize.SL.Sem

variable {F : FTy → Type} [FloatOps F] (m : (ℓ : Loc nD τ sig) → Buf (Elt F) ℓ) (hO : Named m) (c : Dev nD)

set_option maxHeartbeats 2000000 in
/-- A dead point leaves zeros. -/
theorem left_dead (t : Fin (pipe m hO).N) (h : k0_cond1 (word (grid0.coords t) c (tables m 2)) = 1#1) : left m hO c t = k0_pay1 :=
  (dif_pos h).trans (leftDead_eq c (grid0.coords t) _ _ _ _ _ _ _ _ _ _ _ _ _ _ _ _ _ _ _ _ h (dead_of _ h))

set_option maxHeartbeats 2000000 in
/-- A live point leaves its tile. -/
theorem left_live (t : Fin (pipe m hO).N) (h : ¬ k0_cond1 (word (grid0.coords t) c (tables m 2)) = 1#1) : left m hO c t
    = liveTile (read0 m c (grid0.coords t)) (read1 m hO c (grid0.coords t)) (read2 m hO c (grid0.coords t)) (read3 m hO c (grid0.coords t)) (read4 m hO c (grid0.coords t)) :=
  (dif_neg h).trans (leftLive_eq c (grid0.coords t) _ _ _ _ _ _ _ _ _ _ _ _ _ _ _ _ _ _ _ _ h (live_of _ h))
end Cert.Kernel2Ideal.Experts

end
-- ==== Proof.ExpertsWeights.lean ====
/- The experts' kernel: the stacks of weights the host lines leave, entry by entry. -/
module

public import proofs.«01_k».proof.Proof.ExpertsIdealHost
public import Idealize.ShloMosaic.Lib.Affine

@[expose] public section

set_option maxRecDepth 16384

noncomputable section

namespace Cert.Kernel2Ideal.Experts

open Cert.Kernel2Ideal Cert.Kernel2Ideal.Gen Idealize.ShloMosaic Idealize.ShloMosaic.TcCoe Idealize.SL.Sem

/-- The first weights: the gate's columns, then the other's. -/
def firstT (g u : FVec Ideal S16x1024x512 .f32) : FVec Ideal S16x1024x1024 .bf16 :=
  truncf .bf16 (concatenate S16x1024x1024 2 [⟨S16x1024x512, g⟩, ⟨S16x1024x512, u⟩] concatenates_S16x1024x512_S16x1024x512_S16x1024x1024_d2) bitsLt_bf16_f32

/-- The last weights. -/
def lastT (d : FVec Ideal S16x512x1024 .f32) : FVec Ideal S16x512x1024 .bf16 := truncf .bf16 d bitsLt_bf16_f32

variable (m : (ℓ : Loc nD τ sig) → Buf (Elt Ideal) ℓ) (c : Dev nD)

theorem entry_first : entry m c main_v43 = firstT (m ((c : Thread nD τ).loc main_arg2)) (m ((c : Thread nD τ).loc main_arg3)) := by
  after_reads_simp
  try simp -implicitDefEqProofs only [StableHlo.TRef.toBuf, StableHlo.TRef.ofBuf, cast_cast, cast_eq, id_eq]
  rfl

theorem entry_last : entry m c main_v44 = lastT (m ((c : Thread nD τ).loc main_arg4)) := by
  after_reads_simp
  try simp -implicitDefEqProofs only [StableHlo.TRef.toBuf, StableHlo.TRef.ofBuf, cast_cast, cast_eq, id_eq]
  rfl

theorem firstT_gate (g u : FVec Ideal S16x1024x512 .f32) (e : Fin 16) (k : Fin 1024) (j : Fin 512) :
    firstT g u (ix3 e k ⟨j, by omega⟩) = g (ix3 e k j) := by
  pointwise [firstT]

theorem firstT_up (g u : FVec Ideal S16x1024x512 .f32) (e : Fin 16) (k : Fin 1024) (j : Fin 512) :
    firstT g u (ix3 e k ⟨512 + j, by omega⟩) = u (ix3 e k j) := by
  pointwise [firstT]

theorem lastT_at (d : FVec Ideal S16x512x1024 .f32) (e : Fin 16) (j : Fin 512) (C : Fin 1024) : lastT d (ix3 e j C) = d (ix3 e j C) := by
  pointwise [lastT]

/-- A tile that lives is placed by its own first row. -/
theorem min_pred (s e : BitVec 32) (h : IntOp.cmpi .slt s e = 1#1) : IntOp.minsi s (IntOp.subi e 1#32) = s := by
  rw [IntOp.cmpi_slt] at h
  have hs := s.le_toInt
  have he := e.toInt_lt
  have e1 : (IntOp.subi e 1#32).toInt = e.toInt - 1 := by
    show (e - 1#32).toInt = _
    rw [BitVec.toInt_sub, show (1#32 : BitVec 32).toInt = 1 from rfl]
    refine Int.bmod_eq_of_le ?_ ?_ <;> omega
  have hle : s.toInt ≤ (IntOp.subi e 1#32).toInt := by omega
  by_cases q : s.toInt < (IntOp.subi e 1#32).toInt
  · exact if_pos (BitVec.slt_iff_toInt_lt.mpr q)
  · have : IntOp.subi e 1#32 = s := BitVec.eq_of_toInt_eq (by omega)
    unfold IntOp.minsi
    rw [this]; split <;> rfl

theorem probes_at (x : IVec S24 32) (n : Fin 152) : probes x (ix1 n) = IntOp.minsi (IntOp.muli (BitVec.ofNat 32 n) 256#32) (IntOp.subi (x (ix1 23)) 1#32) := by
  pointwise [probes, starts, lastEnd]

theorem livesT_at (x : IVec S24 32) (n : Fin 152) : livesT x (ix1 n) = IntOp.cmpi .slt (IntOp.muli (BitVec.ofNat 32 n) 256#32) (x (ix1 23)) := by
  pointwise [livesT, starts, lastEnd]

end Cert.Kernel2Ideal.Experts

end
-- ==== Proof.ExpertsTarget.lean ====
/- What both experts programs compute: a row's two experts, weighted, in the tiles before the last end. -/
module

public import proofs.«01_k».proof.Proof.ExpertsWords
public import proofs.«01_k».proof.Proof.ExpertsMath

@[expose] public section

noncomputable section

namespace Cert.ExpertMath

open Idealize.ShloMosaic Cert.ExpertWords

/-- The first row of a tile, as a word. -/
def startW (n : Nat) : BitVec 32 := IntOp.muli (BitVec.ofNat 32 n) 256#32

/-- The bucket of a row position. -/
def bucketOf (x : IVec ⟨1, ![24]⟩ 32) (p : BitVec 32) : Fin 24 := ⟨min (hits x p) 23, by have := Nat.min_le_right (hits x p) 23; omega⟩

/-- The lower expert of a bucket. -/
def lowF (b : Fin 24) : Fin 16 := ⟨lowN b, low_lt b⟩

/-- The higher expert of a bucket. -/
def highF (b : Fin 24) : Fin 16 := ⟨highN b, high_lt b⟩

section
variable (xs : (⟨2, ![38912, 1152]⟩ : Shape).Idx → EReal) (g u : (⟨3, ![16, 1024, 512]⟩ : Shape).Idx → EReal)
  (d : (⟨3, ![16, 512, 1024]⟩ : Shape).Idx → EReal) (R : Fin 38912) (C : Fin 1024)

/-- One expert's output at a row and a column. -/
def one (e : Fin 16) : EReal :=
  expert (fun k => xs (ix2 R ⟨k, by omega⟩)) (fun k j => g (ix3 e k j)) (fun k j => u (ix3 e k j)) (fun j => d (ix3 e j C))

/-- The two experts of a bucket, weighted. -/
def both (b : Fin 24) : EReal := xs (ix2 R 1026) * one xs g u d R C (lowF b) + xs (ix2 R 1027) * one xs g u d R C (highF b)

open Classical in
/-- The result at a row and a column. -/
def target (x : IVec ⟨1, ![24]⟩ 32) : EReal :=
  if IntOp.cmpi .slt (startW (R / 256)) (x (ix1 23)) = 1#1 then both xs g u d R C (bucketOf x (startW (R / 256))) else 0
end

end Cert.ExpertMath

end
-- ==== Proof.ExpertsAlive.lean ====
/- The experts' kernel: which tiles live, and the array the kernel is to leave. -/
module

public import proofs.«01_k».proof.Proof.ExpertsWeights
public import proofs.«01_k».proof.Proof.ExpertsTarget

@[expose] public section

set_option maxRecDepth 16384

noncomputable section

namespace Cert.Kernel2Ideal.Experts

open Cert.Kernel2Ideal Cert.Kernel2Ideal.Gen Idealize.ShloMosaic Idealize.ShloMosaic.TcCoe Idealize.SL.Sem

section
variable {F : FTy → Type} [FloatOps F] (m : (ℓ : Loc nD τ sig) → Buf (Elt F) ℓ) (c : Dev nD)

/-- The buckets' ends. -/
abbrev ends : IVec S24 32 := m (((0 : Dev nD) : Thread nD τ).loc main_arg0)

/-- The word of a point's tile: one if it lives, else zero. -/
theorem word_at (i : grid0.Coords) : word i c (tables m 2)
    = (IntOp.cmpi .slt (ExpertMath.startW (tileOf i)) (ends m (ix1 23))).setWidth 32 := by
  have e : word i c (tables m 2) = entry m 0 main_v45 (ix1 (tileOf i)) := congrArg (entry m 0 main_v45) (place_at i)
  refine e.trans ((congrFun (entry_live m 0) (ix1 (tileOf i))).trans ?_)
  exact congrArg (fun b : BitVec 1 => b.setWidth 32) (livesT_at _ _)

/-- A tile is dead exactly when it does not begin before the last end. -/
theorem dead_iff (i : grid0.Coords) : k0_cond1 (word i c (tables m 2)) = 1#1
    ↔ ¬ IntOp.cmpi .slt (ExpertMath.startW (tileOf i)) (ends m (ix1 23)) = 1#1 := by
  rw [cond1_iff, word_at]
  generalize IntOp.cmpi .slt (ExpertMath.startW (tileOf i)) (ends m (ix1 23)) = b
  rcases BitVec.eq_zero_or_eq_one b with q | q <;> subst q <;> decide

end

variable (m : (ℓ : Loc nD τ sig) → Buf (Elt Ideal) ℓ) (c : Dev nD)

/-- A live tile's bucket is that of its first row. -/
theorem bucket_live (n : Fin 152) (h : IntOp.cmpi .slt (ExpertMath.startW n) (ends m (ix1 23)) = 1#1) :
    bucketN (ends m) n = ExpertMath.bucketOf (ends m) (ExpertMath.startW n) := by
  have e : probes (ends m) (ix1 n) = ExpertMath.startW n := (probes_at _ n).trans (min_pred _ _ h)
  show min (ExpertWords.hits (ends m) (probes (ends m) (ix1 n))) 23 = min (ExpertWords.hits (ends m) (ExpertMath.startW n)) 23
  rw [e]

/-- The array the kernel leaves. -/
def G : S38912x1024.Idx → EReal := fun i =>
  ExpertMath.target (m ((c : Thread nD τ).loc main_arg1)) (m ((c : Thread nD τ).loc main_arg2)) (m ((c : Thread nD τ).loc main_arg3))
    (m ((c : Thread nD τ).loc main_arg4)) (i 0) (i 1) (m ((c : Thread nD τ).loc main_arg0))

end Cert.Kernel2Ideal.Experts

end
-- ==== Proof.ExpertsOut.lean ====
/- The experts' kernel leaves the target. -/
module

public import proofs.«01_k».proof.Proof.ExpertsLeft
public import proofs.«01_k».proof.Proof.ExpertsAlive

@[expose] public section

set_option maxRecDepth 16384

noncomputable section

namespace Cert.Kernel2Ideal.Experts

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (hO : Named m) (c : Dev nD)

/-- A live tile's output at an index. -/
theorem live_at (i : grid0.Coords) (h : IntOp.cmpi .slt (ExpertMath.startW (tileOf i)) (ends m (ix1 23)) = 1#1) (r : Fin 256) (C : Fin 1024)
    (R : Fin 38912) (hR : R = ⟨256 * tileOf i + r, by have := (tileOf i).isLt; omega⟩) :
    liveTile (read0 m c i) (read1 m hO c i) (read2 m hO c i) (read3 m hO c i) (read4 m hO c i) (ix2 r C)
      = ExpertMath.both (m ((c : Thread nD τ).loc main_arg1)) (m ((c : Thread nD τ).loc main_arg2)) (m ((c : Thread nD τ).loc main_arg3))
        (m ((c : Thread nD τ).loc main_arg4)) R C (ExpertMath.bucketOf (ends m) (ExpertMath.startW (tileOf i))) := by
  have hl : (⟨ExpertWords.lowN (bucketN (ends m) (tileOf i)), ExpertWords.low_lt ⟨_, bucketN_lt _ _⟩⟩ : Fin 16)
      = ExpertMath.lowF (ExpertMath.bucketOf (ends m) (ExpertMath.startW (tileOf i))) := Fin.ext (congrArg ExpertWords.lowN (bucket_live m _ h))
  have hh : (⟨ExpertWords.highN (bucketN (ends m) (tileOf i)), ExpertWords.high_lt ⟨_, bucketN_lt _ _⟩⟩ : Fin 16)
      = ExpertMath.highF (ExpertMath.bucketOf (ends m) (ExpertMath.startW (tileOf i))) := Fin.ext (congrArg ExpertWords.highN (bucket_live m _ h))
  have h0 (k : Fin 1152) : read0 m c i (ix2 r k) = m ((c : Thread nD τ).loc main_arg1) (ix2 R k) := by
    refine (read0_at m c i r k).trans ?_
    rw [hR]
    exact congrFun (entry_arg m c main_arg1 (.inr (.inl rfl))) _
  have h1g (k : Fin 1024) (j : Fin 512) : read1 m hO c i (ix3 0 k ⟨j, by omega⟩)
      = m ((c : Thread nD τ).loc main_arg2) (ix3 (ExpertMath.lowF (ExpertMath.bucketOf (ends m) (ExpertMath.startW (tileOf i)))) k j) := by
    refine (read1_at m hO c i k _).trans ?_
    rw [hl]
    exact (congrFun (entry_first m c) _).trans (firstT_gate _ _ _ k j)
  have h1u (k : Fin 1024) (j : Fin 512) : read1 m hO c i (ix3 0 k ⟨512 + j, by omega⟩)
      = m ((c : Thread nD τ).loc main_arg3) (ix3 (ExpertMath.lowF (ExpertMath.bucketOf (ends m) (ExpertMath.startW (tileOf i)))) k j) := by
    refine (read1_at m hO c i k _).trans ?_
    rw [hl]
    exact (congrFun (entry_first m c) _).trans (firstT_up _ _ _ k j)
  have h2 (j : Fin 512) : read2 m hO c i (ix3 0 j C)
      = m ((c : Thread nD τ).loc main_arg4) (ix3 (ExpertMath.lowF (ExpertMath.bucketOf (ends m) (ExpertMath.startW (tileOf i)))) j C) := by
    refine (read2_at m hO c i j C).trans ?_
    rw [hl]
    exact (congrFun (entry_last m c) _).trans (lastT_at _ _ j C)
  have h3g (k : Fin 1024) (j : Fin 512) : read3 m hO c i (ix3 0 k ⟨j, by omega⟩)
      = m ((c : Thread nD τ).loc main_arg2) (ix3 (ExpertMath.highF (ExpertMath.bucketOf (ends m) (ExpertMath.startW (tileOf i)))) k j) := by
    refine (read3_at m hO c i k _).trans ?_
    rw [hh]
    exact (congrFun (entry_first m c) _).trans (firstT_gate _ _ _ k j)
  have h3u (k : Fin 1024) (j : Fin 512) : read3 m hO c i (ix3 0 k ⟨512 + j, by omega⟩)
      = m ((c : Thread nD τ).loc main_arg3) (ix3 (ExpertMath.highF (ExpertMath.bucketOf (ends m) (ExpertMath.startW (tileOf i)))) k j) := by
    refine (read3_at m hO c i k _).trans ?_
    rw [hh]
    exact (congrFun (entry_first m c) _).trans (firstT_up _ _ _ k j)
  have h4 (j : Fin 512) : read4 m hO c i (ix3 0 j C)
      = m ((c : Thread nD τ).loc main_arg4) (ix3 (ExpertMath.highF (ExpertMath.bucketOf (ends m) (ExpertMath.startW (tileOf i)))) j C) := by
    refine (read4_at m hO c i j C).trans ?_
    rw [hh]
    exact (congrFun (entry_last m c) _).trans (lastT_at _ _ j C)
  refine (liveTile_at _ _ _ _ _ r C).trans ?_
  unfold ExpertMath.both ExpertMath.one
  simp only [h0, h1g, h1u, h2, h3g, h3u, h4]

/-- What a point leaves, at an index. -/
theorem left_at (t : Fin (pipe m hO).N) (r : Fin 256) (C : Fin 1024) (R : Fin 38912)
    (hR : R = ⟨256 * tileOf (grid0.coords t) + r, by have := (tileOf (grid0.coords t)).isLt; omega⟩) :
    left m hO c t (ix2 r C) = G m c (ix2 R C) := by
  obtain rfl : c = 0 := Subsingleton.elim _ _
  have hd : (R : Nat) / 256 = tileOf (grid0.coords t) := by
    rw [hR]; show (256 * (tileOf (grid0.coords t)).val + r.val) / 256 = (tileOf (grid0.coords t)).val
    omega
  have hG : G m 0 (ix2 R C) = ExpertMath.target (m (((0 : Dev nD) : Thread nD τ).loc main_arg1)) (m (((0 : Dev nD) : Thread nD τ).loc main_arg2))
      (m (((0 : Dev nD) : Thread nD τ).loc main_arg3)) (m (((0 : Dev nD) : Thread nD τ).loc main_arg4)) R C (ends m) := rfl
  rw [hG]
  unfold ExpertMath.target
  rw [hd]
  by_cases h : IntOp.cmpi .slt (ExpertMath.startW (tileOf (grid0.coords t))) (ends m (ix1 23)) = 1#1
  · refine (congrFun (left_live m hO 0 t fun q => (dead_iff m 0 _).mp q h) (ix2 r C)).trans ?_
    refine (live_at m hO 0 (grid0.coords t) h r C R hR).trans ?_
    exact (if_pos h).symm
  · refine (congrFun (left_dead m hO 0 t ((dead_iff m 0 _).mpr h)) (ix2 r C)).trans ?_
    exact (dead_at r C).trans (if_neg h).symm

end Cert.Kernel2Ideal.Experts

end
-- ==== Proof.ExpertsFinal.lean ====
/- The experts' kernel: its tiles fill the result, and its run leaves the target. -/
module

public import proofs.«01_k».proof.Proof.ExpertsOut

@[expose] public section

set_option maxRecDepth 16384

noncomputable section

namespace Cert.Kernel2Ideal.Experts

open Cert.Kernel2Ideal Cert.Kernel2Ideal.Gen Idealize.ShloMosaic Idealize.ShloMosaic.TcCoe Idealize.SL.Sem
open Idealize.ShloMosaic.Pipeline (Dat)

/-- Where an element of a point's output tile lies. -/
theorem place5 (i : grid0.Coords) (r : Fin 256) (C : Fin 1024) :
    (Rect.block (s := S38912x1024) S256x1024.size (cc0_transform_5 i) (hinb0_5 i)).emb (ix2 r C)
      = ix2 ⟨256 * tileOf i + r, by have := (tileOf i).isLt; omega⟩ C := by
  have e := emb_of (s := S38912x1024) S256x1024.size _ _ (hinb0_5 i) rfl (ix2 r C)
  refine ext2 _ _ ((e 0).trans ?_) ((e 1).trans ?_)
  · show (BitVec.ofNat 32 (tileOf i).val).toNat * 256 + (r : Nat) = 256 * (tileOf i).val + r
    rw [tileW]; omega
  · show 0 * 1024 + (C : Nat) = C; omega

/-- Every point writes its tile back. -/
theorem flush5 (t : Fin grid0.N) : Pipeline.Window.flushOf grid0 true cc0_transform_5 t = true :=
  (Pipeline.Window.flushOf_reads cc0_transform_5 reads0_5 hreads0_5 0 (by decide) (by decide)
    (Pipeline.Window.sep_of_coord cc0_transform_5 0 0 (fun _ => rfl) (by decide)) (P := 1) (m := 0) (by decide) rfl t).mpr (Nat.mod_one _)

/-- A point's tile is the point's own number. -/
theorem tile_val (t : Fin grid0.N) : (tileOf (grid0.coords t) : Nat) = t := by
  have h := Pipeline.Grid.coords_val (G := grid0) t 0 (S := 1) (B := 152) (by decide) rfl
  have ht : (t : Nat) < 152 := t.isLt
  show ((grid0.coords t 0 : Fin 152) : Nat) = t
  omega

variable (m : (ℓ : Loc nD τ sig) → Buf (Elt Ideal) ℓ) (hO : Named m) (c : Dev nD)

/-- A point's output tile, as the result's block. -/
theorem left_eq (t : Fin (pipe m hO).N) : left m hO c t
    = fun y => G m c ((Rect.block (s := S38912x1024) S256x1024.size (cc0_transform_5 (grid0.coords t)) (hinb0_5 (grid0.coords t))).emb y) := by
  funext y
  have hy : y = ix2 (y 0) (y 1) := ext2 _ _ rfl rfl
  rw [hy]
  exact (left_at m hO c t (y 0) (y 1) _ rfl).trans (congrArg (G m c) (place5 (grid0.coords t) (y 0) (y 1)).symm)

set_option maxHeartbeats 2000000 in
/-- What a point writes back is its block of the array. -/
theorem flushed_left (t : Fin (pipe m hO).N) :
    (data m hO 0 c).flushed 5 t = (((pipe m hO).win 5).blk t).view.read (Elt Ideal) (G m c) :=
  (congrArg (((pipe m hO).win 5).cut ((pipe m hO).grid.coords t)) (data_after5 m hO c t)).trans (left_eq m hO c t)

set_option maxHeartbeats 2000000 in
/-- The tiles fill the array. -/
theorem cover_left (i : S38912x1024.Idx) : ∃ t : Fin (pipe m hO).N, ((pipe m hO).win 5).flush t = true ∧ i ∈ (((pipe m hO).win 5).blk t).view.set := by
  have h0 : (i 0 : Nat) < 38912 := (i 0).isLt
  have hN : (i 0 : Nat) / 256 < grid0.N := by show (i 0 : Nat) / 256 < 152; omega
  refine ⟨⟨(i 0 : Nat) / 256, hN⟩, flush5 _, ?_⟩
  have e : (Rect.block (s := S38912x1024) S256x1024.size (cc0_transform_5 (grid0.coords ⟨(i 0 : Nat) / 256, hN⟩)) (hinb0_5 _)).emb
      (ix2 ⟨(i 0 : Nat) % 256, Nat.mod_lt _ (by decide)⟩ (i 1)) = i := by
    refine (place5 _ _ _).trans (ext2 _ _ ?_ rfl)
    show 256 * (tileOf (grid0.coords ⟨(i 0 : Nat) / 256, hN⟩) : Nat) + (i 0 : Nat) % 256 = i 0
    rw [tile_val]; show 256 * ((i 0 : Nat) / 256) + (i 0 : Nat) % 256 = i 0
    omega
  have hm := (((pipe m hO).win 5).blk ⟨(i 0 : Nat) / 256, hN⟩).view.emb_mem_set (ix2 ⟨(i 0 : Nat) % 256, Nat.mod_lt _ (by decide)⟩ (i 1) : S256x1024.Idx)
  exact (congrArg (fun j => j ∈ (((pipe m hO).win 5).blk ⟨(i 0 : Nat) / 256, hN⟩).view.set) e).mp hm

set_option maxHeartbeats 2000000 in
/-- The result's array at the end. -/
theorem final_left : (data m hO 0 c).arrAt 5 (pipe m hO).N = G m c :=
  (data m hO 0 c).arrAt_eq_of_cover 5 (G m c) (fun t _ => flushed_left m hO c t) (cover_left m hO)

end Cert.Kernel2Ideal.Experts

end
-- ==== Proof.ExpertsRefLines.lean ====
/- The experts reference: its host lines, one after the other. -/
module

public import proofs.«01_k».proof.Proof.Gen.Reference2Ideal
public import Idealize.ShloMosaic.Lib.StableHlo.RunHlo
public import Idealize.ShloMosaic.Lib.StableHlo.RunRead
public import Idealize.ShloMosaic.Lib.Pointwise

@[expose] public section

set_option maxRecDepth 16384

noncomputable section

namespace Cert.Reference2Ideal.Experts

open Cert.Reference2Ideal Cert.Reference2Ideal.Gen Idealize.ShloMosaic Idealize.ShloMosaic.TcCoe Idealize.SL.Sem

set_option maxHeartbeats 40000000 in
/-- The reference's host lines, with the proof that they are the whole of it. -/
def lineSeq : { ops : List (HloOp τ sig (Elt Ideal)) // ∀ d : Dev nD, StableHlo.IsSeq (main (F := Ideal) d) ops } :=
  by
    apply Subtype.mk
    hlo_seq

/-- The lines alone. -/
abbrev lines : List (HloOp τ sig (Elt Ideal)) := lineSeq.1

end Cert.Reference2Ideal.Experts

end
-- ==== Proof.ExpertsRefTerm.lean ====
/- The experts reference: the term of its arguments that its host lines leave in the result. -/
module

public import proofs.«01_k».proof.Proof.Gen.Reference2Ideal
public import proofs.«01_k».proof.Proof.ExpertsWords

@[expose] public section

set_option maxRecDepth 16384

noncomputable section

namespace Cert.Reference2Ideal.Experts

open Cert.Reference2Ideal Cert.Reference2Ideal.Gen Idealize.ShloMosaic Idealize.ShloMosaic.TcCoe Idealize.SL.Sem

/-- The number of every row. -/
def rows : IVec S38912 32 := iotaInDim S38912 32 0

/-- The end of the last bucket. -/
def lastEnd (x : IVec S24 32) : IVec S_ 32 := shapeCast S_ (extractStridedSlice S1 ![23] x slices_S24_S1_23) shapeCasts_S1_S_

/-- Whether a row lies before the last end. -/
def lives (x : IVec S24 32) : IVec S38912 1 := cmpi .slt rows (broadcastInDim S38912 ![] bcast_S_S38912 (lastEnd x))

/-- Whether a row lies behind a bucket's end. -/
def behind (x : IVec S24 32) : IVec S38912x24 1 :=
  cmpi .sge (broadcastInDim S38912x24 ![0, 1] bcast_S38912x1_S38912x24_0_1 (broadcastInDim S38912x1 ![0] bcast_S38912_S38912x1_0 rows))
    (broadcastInDim S38912x24 ![0, 1] bcast_S1x24_S38912x24_0_1 (broadcastInDim S1x24 ![1] bcast_S24_S1x24_1 x))

/-- The bucket of every row. -/
def bucketR (x : IVec S24 32) : IVec S38912 32 :=
  Host.reduce IntOp.addi (extui 32 (behind x) natLt_1_32) (constantI S_ 32 0#32) reducesTo_S38912x24_S38912_d1 h_S_

/-- One at a row's expert, zero at every other. -/
def oneHot (v : IVec S38912 32) : FVec Ideal S38912x16 .f32 :=
  uitofp .f32 (cmpi .eq (broadcastInDim S38912x16 ![0, 1] bcast_S38912x1_S38912x16_0_1 (broadcastInDim S38912x1 ![0] bcast_S38912_S38912x1_0 v))
    (broadcastInDim S38912x16 ![0, 1] bcast_S1x16_S38912x16_0_1 (iotaInDim S1x16 32 1)))

/-- One column of the rows, for every expert. -/
def spread (w : FVec Ideal S38912x1 .f32) : FVec Ideal S38912x16 .f32 :=
  broadcastInDim S38912x16 ![0, 1] bcast_S38912x1_S38912x16_0_1
    (broadcastInDim S38912x1 ![0] bcast_S38912_S38912x1_0 (shapeCast S38912 w shapeCasts_S38912x1_S38912))

/-- The weight of every expert in every row. -/
def combine (x : IVec S24 32) (xs : FVec Ideal S38912x1152 .f32) : FVec Ideal S38912x16 .f32 :=
  select (broadcastInDim S38912x16 ![0, 1] bcast_S38912x1_S38912x16_0_1 (broadcastInDim S38912x1 ![0] bcast_S38912_S38912x1_0 (lives x)))
    (addf
      (mulf (oneHot fun i => ExpertWords.lowRW (bucketR x i)) (spread (extractStridedSlice S38912x1 ![0, 1026] xs slices_S38912x1152_S38912x1_0_1026)))
      (mulf (oneHot fun i => ExpertWords.highRW (bucketR x i)) (spread (extractStridedSlice S38912x1 ![0, 1027] xs slices_S38912x1152_S38912x1_0_1027))))
    (broadcastInDim S38912x16 ![] bcast_S_S38912x16 (constant S_ .f32 0x00000000#32))

/-- A tensor times its own logistic. -/
def silu (z : FVec Ideal S38912x512 .f32) : FVec Ideal S38912x512 .f32 :=
  mulf z (Host.divf (broadcastInDim S38912x512 ![] bcast_S_S38912x512 (constant S_ .f32 0x3F800000#32))
    (addf (broadcastInDim S38912x512 ![] bcast_S_S38912x512 (constant S_ .f32 0x3F800000#32)) (Host.exp (Host.negf z))))

/-- The rows times one expert's first weights. -/
def enter (xt : FVec Ideal S38912x1024 .f32) (w : FVec Ideal S1x1024x512 .f32) : FVec Ideal S38912x512 .f32 :=
  Host.dotGeneral dot_S38912x1024_S1024x512_S38912x512_1_0_0_1_n_n none xt (shapeCast S1024x512 w shapeCasts_S1x1024x512_S1024x512)

/-- What one expert adds. -/
def part (xt : FVec Ideal S38912x1024 .f32) (g u : FVec Ideal S1x1024x512 .f32) (d : FVec Ideal S1x512x1024 .f32) (w : FVec Ideal S38912x1 .f32) :
    FVec Ideal S38912x1024 .f32 :=
  mulf (broadcastInDim S38912x1024 ![0, 1] bcast_S38912x1_S38912x1024_0_1 w)
    (Host.dotGeneral dot_S38912x512_S512x1024_S38912x1024_1_0_0_1_n_n none (mulf (silu (enter xt g)) (enter xt u))
      (shapeCast S512x1024 d shapeCasts_S1x512x1024_S512x1024))

section
variable (xt : FVec Ideal S38912x1024 .f32) (g u : FVec Ideal S16x1024x512 .f32) (d : FVec Ideal S16x512x1024 .f32) (w : FVec Ideal S38912x16 .f32)

/-- Nothing yet. -/
def acc0 : FVec Ideal S38912x1024 .f32 := broadcastInDim S38912x1024 ![] bcast_S_S38912x1024 (constant S_ .f32 0x00000000#32)
/-- With expert 0. -/
def acc1 : FVec Ideal S38912x1024 .f32 :=
  addf acc0 (part xt (extractStridedSlice S1x1024x512 ![0, 0, 0] g slices_S16x1024x512_S1x1024x512_0_0_0)
    (extractStridedSlice S1x1024x512 ![0, 0, 0] u slices_S16x1024x512_S1x1024x512_0_0_0)
    (extractStridedSlice S1x512x1024 ![0, 0, 0] d slices_S16x512x1024_S1x512x1024_0_0_0)
    (extractStridedSlice S38912x1 ![0, 0] w slices_S38912x16_S38912x1_0_0))
/-- With expert 1. -/
def acc2 : FVec Ideal S38912x1024 .f32 :=
  addf (acc1 xt g u d w) (part xt (extractStridedSlice S1x1024x512 ![1, 0, 0] g slices_S16x1024x512_S1x1024x512_1_0_0)
    (extractStridedSlice S1x1024x512 ![1, 0, 0] u slices_S16x1024x512_S1x1024x512_1_0_0)
    (extractStridedSlice S1x512x1024 ![1, 0, 0] d slices_S16x512x1024_S1x512x1024_1_0_0)
    (extractStridedSlice S38912x1 ![0, 1] w slices_S38912x16_S38912x1_0_1))
/-- With expert 2. -/
def acc3 : FVec Ideal S38912x1024 .f32 :=
  addf (acc2 xt g u d w) (part xt (extractStridedSlice S1x1024x512 ![2, 0, 0] g slices_S16x1024x512_S1x1024x512_2_0_0)
    (extractStridedSlice S1x1024x512 ![2, 0, 0] u slices_S16x1024x512_S1x1024x512_2_0_0)
    (extractStridedSlice S1x512x1024 ![2, 0, 0] d slices_S16x512x1024_S1x512x1024_2_0_0)
    (extractStridedSlice S38912x1 ![0, 2] w slices_S38912x16_S38912x1_0_2))
/-- With expert 3. -/
def acc4 : FVec Ideal S38912x1024 .f32 :=
  addf (acc3 xt g u d w) (part xt (extractStridedSlice S1x1024x512 ![3, 0, 0] g slices_S16x1024x512_S1x1024x512_3_0_0)
    (extractStridedSlice S1x1024x512 ![3, 0, 0] u slices_S16x1024x512_S1x1024x512_3_0_0)
    (extractStridedSlice S1x512x1024 ![3, 0, 0] d slices_S16x512x1024_S1x512x1024_3_0_0)
    (extractStridedSlice S38912x1 ![0, 3] w slices_S38912x16_S38912x1_0_3))
/-- With expert 4. -/
def acc5 : FVec Ideal S38912x1024 .f32 :=
  addf (acc4 xt g u d w) (part xt (extractStridedSlice S1x1024x512 ![4, 0, 0] g slices_S16x1024x512_S1x1024x512_4_0_0)
    (extractStridedSlice S1x1024x512 ![4, 0, 0] u slices_S16x1024x512_S1x1024x512_4_0_0)
    (extractStridedSlice S1x512x1024 ![4, 0, 0] d slices_S16x512x1024_S1x512x1024_4_0_0)
    (extractStridedSlice S38912x1 ![0, 4] w slices_S38912x16_S38912x1_0_4))
/-- With expert 5. -/
def acc6 : FVec Ideal S38912x1024 .f32 :=
  addf (acc5 xt g u d w) (part xt (extractStridedSlice S1x1024x512 ![5, 0, 0] g slices_S16x1024x512_S1x1024x512_5_0_0)
    (extractStridedSlice S1x1024x512 ![5, 0, 0] u slices_S16x1024x512_S1x1024x512_5_0_0)
    (extractStridedSlice S1x512x1024 ![5, 0, 0] d slices_S16x512x1024_S1x512x1024_5_0_0)
    (extractStridedSlice S38912x1 ![0, 5] w slices_S38912x16_S38912x1_0_5))
/-- With expert 6. -/
def acc7 : FVec Ideal S38912x1024 .f32 :=
  addf (acc6 xt g u d w) (part xt (extractStridedSlice S1x1024x512 ![6, 0, 0] g slices_S16x1024x512_S1x1024x512_6_0_0)
    (extractStridedSlice S1x1024x512 ![6, 0, 0] u slices_S16x1024x512_S1x1024x512_6_0_0)
    (extractStridedSlice S1x512x1024 ![6, 0, 0] d slices_S16x512x1024_S1x512x1024_6_0_0)
    (extractStridedSlice S38912x1 ![0, 6] w slices_S38912x16_S38912x1_0_6))
/-- With expert 7. -/
def acc8 : FVec Ideal S38912x1024 .f32 :=
  addf (acc7 xt g u d w) (part xt (extractStridedSlice S1x1024x512 ![7, 0, 0] g slices_S16x1024x512_S1x1024x512_7_0_0)
    (extractStridedSlice S1x1024x512 ![7, 0, 0] u slices_S16x1024x512_S1x1024x512_7_0_0)
    (extractStridedSlice S1x512x1024 ![7, 0, 0] d slices_S16x512x1024_S1x512x1024_7_0_0)
    (extractStridedSlice S38912x1 ![0, 7] w slices_S38912x16_S38912x1_0_7))
/-- With expert 8. -/
def acc9 : FVec Ideal S38912x1024 .f32 :=
  addf (acc8 xt g u d w) (part xt (extractStridedSlice S1x1024x512 ![8, 0, 0] g slices_S16x1024x512_S1x1024x512_8_0_0)
    (extractStridedSlice S1x1024x512 ![8, 0, 0] u slices_S16x1024x512_S1x1024x512_8_0_0)
    (extractStridedSlice S1x512x1024 ![8, 0, 0] d slices_S16x512x1024_S1x512x1024_8_0_0)
    (extractStridedSlice S38912x1 ![0, 8] w slices_S38912x16_S38912x1_0_8))
/-- With expert 9. -/
def acc10 : FVec Ideal S38912x1024 .f32 :=
  addf (acc9 xt g u d w) (part xt (extractStridedSlice S1x1024x512 ![9, 0, 0] g slices_S16x1024x512_S1x1024x512_9_0_0)
    (extractStridedSlice S1x1024x512 ![9, 0, 0] u slices_S16x1024x512_S1x1024x512_9_0_0)
    (extractStridedSlice S1x512x1024 ![9, 0, 0] d slices_S16x512x1024_S1x512x1024_9_0_0)
    (extractStridedSlice S38912x1 ![0, 9] w slices_S38912x16_S38912x1_0_9))
/-- With expert 10. -/
def acc11 : FVec Ideal S38912x1024 .f32 :=
  addf (acc10 xt g u d w) (part xt (extractStridedSlice S1x1024x512 ![10, 0, 0] g slices_S16x1024x512_S1x1024x512_10_0_0)
    (extractStridedSlice S1x1024x512 ![10, 0, 0] u slices_S16x1024x512_S1x1024x512_10_0_0)
    (extractStridedSlice S1x512x1024 ![10, 0, 0] d slices_S16x512x1024_S1x512x1024_10_0_0)
    (extractStridedSlice S38912x1 ![0, 10] w slices_S38912x16_S38912x1_0_10))
/-- With expert 11. -/
def acc12 : FVec Ideal S38912x1024 .f32 :=
  addf (acc11 xt g u d w) (part xt (extractStridedSlice S1x1024x512 ![11, 0, 0] g slices_S16x1024x512_S1x1024x512_11_0_0)
    (extractStridedSlice S1x1024x512 ![11, 0, 0] u slices_S16x1024x512_S1x1024x512_11_0_0)
    (extractStridedSlice S1x512x1024 ![11, 0, 0] d slices_S16x512x1024_S1x512x1024_11_0_0)
    (extractStridedSlice S38912x1 ![0, 11] w slices_S38912x16_S38912x1_0_11))
/-- With expert 12. -/
def acc13 : FVec Ideal S38912x1024 .f32 :=
  addf (acc12 xt g u d w) (part xt (extractStridedSlice S1x1024x512 ![12, 0, 0] g slices_S16x1024x512_S1x1024x512_12_0_0)
    (extractStridedSlice S1x1024x512 ![12, 0, 0] u slices_S16x1024x512_S1x1024x512_12_0_0)
    (extractStridedSlice S1x512x1024 ![12, 0, 0] d slices_S16x512x1024_S1x512x1024_12_0_0)
    (extractStridedSlice S38912x1 ![0, 12] w slices_S38912x16_S38912x1_0_12))
/-- With expert 13. -/
def acc14 : FVec Ideal S38912x1024 .f32 :=
  addf (acc13 xt g u d w) (part xt (extractStridedSlice S1x1024x512 ![13, 0, 0] g slices_S16x1024x512_S1x1024x512_13_0_0)
    (extractStridedSlice S1x1024x512 ![13, 0, 0] u slices_S16x1024x512_S1x1024x512_13_0_0)
    (extractStridedSlice S1x512x1024 ![13, 0, 0] d slices_S16x512x1024_S1x512x1024_13_0_0)
    (extractStridedSlice S38912x1 ![0, 13] w slices_S38912x16_S38912x1_0_13))
/-- With expert 14. -/
def acc15 : FVec Ideal S38912x1024 .f32 :=
  addf (acc14 xt g u d w) (part xt (extractStridedSlice S1x1024x512 ![14, 0, 0] g slices_S16x1024x512_S1x1024x512_14_0_0)
    (extractStridedSlice S1x1024x512 ![14, 0, 0] u slices_S16x1024x512_S1x1024x512_14_0_0)
    (extractStridedSlice S1x512x1024 ![14, 0, 0] d slices_S16x512x1024_S1x512x1024_14_0_0)
    (extractStridedSlice S38912x1 ![0, 14] w slices_S38912x16_S38912x1_0_14))
/-- With expert 15. -/
def acc16 : FVec Ideal S38912x1024 .f32 :=
  addf (acc15 xt g u d w) (part xt (extractStridedSlice S1x1024x512 ![15, 0, 0] g slices_S16x1024x512_S1x1024x512_15_0_0)
    (extractStridedSlice S1x1024x512 ![15, 0, 0] u slices_S16x1024x512_S1x1024x512_15_0_0)
    (extractStridedSlice S1x512x1024 ![15, 0, 0] d slices_S16x512x1024_S1x512x1024_15_0_0)
    (extractStridedSlice S38912x1 ![0, 15] w slices_S38912x16_S38912x1_0_15))
end

/-- The reference's result. -/
def result (x : IVec S24 32) (xs : FVec Ideal S38912x1152 .f32) (g u : FVec Ideal S16x1024x512 .f32) (d : FVec Ideal S16x512x1024 .f32) :
    FVec Ideal S38912x1024 .f32 :=
  acc16 (extractStridedSlice S38912x1024 ![0, 0] xs slices_S38912x1152_S38912x1024_0_0) g u d (combine x xs)

end Cert.Reference2Ideal.Experts

end
-- ==== Proof.ExpertsRefRun.lean ====
/- The experts reference: what its host lines leave in the result, as a term of the arguments. -/
module

public import proofs.«01_k».proof.Proof.ExpertsRefLines
public import proofs.«01_k».proof.Proof.ExpertsRefTerm

@[expose] public section

set_option maxRecDepth 16384

noncomputable section

namespace Cert.Reference2Ideal.Experts

open Cert.Reference2Ideal Cert.Reference2Ideal.Gen Idealize.ShloMosaic Idealize.ShloMosaic.TcCoe Idealize.SL.Sem

theorem kept0 (W : Valuation τ sig (Elt Ideal)) : StableHlo.after lines W (Proc.devRef .tc main_arg0) = W (Proc.devRef .tc main_arg0) := by
  after_reads_simp
theorem kept1 (W : Valuation τ sig (Elt Ideal)) : StableHlo.after lines W (Proc.devRef .tc main_arg1) = W (Proc.devRef .tc main_arg1) := by
  after_reads_simp
theorem kept2 (W : Valuation τ sig (Elt Ideal)) : StableHlo.after lines W (Proc.devRef .tc main_arg2) = W (Proc.devRef .tc main_arg2) := by
  after_reads_simp
theorem kept3 (W : Valuation τ sig (Elt Ideal)) : StableHlo.after lines W (Proc.devRef .tc main_arg3) = W (Proc.devRef .tc main_arg3) := by
  after_reads_simp
theorem kept4 (W : Valuation τ sig (Elt Ideal)) : StableHlo.after lines W (Proc.devRef .tc main_arg4) = W (Proc.devRef .tc main_arg4) := by
  after_reads_simp

/-- The run, its lines' effect unread. -/
theorem run_lines (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD, ∀ b,
      r.2.mem ((c.tc : Thread nD τ).loc b) = StableHlo.after lines (fun b => m (c, b)) (Proc.devRef .tc b) :=
  θ_run_mono (StableHlo.run_hlo (defs (F := Ideal)) main lineSeq.2 (by decide) (by decide)
      (by simp [lineSeq]) (by intro _ h; (repeat (cases h with | head => rfl | tail _ h => ?_)); exact nomatch h) m ρ)
    fun r h c b => h c b

end Cert.Reference2Ideal.Experts

end
-- ==== Proof.ExpertsRefRead.lean ====
/- The experts reference: its result read off its host lines. -/
module

public import proofs.«01_k».proof.Proof.ExpertsRefLines
public import proofs.«01_k».proof.Proof.ExpertsRefTerm

@[expose] public section

set_option maxRecDepth 65536

noncomputable section

namespace Cert.Reference2Ideal.Experts

open Cert.Reference2Ideal Cert.Reference2Ideal.Gen Idealize.ShloMosaic Idealize.ShloMosaic.TcCoe Idealize.SL.Sem

set_option maxHeartbeats 8000000 in
/-- The result is the term of the five arguments. -/
theorem read_result (W : Valuation τ sig (Elt Ideal)) :
    StableHlo.after lines W (Proc.devRef .tc main_v293)
      = result (W (Proc.devRef .tc main_arg0)) (W (Proc.devRef .tc main_arg1)) (W (Proc.devRef .tc main_arg2)) (W (Proc.devRef .tc main_arg3))
        (W (Proc.devRef .tc main_arg4)) := by
  after_reads_simp
  simp -implicitDefEqProofs only [StableHlo.TRef.toBuf, StableHlo.TRef.ofBuf, cast_cast, cast_eq, id_eq]
  rfl

end Cert.Reference2Ideal.Experts

end
-- ==== Proof.ExpertsRefAt.lean ====
/- The experts reference at an index: a row's two experts, weighted. -/
module

public import proofs.«01_k».proof.Proof.ExpertsRefTerm
public import proofs.«01_k».proof.Proof.ExpertsMath
public import Idealize.ShloMosaic.Lib.Pointwise

@[expose] public section

set_option maxRecDepth 16384

noncomputable section

namespace Cert.Reference2Ideal.Experts

open Cert.Reference2Ideal Cert.Reference2Ideal.Gen Idealize.ShloMosaic Idealize.ShloMosaic.TcCoe Idealize.SL.Sem

theorem acc0_at (R : Fin 38912) (C : Fin 1024) : acc0 (ix2 R C) = 0 := by pointwise [acc0]

section
variable (xt : FVec Ideal S38912x1024 .f32) (g u : FVec Ideal S16x1024x512 .f32) (d : FVec Ideal S16x512x1024 .f32) (w : FVec Ideal S38912x16 .f32)
  (R : Fin 38912) (C : Fin 1024)

/-- One expert's output for a row. -/
def expertOf (e : Fin 16) : EReal :=
  ExpertMath.expert (fun k => xt (ix2 R k)) (fun k j => g (ix3 e k j)) (fun k j => u (ix3 e k j)) (fun j => d (ix3 e j C))

theorem acc1_at : acc1 xt g u d w (ix2 R C) = acc0 (ix2 R C) + w (ix2 R 0) * expertOf xt g u d R C 0 := by
  rw [acc1]
  pointwise [part, silu, enter]
  rfl
theorem acc2_at : acc2 xt g u d w (ix2 R C) = acc1 xt g u d w (ix2 R C) + w (ix2 R 1) * expertOf xt g u d R C 1 := by
  rw [acc2]
  pointwise [part, silu, enter]
  rfl
theorem acc3_at : acc3 xt g u d w (ix2 R C) = acc2 xt g u d w (ix2 R C) + w (ix2 R 2) * expertOf xt g u d R C 2 := by
  rw [acc3]
  pointwise [part, silu, enter]
  rfl
theorem acc4_at : acc4 xt g u d w (ix2 R C) = acc3 xt g u d w (ix2 R C) + w (ix2 R 3) * expertOf xt g u d R C 3 := by
  rw [acc4]
  pointwise [part, silu, enter]
  rfl
theorem acc5_at : acc5 xt g u d w (ix2 R C) = acc4 xt g u d w (ix2 R C) + w (ix2 R 4) * expertOf xt g u d R C 4 := by
  rw [acc5]
  pointwise [part, silu, enter]
  rfl
theorem acc6_at : acc6 xt g u d w (ix2 R C) = acc5 xt g u d w (ix2 R C) + w (ix2 R 5) * expertOf xt g u d R C 5 := by
  rw [acc6]
  pointwise [part, silu, enter]
  rfl
theorem acc7_at : acc7 xt g u d w (ix2 R C) = acc6 xt g u d w (ix2 R C) + w (ix2 R 6) * expertOf xt g u d R C 6 := by
  rw [acc7]
  pointwise [part, silu, enter]
  rfl
theorem acc8_at : acc8 xt g u d w (ix2 R C) = acc7 xt g u d w (ix2 R C) + w (ix2 R 7) * expertOf xt g u d R C 7 := by
  rw [acc8]
  pointwise [part, silu, enter]
  rfl
theorem acc9_at : acc9 xt g u d w (ix2 R C) = acc8 xt g u d w (ix2 R C) + w (ix2 R 8) * expertOf xt g u d R C 8 := by
  rw [acc9]
  pointwise [part, silu, enter]
  rfl
theorem acc10_at : acc10 xt g u d w (ix2 R C) = acc9 xt g u d w (ix2 R C) + w (ix2 R 9) * expertOf xt g u d R C 9 := by
  rw [acc10]
  pointwise [part, silu, enter]
  rfl
theorem acc11_at : acc11 xt g u d w (ix2 R C) = acc10 xt g u d w (ix2 R C) + w (ix2 R 10) * expertOf xt g u d R C 10 := by
  rw [acc11]
  pointwise [part, silu, enter]
  rfl
theorem acc12_at : acc12 xt g u d w (ix2 R C) = acc11 xt g u d w (ix2 R C) + w (ix2 R 11) * expertOf xt g u d R C 11 := by
  rw [acc12]
  pointwise [part, silu, enter]
  rfl
theorem acc13_at : acc13 xt g u d w (ix2 R C) = acc12 xt g u d w (ix2 R C) + w (ix2 R 12) * expertOf xt g u d R C 12 := by
  rw [acc13]
  pointwise [part, silu, enter]
  rfl
theorem acc14_at : acc14 xt g u d w (ix2 R C) = acc13 xt g u d w (ix2 R C) + w (ix2 R 13) * expertOf xt g u d R C 13 := by
  rw [acc14]
  pointwise [part, silu, enter]
  rfl
theorem acc15_at : acc15 xt g u d w (ix2 R C) = acc14 xt g u d w (ix2 R C) + w (ix2 R 14) * expertOf xt g u d R C 14 := by
  rw [acc15]
  pointwise [part, silu, enter]
  rfl
theorem acc16_at : acc16 xt g u d w (ix2 R C) = acc15 xt g u d w (ix2 R C) + w (ix2 R 15) * expertOf xt g u d R C 15 := by
  rw [acc16]
  pointwise [part, silu, enter]
  rfl

/-- The accumulated sum is the sum over the experts. -/
theorem acc_sum : acc16 xt g u d w (ix2 R C) = ∑ e : Fin 16, w (ix2 R e) * expertOf xt g u d R C e := by
  rw [acc16_at, acc15_at, acc14_at, acc13_at, acc12_at, acc11_at, acc10_at, acc9_at, acc8_at, acc7_at, acc6_at, acc5_at, acc4_at, acc3_at, acc2_at, acc1_at, acc0_at, zero_add]
  simp only [Fin.sum_univ_castSucc, Fin.sum_univ_zero, zero_add]
  rfl
end

theorem rows_at (R : Fin 38912) : rows (ix1 R) = BitVec.ofNat 32 R := by
  pointwise [rows]

theorem behind_at (x : IVec S24 32) (R : Fin 38912) (q : Fin 24) :
    behind x (ix2 R q) = IntOp.cmpi .sge (rows (ix1 R)) (x (ix1 q)) := by
  pointwise [behind]

theorem bucketR_at (x : IVec S24 32) (R : Fin 38912) : bucketR x (ix1 R) = BitVec.ofNat 32 (ExpertWords.hits x (rows (ix1 R))) :=
  ExpertWords.count_at (behind x) natLt_1_32 reducesTo_S38912x24_S38912_d1 h_S_ R x (rows (ix1 R)) fun q => behind_at x R q

theorem combine_at (x : IVec S24 32) (xs : FVec Ideal S38912x1152 .f32) (R : Fin 38912) (e : Fin 16) :
    combine x xs (ix2 R e) = Scalar.select (IntOp.cmpi CmpIPredicate.slt (rows (ix1 R)) (x (ix1 23)))
      (FloatOps.uitofp (F := Ideal) FTy.f32 (IntOp.cmpi CmpIPredicate.eq (ExpertWords.lowRW (bucketR x (ix1 R))) (BitVec.ofNat 32 e)) * xs (ix2 R 1026)
      + FloatOps.uitofp (F := Ideal) FTy.f32 (IntOp.cmpi CmpIPredicate.eq (ExpertWords.highRW (bucketR x (ix1 R))) (BitVec.ofNat 32 e)) * xs (ix2 R 1027)) 0 := by
  pointwise [combine, spread, oneHot, lives, lastEnd]

/-- One at an expert's own number, zero at another. -/
theorem oneAt (n e : Fin 16) :
    FloatOps.uitofp (F := Ideal) FTy.f32 (IntOp.cmpi CmpIPredicate.eq (BitVec.ofNat 32 n) (BitVec.ofNat 32 e)) = if e = n then 1 else 0 := by
  by_cases h : e = n
  · subst h
    rw [if_pos rfl]
    have : IntOp.cmpi CmpIPredicate.eq (BitVec.ofNat 32 e) (BitVec.ofNat 32 e) = 1#1 := by rw [IntOp.cmpi_eq]
    rw [this]; show (((1#1 : BitVec 1).toNat : ℝ) : EReal) = 1; simp
  · rw [if_neg h]
    have hne : BitVec.ofNat 32 n ≠ BitVec.ofNat 32 e := by
      intro q
      have := congrArg BitVec.toNat q
      rw [BitVec.toNat_ofNat, BitVec.toNat_ofNat, Nat.mod_eq_of_lt (by omega), Nat.mod_eq_of_lt (by omega)] at this
      exact h (Fin.ext this.symm)
    have : IntOp.cmpi CmpIPredicate.eq (BitVec.ofNat 32 n) (BitVec.ofNat 32 e) = 0#1 := by
      rcases BitVec.eq_zero_or_eq_one (IntOp.cmpi CmpIPredicate.eq (BitVec.ofNat 32 n) (BitVec.ofNat 32 e)) with q | q
      · exact q
      · rw [IntOp.cmpi_eq] at q; exact absurd q hne
    rw [this]; show (((0#1 : BitVec 1).toNat : ℝ) : EReal) = 0; simp

/-- The reference's result at an index. -/
theorem result_dead (x : IVec S24 32) (xs : FVec Ideal S38912x1152 .f32) (g u : FVec Ideal S16x1024x512 .f32) (d : FVec Ideal S16x512x1024 .f32)
    (R : Fin 38912) (C : Fin 1024) (h : ¬ IntOp.cmpi CmpIPredicate.slt (rows (ix1 R)) (x (ix1 23)) = 1#1) :
    result x xs g u d (ix2 R C) = 0 := by
  rw [result, acc_sum]
  refine Finset.sum_eq_zero fun e _ => ?_
  have hs (a b : EReal) : Scalar.select (IntOp.cmpi CmpIPredicate.slt (rows (ix1 R)) (x (ix1 23))) a b = b := if_neg h
  rw [combine_at, hs, zero_mul]

/-- The reference's result at an index of a row before the last end. -/
theorem result_live (x : IVec S24 32) (xs : FVec Ideal S38912x1152 .f32) (g u : FVec Ideal S16x1024x512 .f32) (d : FVec Ideal S16x512x1024 .f32)
    (R : Fin 38912) (C : Fin 1024) (h : IntOp.cmpi CmpIPredicate.slt (rows (ix1 R)) (x (ix1 23)) = 1#1) (b : Fin 24)
    (hb : ExpertWords.hits x (rows (ix1 R)) = b) :
    result x xs g u d (ix2 R C)
      = xs (ix2 R 1026) * ExpertMath.expert (fun k => xs (ix2 R ⟨k, by omega⟩)) (fun k j => g (ix3 ⟨ExpertWords.lowN b, ExpertWords.low_lt b⟩ k j))
          (fun k j => u (ix3 ⟨ExpertWords.lowN b, ExpertWords.low_lt b⟩ k j)) (fun j => d (ix3 ⟨ExpertWords.lowN b, ExpertWords.low_lt b⟩ j C))
        + xs (ix2 R 1027) * ExpertMath.expert (fun k => xs (ix2 R ⟨k, by omega⟩)) (fun k j => g (ix3 ⟨ExpertWords.highN b, ExpertWords.high_lt b⟩ k j))
          (fun k j => u (ix3 ⟨ExpertWords.highN b, ExpertWords.high_lt b⟩ k j)) (fun j => d (ix3 ⟨ExpertWords.highN b, ExpertWords.high_lt b⟩ j C)) := by
  have hx (k : Fin 1024) : extractStridedSlice S38912x1024 ![0, 0] xs slices_S38912x1152_S38912x1024_0_0 (ix2 R k) = xs (ix2 R ⟨k, by omega⟩) := by
    pointwise []
  have hbr : bucketR x (ix1 R) = BitVec.ofNat 32 b := (bucketR_at x R).trans (congrArg _ hb)
  rw [result, acc_sum]
  simp only [combine_at, hbr, ExpertWords.lowRW_at, ExpertWords.highRW_at, expertOf, hx]
  have hs (a b : EReal) : Scalar.select (IntOp.cmpi CmpIPredicate.slt (rows (ix1 R)) (x (ix1 23))) a b = a := if_pos h
  simp only [hs]
  have hl (e : Fin 16) := oneAt ⟨ExpertWords.lowN b, ExpertWords.low_lt b⟩ e
  have hh (e : Fin 16) := oneAt ⟨ExpertWords.highN b, ExpertWords.high_lt b⟩ e
  simp only [] at hl hh
  simp only [hl, hh]
  exact ExpertMath.two_of_all ⟨ExpertWords.lowN b, ExpertWords.low_lt b⟩ ⟨ExpertWords.highN b, ExpertWords.high_lt b⟩
    (fun q => (ExpertWords.low_lt_high b).ne (congrArg Fin.val q)) (xs (ix2 R 1026)) (xs (ix2 R 1027)) fun e =>
      ExpertMath.expert (fun k => xs (ix2 R ⟨k, by omega⟩)) (fun k j => g (ix3 e k j)) (fun k j => u (ix3 e k j)) (fun j => d (ix3 e j C))

end Cert.Reference2Ideal.Experts

end
-- ==== Proof.ExpertsRows.lean ====
/- Where every bucket ends at a multiple of a tile's rows, a row lies in the bucket of its tile's first row. -/
module

public import proofs.«01_k».proof.Proof.ExpertsTarget

@[expose] public section

noncomputable section

namespace Cert.ExpertMath

open Idealize.ShloMosaic Cert.ExpertWords

/-- A small word's integer. -/
theorem small_toInt (n : Nat) (h : n < 38912) : (BitVec.ofNat 32 n).toInt = n := by
  rw [BitVec.toInt_eq_toNat_of_lt] <;> rw [BitVec.toNat_ofNat, Nat.mod_eq_of_lt (by omega)]
  omega

/-- The first row of a row's tile, as an integer. -/
theorem start_toInt (R : Nat) (h : R < 38912) : (startW (R / 256)).toInt = (256 * (R / 256) : Nat) := by
  have e : startW (R / 256) = BitVec.ofNat 32 (256 * (R / 256)) := by
    refine BitVec.eq_of_toNat_eq ?_
    show (BitVec.ofNat 32 (R / 256) * 256#32).toNat = _
    rw [BitVec.toNat_mul, BitVec.toNat_ofNat, BitVec.toNat_ofNat, BitVec.toNat_ofNat]
    omega
  rw [e]; exact small_toInt _ (by omega)

/-- A word that is a multiple of 256 is one as an integer. -/
theorem aligned_toInt (e : BitVec 32) (he : e.toNat % 256 = 0) : e.toInt % 256 = 0 := by
  rw [BitVec.toInt_eq_toNat_cond]
  split <;> omega

/-- A row and its tile's first row lie on the same side of a multiple of 256. -/
theorem sge_start (e : BitVec 32) (he : e.toNat % 256 = 0) (R : Nat) (h : R < 38912) :
    IntOp.cmpi .sge (BitVec.ofNat 32 R) e = 1#1 ↔ IntOp.cmpi .sge (startW (R / 256)) e = 1#1 := by
  have := aligned_toInt e he
  rw [IntOp.cmpi_sge, IntOp.cmpi_sge, small_toInt R h, start_toInt R h]
  omega

theorem slt_start (e : BitVec 32) (he : e.toNat % 256 = 0) (R : Nat) (h : R < 38912) :
    IntOp.cmpi .slt (BitVec.ofNat 32 R) e = 1#1 ↔ IntOp.cmpi .slt (startW (R / 256)) e = 1#1 := by
  have := aligned_toInt e he
  rw [IntOp.cmpi_slt, IntOp.cmpi_slt, small_toInt R h, start_toInt R h]
  omega

/-- A row lies behind as many ends as its tile's first row. -/
theorem hits_start (x : IVec ⟨1, ![24]⟩ 32) (hx : ∀ q, (x (ix1 q)).toNat % 256 = 0) (R : Nat) (h : R < 38912) :
    hits x (BitVec.ofNat 32 R) = hits x (startW (R / 256)) :=
  Nat.le_antisymm (Nat.count_mono_left fun _ _ p => ⟨p.1, (sge_start _ (hx _) R h).mp p.2⟩)
    (Nat.count_mono_left fun _ _ p => ⟨p.1, (sge_start _ (hx _) R h).mpr p.2⟩)

end Cert.ExpertMath

end
-- ==== Proof.ExpertsRefValue.lean ====
/- The experts reference leaves the target. -/
module

public import proofs.«01_k».proof.Proof.ExpertsRefAt
public import proofs.«01_k».proof.Proof.ExpertsRows

@[expose] public section

noncomputable section

namespace Cert.Reference2Ideal.Experts

open Cert.Reference2Ideal Cert.Reference2Ideal.Gen Idealize.ShloMosaic Idealize.ShloMosaic.TcCoe Idealize.SL.Sem

/-- The reference's result at an index is the target, where the buckets end at multiples of a tile's rows. -/
theorem result_at (x : IVec S24 32) (hx : ∀ q, (x (ix1 q)).toNat % 256 = 0) (xs : FVec Ideal S38912x1152 .f32) (g u : FVec Ideal S16x1024x512 .f32)
    (d : FVec Ideal S16x512x1024 .f32) (R : Fin 38912) (C : Fin 1024) : result x xs g u d (ix2 R C) = ExpertMath.target xs g u d R C x := by
  have hr : rows (ix1 R) = BitVec.ofNat 32 R := rows_at R
  have hs : IntOp.cmpi CmpIPredicate.slt (rows (ix1 R)) (x (ix1 23)) = 1#1
      ↔ IntOp.cmpi CmpIPredicate.slt (ExpertMath.startW (R / 256)) (x (ix1 23)) = 1#1 := by
    rw [hr]; exact ExpertMath.slt_start _ (hx 23) R R.isLt
  have hh : ExpertWords.hits x (rows (ix1 R)) = ExpertWords.hits x (ExpertMath.startW (R / 256)) := by
    rw [hr]; exact ExpertMath.hits_start x hx R R.isLt
  by_cases h : IntOp.cmpi CmpIPredicate.slt (rows (ix1 R)) (x (ix1 23)) = 1#1
  · have hb : ExpertWords.hits x (rows (ix1 R)) = ExpertMath.bucketOf x (ExpertMath.startW (R / 256)) :=
      hh.trans (Nat.min_eq_left (ExpertWords.hits_lt x _ (hs.mp h))).symm
    exact (result_live x xs g u d R C h _ hb).trans (if_pos (hs.mp h)).symm
  · exact (result_dead x xs g u d R C h).trans (if_neg (fun q => h (hs.mpr q))).symm

end Cert.Reference2Ideal.Experts

end
-- ==== Proof.ExpertsEnds.lean ====
/- The experts: how the kernel's run and the reference's run end. -/
module

public import proofs.«01_k».proof.Proof.ExpertsFinal
public import proofs.«01_k».proof.Proof.ExpertsRefRun
public import proofs.«01_k».proof.Proof.ExpertsRefRead
public import proofs.«01_k».proof.Proof.ExpertsRefValue

@[expose] public section

set_option maxRecDepth 16384

noncomputable section

open Idealize.ShloMosaic Idealize.ShloMosaic.TcCoe Idealize.SL.Sem

namespace Cert.Kernel2Ideal.Experts

open Cert.Kernel2Ideal Cert.Kernel2Ideal.Gen

/-- The kernel ends with the target in its result and its arguments unchanged. -/
theorem run_target (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v46) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (run_ends m ρ (named m)) fun _ h c =>
    ⟨((h.1 c).1 5).trans (final_left m (named m) c),
      ((h.1 c).2 main_arg0 (by decide : main_arg0 ∈ Pipeline.restRefs sig spec0)).trans (entry_arg m c _ (.inl rfl)),
      ((h.1 c).1 0).trans (((data m (named m) 0 c).arrAt_in 0 rfl _).trans ((data_A m (named m) c 0).trans (entry_arg m c _ (.inr (.inl rfl))))),
      ((h.1 c).2 main_arg2 (by decide : main_arg2 ∈ Pipeline.restRefs sig spec0)).trans (entry_arg m c _ (.inr (.inr (.inl rfl)))),
      ((h.1 c).2 main_arg3 (by decide : main_arg3 ∈ Pipeline.restRefs sig spec0)).trans (entry_arg m c _ (.inr (.inr (.inr (.inl rfl))))),
      ((h.1 c).2 main_arg4 (by decide : main_arg4 ∈ Pipeline.restRefs sig spec0)).trans (entry_arg m c _ (.inr (.inr (.inr (.inr rfl)))))⟩

end Cert.Kernel2Ideal.Experts

namespace Cert.Reference2Ideal.Experts

open Cert.Reference2Ideal Cert.Reference2Ideal.Gen

/-- The reference ends with its result's term and its arguments unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v293) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (run_lines m ρ) fun _ h c =>
    ⟨(h c main_v293).trans (read_result _), (h c main_arg0).trans (kept0 _), (h c main_arg1).trans (kept1 _), (h c main_arg2).trans (kept2 _),
      (h c main_arg3).trans (kept3 _), (h c main_arg4).trans (kept4 _)⟩

/-- The reference's result is the target, whole, where the buckets end at multiples of a tile's rows. -/
theorem result_target (x : IVec S24 32) (hx : ∀ q, (x (ix1 q)).toNat % 256 = 0) (xs : FVec Ideal S38912x1152 .f32) (g u : FVec Ideal S16x1024x512 .f32) (d : FVec Ideal S16x512x1024 .f32) :
    result x xs g u d = fun i : S38912x1024.Idx => ExpertMath.target xs g u d (i 0) (i 1) x := by
  funext i
  obtain ⟨R, C, rfl⟩ : ∃ R C, i = ix2 R C := ⟨i 0, i 1, eq_ix2 i⟩
  exact result_at x hx xs g u d R C

end Cert.Reference2Ideal.Experts

end
-- ==== Proof.ExpertsAligned.lean ====
/- The precondition of the experts at an index: a bucket ends at a multiple of 256. -/
module

public import proofs.«01_k».proof.Pre_aligned
public import Idealize.ShloMosaic.Lib.Pointwise
public import Idealize.ShloMosaic.Lib.Affine

@[expose] public section

noncomputable section

namespace Cert.ExpertMath

open Idealize.ShloMosaic

/-- The precondition's shapes fit. -/
theorem alignedFacts : Cert.Pre_aligned.Facts where
  bcast_S_S24 := by decide

/-- A word whose last eight bits are clear is a multiple of 256. -/
theorem mod_of_and (e : BitVec 32) (h : IntOp.cmpi CmpIPredicate.eq (IntOp.andi e 255#32) 0#32 = 1#1) : e.toNat % 256 = 0 := by
  rw [IntOp.cmpi_eq] at h
  have h1 : (e &&& 255#32).toNat = 0 := congrArg BitVec.toNat h
  rw [BitVec.toNat_and] at h1
  exact (Nat.and_two_pow_sub_one_eq_mod e.toNat 8).symm.trans h1

/-- Every bucket ends at a multiple of 256. -/
theorem ends_aligned [Cert.Pre_aligned.Facts] (x : IVec Cert.Pre_aligned.S24 32) (xs : FVec Ideal Cert.Pre_aligned.S38912x1152 .f32)
    (g u : FVec Ideal Cert.Pre_aligned.S16x1024x512 .f32) (d : FVec Ideal Cert.Pre_aligned.S16x512x1024 .f32)
    (h : Cert.Pre_aligned.fn (F := Ideal) x xs g u d = fun _ => 1#1) (q : Fin 24) : (x (ix1 q)).toNat % 256 = 0 := by
  have e := congrFun h (ix1 q)
  revert e
  pointwise [Cert.Pre_aligned.fn]
  intro e
  exact mod_of_and _ e

end Cert.ExpertMath

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.KernelValue
public import proofs.«01_k».proof.Proof.RefRun
public import proofs.«01_k».proof.Proof.Finite
public import proofs.«01_k».proof.Proof.ExpertsBitsHost
public import proofs.«01_k».proof.Proof.ExpertsBitsFrame
public import proofs.«01_k».proof.Proof.ExpertsEnds
public import proofs.«01_k».proof.Proof.ExpertsAligned
public import Idealize.ShloMosaic.Adequacy
public import Idealize.ShloMosaic.Init

@[expose] public section

noncomputable section

namespace Cert.Proof

open Idealize.ShloMosaic Idealize.SL.Sem Cert.Kernel

/-- The kernel's result is the reference's, whole. -/
theorem result_agrees (x : FVec Ideal Cert.KernelIdeal.S8x4096x6656 .f32) (y : FVec Ideal Cert.KernelIdeal.S8x257 .f32)
    (hx : ∀ (b : Fin 8) (s : Fin 4096) (j : Fin 6656), (j : Nat) < 1024 → Cert.Match.Fin_ (x (ix3 b s j)))
    (hy : ∀ (a : Fin 8) (n : Fin 257), Cert.Match.Fin_ (y (ix2 a n))) :
    Cert.KernelIdeal.Attn.attnBuf (Cert.KernelIdeal.Attn.projTerm x) (Cert.KernelIdeal.Attn.tableTerm y) = Cert.ReferenceIdeal.Attn.result x y := by
  funext i
  obtain ⟨R, C, rfl⟩ : ∃ R C, i = ix2 R C := ⟨i 0, i 1, eq_ix2 i⟩
  exact Cert.Match.attn_result x y hx hy R C

/-- The reference ends with its arguments unchanged and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  θ_run_mono (Cert.ReferenceIdeal.Attn.run m g) fun r h => ⟨fun c => (h c).2, Idealize.ShloMosaic.sem_eq_zero_of_no_sems (by decide) r.2⟩

/-- The experts reference ends with its arguments unchanged and every semaphore at zero. -/
theorem experts_reference_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  θ_run_mono (Cert.Reference2Ideal.Experts.run_result m g) fun r h => ⟨fun c => (h c).2, Idealize.ShloMosaic.sem_eq_zero_of_no_sems (by decide) r.2⟩

/-- The attention's value claim. -/
theorem attention : algebraic_KernelIdeal_ReferenceIdeal_pre_finite (hKernelIdeal := Cert.KernelIdeal.Gen.facts)
    (hReferenceIdeal := Cert.ReferenceIdeal.Gen.facts) (hPre_finite := Cert.Match.preFacts) := by
  intro m g m' g' hpre hagree
  refine ⟨fun c => Cert.KernelIdeal.Attn.attnBuf (Cert.KernelIdeal.Attn.projTerm (m ((c.tc : Thread Cert.KernelIdeal.nD Cert.KernelIdeal.τ).loc Cert.KernelIdeal.main_arg0)))
      (Cert.KernelIdeal.Attn.tableTerm (m ((c.tc : Thread Cert.KernelIdeal.nD Cert.KernelIdeal.τ).loc Cert.KernelIdeal.main_arg1))),
    θ_run_mono (Cert.KernelIdeal.Value.run_blocks m g) fun r h c => ⟨(h c).1.trans ?_, (h c).2⟩,
    θ_run_mono (Cert.ReferenceIdeal.Attn.run m' g') fun r h c => ⟨(h c).1.trans ?_, (h c).2⟩⟩
  · rw [Cert.KernelIdeal.Attn.final_attn, Cert.KernelIdeal.Attn.V_proj, Cert.KernelIdeal.Attn.V_table]
  · haveI := Cert.Match.preFacts
    rw [(hagree c).1, (hagree c).2]
    exact (result_agrees _ _ (Cert.Match.proj_fin _ _ (hpre c).1) (Cert.Match.bias_fin _ _ (hpre c).2)).symm

/-- The experts' value claim. -/
theorem experts : algebraic_Kernel2Ideal_Reference2Ideal_pre_aligned (hKernel2Ideal := Cert.Kernel2Ideal.Gen.facts)
    (hReference2Ideal := Cert.Reference2Ideal.Gen.facts) (hPre_aligned := Cert.ExpertMath.alignedFacts) := by
  intro m g m' g' hpre hagree
  haveI := Cert.ExpertMath.alignedFacts
  refine ⟨fun c => Cert.Kernel2Ideal.Experts.G m c, Cert.Kernel2Ideal.Experts.run_target m g,
    θ_run_mono (Cert.Reference2Ideal.Experts.run_result m' g') fun r h c => ⟨(h c).1.trans ?_, (h c).2⟩⟩
  rw [(hagree c).1, (hagree c).2.1, (hagree c).2.2.1, (hagree c).2.2.2.1, (hagree c).2.2.2.2]
  exact Cert.Reference2Ideal.Experts.result_target _ (Cert.ExpertMath.ends_aligned _ _ _ _ _ (hpre c)) _ _ _ _

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Match.preFacts, Cert.ExpertMath.alignedFacts,
    fun m g _ => Cert.Kernel.Gen.frame m g, fun m g _ => Cert.KernelIdeal.Gen.frame m g, fun m g _ => Cert.KernelIdeal.Gen.frame m g,
    fun m g _ => reference_frame m g, fun m g _ => reference_frame m g,
    fun m g _ => Cert.Kernel2.Experts.arguments_kept m g (Cert.Kernel2.Experts.named m),
    fun m g _ => Cert.Kernel2Ideal.Experts.arguments_kept m g (Cert.Kernel2Ideal.Experts.named m),
    fun m g _ => Cert.Kernel2Ideal.Experts.arguments_kept m g (Cert.Kernel2Ideal.Experts.named m),
    fun m g _ => experts_reference_frame m g, fun m g _ => experts_reference_frame m g, trivial, attention, trivial, experts⟩

end Cert.Proof

end
